-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_GlaIn (m : (ℓ : Loc Cert.GlaIn.nD Cert.GlaIn.τ Cert.GlaIn.sig) → Buf (Elt Bits) ℓ) : Prop :=
  True

def Pre_GlaInIdeal (m : (ℓ : Loc Cert.GlaInIdeal.nD Cert.GlaInIdeal.τ Cert.GlaInIdeal.sig) → Buf (Elt Ideal) ℓ) : Prop :=
  True

def Pre_GlaInReferenceIdeal (m : (ℓ : Loc Cert.GlaInReferenceIdeal.nD Cert.GlaInReferenceIdeal.τ Cert.GlaInReferenceIdeal.sig) → Buf (Elt Ideal) ℓ) : Prop :=
  True

def Pre_Square (m : (ℓ : Loc Cert.Square.nD Cert.Square.τ Cert.Square.sig) → Buf (Elt Bits) ℓ) : Prop :=
  True

def Pre_SquareIdeal (m : (ℓ : Loc Cert.SquareIdeal.nD Cert.SquareIdeal.τ Cert.SquareIdeal.sig) → Buf (Elt Ideal) ℓ) : Prop :=
  True

def Pre_SquareReferenceIdeal (m : (ℓ : Loc Cert.SquareReferenceIdeal.nD Cert.SquareReferenceIdeal.τ Cert.SquareReferenceIdeal.sig) → Buf (Elt Ideal) ℓ) : Prop :=
  True

def Pre_RwkvK (m : (ℓ : Loc Cert.RwkvK.nD Cert.RwkvK.τ Cert.RwkvK.sig) → Buf (Elt Bits) ℓ) : Prop :=
  True

def Pre_RwkvKIdeal (m : (ℓ : Loc Cert.RwkvKIdeal.nD Cert.RwkvKIdeal.τ Cert.RwkvKIdeal.sig) → Buf (Elt Ideal) ℓ) : Prop :=
  True

def Pre_RwkvKReferenceIdeal (m : (ℓ : Loc Cert.RwkvKReferenceIdeal.nD Cert.RwkvKReferenceIdeal.τ Cert.RwkvKReferenceIdeal.sig) → Buf (Elt Ideal) ℓ) : Prop :=
  True

def Pre_MlaKv (m : (ℓ : Loc Cert.MlaKv.nD Cert.MlaKv.τ Cert.MlaKv.sig) → Buf (Elt Bits) ℓ) : Prop :=
  True

def Pre_MlaKvIdeal (m : (ℓ : Loc Cert.MlaKvIdeal.nD Cert.MlaKvIdeal.τ Cert.MlaKvIdeal.sig) → Buf (Elt Ideal) ℓ) : Prop :=
  True

def Pre_MlaKvReferenceIdeal (m : (ℓ : Loc Cert.MlaKvReferenceIdeal.nD Cert.MlaKvReferenceIdeal.τ Cert.MlaKvReferenceIdeal.sig) → Buf (Elt Ideal) ℓ) : Prop :=
  True

def Pre_PeerQ (m : (ℓ : Loc Cert.PeerQ.nD Cert.PeerQ.τ Cert.PeerQ.sig) → Buf (Elt Bits) ℓ) : Prop :=
  True

def Pre_PeerQIdeal (m : (ℓ : Loc Cert.PeerQIdeal.nD Cert.PeerQIdeal.τ Cert.PeerQIdeal.sig) → Buf (Elt Ideal) ℓ) : Prop :=
  True

def Pre_PeerQReferenceIdeal (m : (ℓ : Loc Cert.PeerQReferenceIdeal.nD Cert.PeerQReferenceIdeal.τ Cert.PeerQReferenceIdeal.sig) → Buf (Elt Ideal) ℓ) : Prop :=
  True

def Pre_MlaIn (m : (ℓ : Loc Cert.MlaIn.nD Cert.MlaIn.τ Cert.MlaIn.sig) → Buf (Elt Bits) ℓ) : Prop :=
  True

def Pre_MlaInIdeal (m : (ℓ : Loc Cert.MlaInIdeal.nD Cert.MlaInIdeal.τ Cert.MlaInIdeal.sig) → Buf (Elt Ideal) ℓ) : Prop :=
  True

def Pre_MlaInReferenceIdeal (m : (ℓ : Loc Cert.MlaInReferenceIdeal.nD Cert.MlaInReferenceIdeal.τ Cert.MlaInReferenceIdeal.sig) → Buf (Elt Ideal) ℓ) : Prop :=
  True

def Pre_MlaUq (m : (ℓ : Loc Cert.MlaUq.nD Cert.MlaUq.τ Cert.MlaUq.sig) → Buf (Elt Bits) ℓ) : Prop :=
  True

def Pre_MlaUqIdeal (m : (ℓ : Loc Cert.MlaUqIdeal.nD Cert.MlaUqIdeal.τ Cert.MlaUqIdeal.sig) → Buf (Elt Ideal) ℓ) : Prop :=
  True

def Pre_MlaUqReferenceIdeal (m : (ℓ : Loc Cert.MlaUqReferenceIdeal.nD Cert.MlaUqReferenceIdeal.τ Cert.MlaUqReferenceIdeal.sig) → Buf (Elt Ideal) ℓ) : Prop :=
  True

def Pre_RwkvLow (m : (ℓ : Loc Cert.RwkvLow.nD Cert.RwkvLow.τ Cert.RwkvLow.sig) → Buf (Elt Bits) ℓ) : Prop :=
  True

def Pre_RwkvLowIdeal (m : (ℓ : Loc Cert.RwkvLowIdeal.nD Cert.RwkvLowIdeal.τ Cert.RwkvLowIdeal.sig) → Buf (Elt Ideal) ℓ) : Prop :=
  True

def Pre_RwkvLowReferenceIdeal (m : (ℓ : Loc Cert.RwkvLowReferenceIdeal.nD Cert.RwkvLowReferenceIdeal.τ Cert.RwkvLowReferenceIdeal.sig) → Buf (Elt Ideal) ℓ) : Prop :=
  True

def Pre_GlaGate (m : (ℓ : Loc Cert.GlaGate.nD Cert.GlaGate.τ Cert.GlaGate.sig) → Buf (Elt Bits) ℓ) : Prop :=
  True

def Pre_GlaGateIdeal (m : (ℓ : Loc Cert.GlaGateIdeal.nD Cert.GlaGateIdeal.τ Cert.GlaGateIdeal.sig) → Buf (Elt Ideal) ℓ) : Prop :=
  True

def Pre_GlaGateReferenceIdeal (m : (ℓ : Loc Cert.GlaGateReferenceIdeal.nD Cert.GlaGateReferenceIdeal.τ Cert.GlaGateReferenceIdeal.sig) → Buf (Elt Ideal) ℓ) : Prop :=
  True

def Pre_NormMod (m : (ℓ : Loc Cert.NormMod.nD Cert.NormMod.τ Cert.NormMod.sig) → Buf (Elt Bits) ℓ) : Prop :=
  True

def Pre_NormModIdeal (m : (ℓ : Loc Cert.NormModIdeal.nD Cert.NormModIdeal.τ Cert.NormModIdeal.sig) → Buf (Elt Ideal) ℓ) : Prop :=
  True

def Pre_NormModReferenceIdeal (m : (ℓ : Loc Cert.NormModReferenceIdeal.nD Cert.NormModReferenceIdeal.τ Cert.NormModReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_GlaIn [hGlaIn : Cert.GlaIn.Facts] : Prop :=
  ∀ (m : (ℓ : Loc Cert.GlaIn.nD Cert.GlaIn.τ Cert.GlaIn.sig) → Buf (Elt Bits) ℓ) (g : Dev Cert.GlaIn.nD → PrngReg), Pre_GlaIn m →
    θ_run (Cert.GlaIn.defs (F := Bits)) (onTc (τ := Cert.GlaIn.τ) (Cert.GlaIn.main (F := Bits))) ⟨m, fun _ => 0, g⟩ (fun r => (∀ c : Dev Cert.GlaIn.nD,
      r.2.mem ((c.tc : Thread Cert.GlaIn.nD Cert.GlaIn.τ).loc Cert.GlaIn.main_arg0) = m ((c.tc : Thread Cert.GlaIn.nD Cert.GlaIn.τ).loc Cert.GlaIn.main_arg0)
      ∧ r.2.mem ((c.tc : Thread Cert.GlaIn.nD Cert.GlaIn.τ).loc Cert.GlaIn.main_arg1) = m ((c.tc : Thread Cert.GlaIn.nD Cert.GlaIn.τ).loc Cert.GlaIn.main_arg1))
      ∧ r.2.sem = fun _ => 0)

def quiescent_GlaInIdeal [hGlaInIdeal : Cert.GlaInIdeal.Facts] : Prop :=
  ∀ (m : (ℓ : Loc Cert.GlaInIdeal.nD Cert.GlaInIdeal.τ Cert.GlaInIdeal.sig) → Buf (Elt Ideal) ℓ) (g : Dev Cert.GlaInIdeal.nD → PrngReg), Pre_GlaInIdeal m →
    θ_run (Cert.GlaInIdeal.defs (F := Ideal)) (onTc (τ := Cert.GlaInIdeal.τ) (Cert.GlaInIdeal.main (F := Ideal))) ⟨m, fun _ => 0, g⟩ (fun r => (∀ c : Dev Cert.GlaInIdeal.nD,
      r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
      ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1))
      ∧ r.2.sem = fun _ => 0)

def quiescent_GlaInReferenceIdeal [hGlaInReferenceIdeal : Cert.GlaInReferenceIdeal.Facts] : Prop :=
  ∀ (m : (ℓ : Loc Cert.GlaInReferenceIdeal.nD Cert.GlaInReferenceIdeal.τ Cert.GlaInReferenceIdeal.sig) → Buf (Elt Ideal) ℓ) (g : Dev Cert.GlaInReferenceIdeal.nD → PrngReg), Pre_GlaInReferenceIdeal m →
    θ_run (Cert.GlaInReferenceIdeal.defs (F := Ideal)) (onTc (τ := Cert.GlaInReferenceIdeal.τ) (Cert.GlaInReferenceIdeal.main (F := Ideal))) ⟨m, fun _ => 0, g⟩ (fun r => (∀ c : Dev Cert.GlaInReferenceIdeal.nD,
      r.2.mem ((c.tc : Thread Cert.GlaInReferenceIdeal.nD Cert.GlaInReferenceIdeal.τ).loc Cert.GlaInReferenceIdeal.main_arg0) = m ((c.tc : Thread Cert.GlaInReferenceIdeal.nD Cert.GlaInReferenceIdeal.τ).loc Cert.GlaInReferenceIdeal.main_arg0)
      ∧ r.2.mem ((c.tc : Thread Cert.GlaInReferenceIdeal.nD Cert.GlaInReferenceIdeal.τ).loc Cert.GlaInReferenceIdeal.main_arg1) = m ((c.tc : Thread Cert.GlaInReferenceIdeal.nD Cert.GlaInReferenceIdeal.τ).loc Cert.GlaInReferenceIdeal.main_arg1))
      ∧ r.2.sem = fun _ => 0)

def quiescent_Square [hSquare : Cert.Square.Facts] : Prop :=
  ∀ (m : (ℓ : Loc Cert.Square.nD Cert.Square.τ Cert.Square.sig) → Buf (Elt Bits) ℓ) (g : Dev Cert.Square.nD → PrngReg), Pre_Square m →
    θ_run (Cert.Square.defs (F := Bits)) (onTc (τ := Cert.Square.τ) (Cert.Square.main (F := Bits))) ⟨m, fun _ => 0, g⟩ (fun r => (∀ c : Dev Cert.Square.nD,
      r.2.mem ((c.tc : Thread Cert.Square.nD Cert.Square.τ).loc Cert.Square.main_arg0) = m ((c.tc : Thread Cert.Square.nD Cert.Square.τ).loc Cert.Square.main_arg0)
      ∧ r.2.mem ((c.tc : Thread Cert.Square.nD Cert.Square.τ).loc Cert.Square.main_arg1) = m ((c.tc : Thread Cert.Square.nD Cert.Square.τ).loc Cert.Square.main_arg1))
      ∧ r.2.sem = fun _ => 0)

def quiescent_SquareIdeal [hSquareIdeal : Cert.SquareIdeal.Facts] : Prop :=
  ∀ (m : (ℓ : Loc Cert.SquareIdeal.nD Cert.SquareIdeal.τ Cert.SquareIdeal.sig) → Buf (Elt Ideal) ℓ) (g : Dev Cert.SquareIdeal.nD → PrngReg), Pre_SquareIdeal m →
    θ_run (Cert.SquareIdeal.defs (F := Ideal)) (onTc (τ := Cert.SquareIdeal.τ) (Cert.SquareIdeal.main (F := Ideal))) ⟨m, fun _ => 0, g⟩ (fun r => (∀ c : Dev Cert.SquareIdeal.nD,
      r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
      ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1))
      ∧ r.2.sem = fun _ => 0)

def quiescent_SquareReferenceIdeal [hSquareReferenceIdeal : Cert.SquareReferenceIdeal.Facts] : Prop :=
  ∀ (m : (ℓ : Loc Cert.SquareReferenceIdeal.nD Cert.SquareReferenceIdeal.τ Cert.SquareReferenceIdeal.sig) → Buf (Elt Ideal) ℓ) (g : Dev Cert.SquareReferenceIdeal.nD → PrngReg), Pre_SquareReferenceIdeal m →
    θ_run (Cert.SquareReferenceIdeal.defs (F := Ideal)) (onTc (τ := Cert.SquareReferenceIdeal.τ) (Cert.SquareReferenceIdeal.main (F := Ideal))) ⟨m, fun _ => 0, g⟩ (fun r => (∀ c : Dev Cert.SquareReferenceIdeal.nD,
      r.2.mem ((c.tc : Thread Cert.SquareReferenceIdeal.nD Cert.SquareReferenceIdeal.τ).loc Cert.SquareReferenceIdeal.main_arg0) = m ((c.tc : Thread Cert.SquareReferenceIdeal.nD Cert.SquareReferenceIdeal.τ).loc Cert.SquareReferenceIdeal.main_arg0)
      ∧ r.2.mem ((c.tc : Thread Cert.SquareReferenceIdeal.nD Cert.SquareReferenceIdeal.τ).loc Cert.SquareReferenceIdeal.main_arg1) = m ((c.tc : Thread Cert.SquareReferenceIdeal.nD Cert.SquareReferenceIdeal.τ).loc Cert.SquareReferenceIdeal.main_arg1))
      ∧ r.2.sem = fun _ => 0)

def quiescent_RwkvK [hRwkvK : Cert.RwkvK.Facts] : Prop :=
  ∀ (m : (ℓ : Loc Cert.RwkvK.nD Cert.RwkvK.τ Cert.RwkvK.sig) → Buf (Elt Bits) ℓ) (g : Dev Cert.RwkvK.nD → PrngReg), Pre_RwkvK m →
    θ_run (Cert.RwkvK.defs (F := Bits)) (onTc (τ := Cert.RwkvK.τ) (Cert.RwkvK.main (F := Bits))) ⟨m, fun _ => 0, g⟩ (fun r => (∀ c : Dev Cert.RwkvK.nD,
      r.2.mem ((c.tc : Thread Cert.RwkvK.nD Cert.RwkvK.τ).loc Cert.RwkvK.main_arg0) = m ((c.tc : Thread Cert.RwkvK.nD Cert.RwkvK.τ).loc Cert.RwkvK.main_arg0)
      ∧ r.2.mem ((c.tc : Thread Cert.RwkvK.nD Cert.RwkvK.τ).loc Cert.RwkvK.main_arg1) = m ((c.tc : Thread Cert.RwkvK.nD Cert.RwkvK.τ).loc Cert.RwkvK.main_arg1))
      ∧ r.2.sem = fun _ => 0)

def quiescent_RwkvKIdeal [hRwkvKIdeal : Cert.RwkvKIdeal.Facts] : Prop :=
  ∀ (m : (ℓ : Loc Cert.RwkvKIdeal.nD Cert.RwkvKIdeal.τ Cert.RwkvKIdeal.sig) → Buf (Elt Ideal) ℓ) (g : Dev Cert.RwkvKIdeal.nD → PrngReg), Pre_RwkvKIdeal m →
    θ_run (Cert.RwkvKIdeal.defs (F := Ideal)) (onTc (τ := Cert.RwkvKIdeal.τ) (Cert.RwkvKIdeal.main (F := Ideal))) ⟨m, fun _ => 0, g⟩ (fun r => (∀ c : Dev Cert.RwkvKIdeal.nD,
      r.2.mem ((c.tc : Thread Cert.RwkvKIdeal.nD Cert.RwkvKIdeal.τ).loc Cert.RwkvKIdeal.main_arg0) = m ((c.tc : Thread Cert.RwkvKIdeal.nD Cert.RwkvKIdeal.τ).loc Cert.RwkvKIdeal.main_arg0)
      ∧ r.2.mem ((c.tc : Thread Cert.RwkvKIdeal.nD Cert.RwkvKIdeal.τ).loc Cert.RwkvKIdeal.main_arg1) = m ((c.tc : Thread Cert.RwkvKIdeal.nD Cert.RwkvKIdeal.τ).loc Cert.RwkvKIdeal.main_arg1))
      ∧ r.2.sem = fun _ => 0)

def quiescent_RwkvKReferenceIdeal [hRwkvKReferenceIdeal : Cert.RwkvKReferenceIdeal.Facts] : Prop :=
  ∀ (m : (ℓ : Loc Cert.RwkvKReferenceIdeal.nD Cert.RwkvKReferenceIdeal.τ Cert.RwkvKReferenceIdeal.sig) → Buf (Elt Ideal) ℓ) (g : Dev Cert.RwkvKReferenceIdeal.nD → PrngReg), Pre_RwkvKReferenceIdeal m →
    θ_run (Cert.RwkvKReferenceIdeal.defs (F := Ideal)) (onTc (τ := Cert.RwkvKReferenceIdeal.τ) (Cert.RwkvKReferenceIdeal.main (F := Ideal))) ⟨m, fun _ => 0, g⟩ (fun r => (∀ c : Dev Cert.RwkvKReferenceIdeal.nD,
      r.2.mem ((c.tc : Thread Cert.RwkvKReferenceIdeal.nD Cert.RwkvKReferenceIdeal.τ).loc Cert.RwkvKReferenceIdeal.main_arg0) = m ((c.tc : Thread Cert.RwkvKReferenceIdeal.nD Cert.RwkvKReferenceIdeal.τ).loc Cert.RwkvKReferenceIdeal.main_arg0)
      ∧ r.2.mem ((c.tc : Thread Cert.RwkvKReferenceIdeal.nD Cert.RwkvKReferenceIdeal.τ).loc Cert.RwkvKReferenceIdeal.main_arg1) = m ((c.tc : Thread Cert.RwkvKReferenceIdeal.nD Cert.RwkvKReferenceIdeal.τ).loc Cert.RwkvKReferenceIdeal.main_arg1))
      ∧ r.2.sem = fun _ => 0)

def quiescent_MlaKv [hMlaKv : Cert.MlaKv.Facts] : Prop :=
  ∀ (m : (ℓ : Loc Cert.MlaKv.nD Cert.MlaKv.τ Cert.MlaKv.sig) → Buf (Elt Bits) ℓ) (g : Dev Cert.MlaKv.nD → PrngReg), Pre_MlaKv m →
    θ_run (Cert.MlaKv.defs (F := Bits)) (onTc (τ := Cert.MlaKv.τ) (Cert.MlaKv.main (F := Bits))) ⟨m, fun _ => 0, g⟩ (fun r => (∀ c : Dev Cert.MlaKv.nD,
      r.2.mem ((c.tc : Thread Cert.MlaKv.nD Cert.MlaKv.τ).loc Cert.MlaKv.main_arg0) = m ((c.tc : Thread Cert.MlaKv.nD Cert.MlaKv.τ).loc Cert.MlaKv.main_arg0)
      ∧ r.2.mem ((c.tc : Thread Cert.MlaKv.nD Cert.MlaKv.τ).loc Cert.MlaKv.main_arg1) = m ((c.tc : Thread Cert.MlaKv.nD Cert.MlaKv.τ).loc Cert.MlaKv.main_arg1))
      ∧ r.2.sem = fun _ => 0)

def quiescent_MlaKvIdeal [hMlaKvIdeal : Cert.MlaKvIdeal.Facts] : Prop :=
  ∀ (m : (ℓ : Loc Cert.MlaKvIdeal.nD Cert.MlaKvIdeal.τ Cert.MlaKvIdeal.sig) → Buf (Elt Ideal) ℓ) (g : Dev Cert.MlaKvIdeal.nD → PrngReg), Pre_MlaKvIdeal m →
    θ_run (Cert.MlaKvIdeal.defs (F := Ideal)) (onTc (τ := Cert.MlaKvIdeal.τ) (Cert.MlaKvIdeal.main (F := Ideal))) ⟨m, fun _ => 0, g⟩ (fun r => (∀ c : Dev Cert.MlaKvIdeal.nD,
      r.2.mem ((c.tc : Thread Cert.MlaKvIdeal.nD Cert.MlaKvIdeal.τ).loc Cert.MlaKvIdeal.main_arg0) = m ((c.tc : Thread Cert.MlaKvIdeal.nD Cert.MlaKvIdeal.τ).loc Cert.MlaKvIdeal.main_arg0)
      ∧ r.2.mem ((c.tc : Thread Cert.MlaKvIdeal.nD Cert.MlaKvIdeal.τ).loc Cert.MlaKvIdeal.main_arg1) = m ((c.tc : Thread Cert.MlaKvIdeal.nD Cert.MlaKvIdeal.τ).loc Cert.MlaKvIdeal.main_arg1))
      ∧ r.2.sem = fun _ => 0)

def quiescent_MlaKvReferenceIdeal [hMlaKvReferenceIdeal : Cert.MlaKvReferenceIdeal.Facts] : Prop :=
  ∀ (m : (ℓ : Loc Cert.MlaKvReferenceIdeal.nD Cert.MlaKvReferenceIdeal.τ Cert.MlaKvReferenceIdeal.sig) → Buf (Elt Ideal) ℓ) (g : Dev Cert.MlaKvReferenceIdeal.nD → PrngReg), Pre_MlaKvReferenceIdeal m →
    θ_run (Cert.MlaKvReferenceIdeal.defs (F := Ideal)) (onTc (τ := Cert.MlaKvReferenceIdeal.τ) (Cert.MlaKvReferenceIdeal.main (F := Ideal))) ⟨m, fun _ => 0, g⟩ (fun r => (∀ c : Dev Cert.MlaKvReferenceIdeal.nD,
      r.2.mem ((c.tc : Thread Cert.MlaKvReferenceIdeal.nD Cert.MlaKvReferenceIdeal.τ).loc Cert.MlaKvReferenceIdeal.main_arg0) = m ((c.tc : Thread Cert.MlaKvReferenceIdeal.nD Cert.MlaKvReferenceIdeal.τ).loc Cert.MlaKvReferenceIdeal.main_arg0)
      ∧ r.2.mem ((c.tc : Thread Cert.MlaKvReferenceIdeal.nD Cert.MlaKvReferenceIdeal.τ).loc Cert.MlaKvReferenceIdeal.main_arg1) = m ((c.tc : Thread Cert.MlaKvReferenceIdeal.nD Cert.MlaKvReferenceIdeal.τ).loc Cert.MlaKvReferenceIdeal.main_arg1))
      ∧ r.2.sem = fun _ => 0)

def quiescent_PeerQ [hPeerQ : Cert.PeerQ.Facts] : Prop :=
  ∀ (m : (ℓ : Loc Cert.PeerQ.nD Cert.PeerQ.τ Cert.PeerQ.sig) → Buf (Elt Bits) ℓ) (g : Dev Cert.PeerQ.nD → PrngReg), Pre_PeerQ m →
    θ_run (Cert.PeerQ.defs (F := Bits)) (onTc (τ := Cert.PeerQ.τ) (Cert.PeerQ.main (F := Bits))) ⟨m, fun _ => 0, g⟩ (fun r => (∀ c : Dev Cert.PeerQ.nD,
      r.2.mem ((c.tc : Thread Cert.PeerQ.nD Cert.PeerQ.τ).loc Cert.PeerQ.main_arg0) = m ((c.tc : Thread Cert.PeerQ.nD Cert.PeerQ.τ).loc Cert.PeerQ.main_arg0)
      ∧ r.2.mem ((c.tc : Thread Cert.PeerQ.nD Cert.PeerQ.τ).loc Cert.PeerQ.main_arg1) = m ((c.tc : Thread Cert.PeerQ.nD Cert.PeerQ.τ).loc Cert.PeerQ.main_arg1))
      ∧ r.2.sem = fun _ => 0)

def quiescent_PeerQIdeal [hPeerQIdeal : Cert.PeerQIdeal.Facts] : Prop :=
  ∀ (m : (ℓ : Loc Cert.PeerQIdeal.nD Cert.PeerQIdeal.τ Cert.PeerQIdeal.sig) → Buf (Elt Ideal) ℓ) (g : Dev Cert.PeerQIdeal.nD → PrngReg), Pre_PeerQIdeal m →
    θ_run (Cert.PeerQIdeal.defs (F := Ideal)) (onTc (τ := Cert.PeerQIdeal.τ) (Cert.PeerQIdeal.main (F := Ideal))) ⟨m, fun _ => 0, g⟩ (fun r => (∀ c : Dev Cert.PeerQIdeal.nD,
      r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
      ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1))
      ∧ r.2.sem = fun _ => 0)

def quiescent_PeerQReferenceIdeal [hPeerQReferenceIdeal : Cert.PeerQReferenceIdeal.Facts] : Prop :=
  ∀ (m : (ℓ : Loc Cert.PeerQReferenceIdeal.nD Cert.PeerQReferenceIdeal.τ Cert.PeerQReferenceIdeal.sig) → Buf (Elt Ideal) ℓ) (g : Dev Cert.PeerQReferenceIdeal.nD → PrngReg), Pre_PeerQReferenceIdeal m →
    θ_run (Cert.PeerQReferenceIdeal.defs (F := Ideal)) (onTc (τ := Cert.PeerQReferenceIdeal.τ) (Cert.PeerQReferenceIdeal.main (F := Ideal))) ⟨m, fun _ => 0, g⟩ (fun r => (∀ c : Dev Cert.PeerQReferenceIdeal.nD,
      r.2.mem ((c.tc : Thread Cert.PeerQReferenceIdeal.nD Cert.PeerQReferenceIdeal.τ).loc Cert.PeerQReferenceIdeal.main_arg0) = m ((c.tc : Thread Cert.PeerQReferenceIdeal.nD Cert.PeerQReferenceIdeal.τ).loc Cert.PeerQReferenceIdeal.main_arg0)
      ∧ r.2.mem ((c.tc : Thread Cert.PeerQReferenceIdeal.nD Cert.PeerQReferenceIdeal.τ).loc Cert.PeerQReferenceIdeal.main_arg1) = m ((c.tc : Thread Cert.PeerQReferenceIdeal.nD Cert.PeerQReferenceIdeal.τ).loc Cert.PeerQReferenceIdeal.main_arg1))
      ∧ r.2.sem = fun _ => 0)

def quiescent_MlaIn [hMlaIn : Cert.MlaIn.Facts] : Prop :=
  ∀ (m : (ℓ : Loc Cert.MlaIn.nD Cert.MlaIn.τ Cert.MlaIn.sig) → Buf (Elt Bits) ℓ) (g : Dev Cert.MlaIn.nD → PrngReg), Pre_MlaIn m →
    θ_run (Cert.MlaIn.defs (F := Bits)) (onTc (τ := Cert.MlaIn.τ) (Cert.MlaIn.main (F := Bits))) ⟨m, fun _ => 0, g⟩ (fun r => (∀ c : Dev Cert.MlaIn.nD,
      r.2.mem ((c.tc : Thread Cert.MlaIn.nD Cert.MlaIn.τ).loc Cert.MlaIn.main_arg0) = m ((c.tc : Thread Cert.MlaIn.nD Cert.MlaIn.τ).loc Cert.MlaIn.main_arg0)
      ∧ r.2.mem ((c.tc : Thread Cert.MlaIn.nD Cert.MlaIn.τ).loc Cert.MlaIn.main_arg1) = m ((c.tc : Thread Cert.MlaIn.nD Cert.MlaIn.τ).loc Cert.MlaIn.main_arg1))
      ∧ r.2.sem = fun _ => 0)

def quiescent_MlaInIdeal [hMlaInIdeal : Cert.MlaInIdeal.Facts] : Prop :=
  ∀ (m : (ℓ : Loc Cert.MlaInIdeal.nD Cert.MlaInIdeal.τ Cert.MlaInIdeal.sig) → Buf (Elt Ideal) ℓ) (g : Dev Cert.MlaInIdeal.nD → PrngReg), Pre_MlaInIdeal m →
    θ_run (Cert.MlaInIdeal.defs (F := Ideal)) (onTc (τ := Cert.MlaInIdeal.τ) (Cert.MlaInIdeal.main (F := Ideal))) ⟨m, fun _ => 0, g⟩ (fun r => (∀ c : Dev Cert.MlaInIdeal.nD,
      r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
      ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1))
      ∧ r.2.sem = fun _ => 0)

def quiescent_MlaInReferenceIdeal [hMlaInReferenceIdeal : Cert.MlaInReferenceIdeal.Facts] : Prop :=
  ∀ (m : (ℓ : Loc Cert.MlaInReferenceIdeal.nD Cert.MlaInReferenceIdeal.τ Cert.MlaInReferenceIdeal.sig) → Buf (Elt Ideal) ℓ) (g : Dev Cert.MlaInReferenceIdeal.nD → PrngReg), Pre_MlaInReferenceIdeal m →
    θ_run (Cert.MlaInReferenceIdeal.defs (F := Ideal)) (onTc (τ := Cert.MlaInReferenceIdeal.τ) (Cert.MlaInReferenceIdeal.main (F := Ideal))) ⟨m, fun _ => 0, g⟩ (fun r => (∀ c : Dev Cert.MlaInReferenceIdeal.nD,
      r.2.mem ((c.tc : Thread Cert.MlaInReferenceIdeal.nD Cert.MlaInReferenceIdeal.τ).loc Cert.MlaInReferenceIdeal.main_arg0) = m ((c.tc : Thread Cert.MlaInReferenceIdeal.nD Cert.MlaInReferenceIdeal.τ).loc Cert.MlaInReferenceIdeal.main_arg0)
      ∧ r.2.mem ((c.tc : Thread Cert.MlaInReferenceIdeal.nD Cert.MlaInReferenceIdeal.τ).loc Cert.MlaInReferenceIdeal.main_arg1) = m ((c.tc : Thread Cert.MlaInReferenceIdeal.nD Cert.MlaInReferenceIdeal.τ).loc Cert.MlaInReferenceIdeal.main_arg1))
      ∧ r.2.sem = fun _ => 0)

def quiescent_MlaUq [hMlaUq : Cert.MlaUq.Facts] : Prop :=
  ∀ (m : (ℓ : Loc Cert.MlaUq.nD Cert.MlaUq.τ Cert.MlaUq.sig) → Buf (Elt Bits) ℓ) (g : Dev Cert.MlaUq.nD → PrngReg), Pre_MlaUq m →
    θ_run (Cert.MlaUq.defs (F := Bits)) (onTc (τ := Cert.MlaUq.τ) (Cert.MlaUq.main (F := Bits))) ⟨m, fun _ => 0, g⟩ (fun r => (∀ c : Dev Cert.MlaUq.nD,
      r.2.mem ((c.tc : Thread Cert.MlaUq.nD Cert.MlaUq.τ).loc Cert.MlaUq.main_arg0) = m ((c.tc : Thread Cert.MlaUq.nD Cert.MlaUq.τ).loc Cert.MlaUq.main_arg0)
      ∧ r.2.mem ((c.tc : Thread Cert.MlaUq.nD Cert.MlaUq.τ).loc Cert.MlaUq.main_arg1) = m ((c.tc : Thread Cert.MlaUq.nD Cert.MlaUq.τ).loc Cert.MlaUq.main_arg1))
      ∧ r.2.sem = fun _ => 0)

def quiescent_MlaUqIdeal [hMlaUqIdeal : Cert.MlaUqIdeal.Facts] : Prop :=
  ∀ (m : (ℓ : Loc Cert.MlaUqIdeal.nD Cert.MlaUqIdeal.τ Cert.MlaUqIdeal.sig) → Buf (Elt Ideal) ℓ) (g : Dev Cert.MlaUqIdeal.nD → PrngReg), Pre_MlaUqIdeal m →
    θ_run (Cert.MlaUqIdeal.defs (F := Ideal)) (onTc (τ := Cert.MlaUqIdeal.τ) (Cert.MlaUqIdeal.main (F := Ideal))) ⟨m, fun _ => 0, g⟩ (fun r => (∀ c : Dev Cert.MlaUqIdeal.nD,
      r.2.mem ((c.tc : Thread Cert.MlaUqIdeal.nD Cert.MlaUqIdeal.τ).loc Cert.MlaUqIdeal.main_arg0) = m ((c.tc : Thread Cert.MlaUqIdeal.nD Cert.MlaUqIdeal.τ).loc Cert.MlaUqIdeal.main_arg0)
      ∧ r.2.mem ((c.tc : Thread Cert.MlaUqIdeal.nD Cert.MlaUqIdeal.τ).loc Cert.MlaUqIdeal.main_arg1) = m ((c.tc : Thread Cert.MlaUqIdeal.nD Cert.MlaUqIdeal.τ).loc Cert.MlaUqIdeal.main_arg1))
      ∧ r.2.sem = fun _ => 0)

def quiescent_MlaUqReferenceIdeal [hMlaUqReferenceIdeal : Cert.MlaUqReferenceIdeal.Facts] : Prop :=
  ∀ (m : (ℓ : Loc Cert.MlaUqReferenceIdeal.nD Cert.MlaUqReferenceIdeal.τ Cert.MlaUqReferenceIdeal.sig) → Buf (Elt Ideal) ℓ) (g : Dev Cert.MlaUqReferenceIdeal.nD → PrngReg), Pre_MlaUqReferenceIdeal m →
    θ_run (Cert.MlaUqReferenceIdeal.defs (F := Ideal)) (onTc (τ := Cert.MlaUqReferenceIdeal.τ) (Cert.MlaUqReferenceIdeal.main (F := Ideal))) ⟨m, fun _ => 0, g⟩ (fun r => (∀ c : Dev Cert.MlaUqReferenceIdeal.nD,
      r.2.mem ((c.tc : Thread Cert.MlaUqReferenceIdeal.nD Cert.MlaUqReferenceIdeal.τ).loc Cert.MlaUqReferenceIdeal.main_arg0) = m ((c.tc : Thread Cert.MlaUqReferenceIdeal.nD Cert.MlaUqReferenceIdeal.τ).loc Cert.MlaUqReferenceIdeal.main_arg0)
      ∧ r.2.mem ((c.tc : Thread Cert.MlaUqReferenceIdeal.nD Cert.MlaUqReferenceIdeal.τ).loc Cert.MlaUqReferenceIdeal.main_arg1) = m ((c.tc : Thread Cert.MlaUqReferenceIdeal.nD Cert.MlaUqReferenceIdeal.τ).loc Cert.MlaUqReferenceIdeal.main_arg1))
      ∧ r.2.sem = fun _ => 0)

def quiescent_RwkvLow [hRwkvLow : Cert.RwkvLow.Facts] : Prop :=
  ∀ (m : (ℓ : Loc Cert.RwkvLow.nD Cert.RwkvLow.τ Cert.RwkvLow.sig) → Buf (Elt Bits) ℓ) (g : Dev Cert.RwkvLow.nD → PrngReg), Pre_RwkvLow m →
    θ_run (Cert.RwkvLow.defs (F := Bits)) (onTc (τ := Cert.RwkvLow.τ) (Cert.RwkvLow.main (F := Bits))) ⟨m, fun _ => 0, g⟩ (fun r => (∀ c : Dev Cert.RwkvLow.nD,
      r.2.mem ((c.tc : Thread Cert.RwkvLow.nD Cert.RwkvLow.τ).loc Cert.RwkvLow.main_arg0) = m ((c.tc : Thread Cert.RwkvLow.nD Cert.RwkvLow.τ).loc Cert.RwkvLow.main_arg0)
      ∧ r.2.mem ((c.tc : Thread Cert.RwkvLow.nD Cert.RwkvLow.τ).loc Cert.RwkvLow.main_arg1) = m ((c.tc : Thread Cert.RwkvLow.nD Cert.RwkvLow.τ).loc Cert.RwkvLow.main_arg1))
      ∧ r.2.sem = fun _ => 0)

def quiescent_RwkvLowIdeal [hRwkvLowIdeal : Cert.RwkvLowIdeal.Facts] : Prop :=
  ∀ (m : (ℓ : Loc Cert.RwkvLowIdeal.nD Cert.RwkvLowIdeal.τ Cert.RwkvLowIdeal.sig) → Buf (Elt Ideal) ℓ) (g : Dev Cert.RwkvLowIdeal.nD → PrngReg), Pre_RwkvLowIdeal m →
    θ_run (Cert.RwkvLowIdeal.defs (F := Ideal)) (onTc (τ := Cert.RwkvLowIdeal.τ) (Cert.RwkvLowIdeal.main (F := Ideal))) ⟨m, fun _ => 0, g⟩ (fun r => (∀ c : Dev Cert.RwkvLowIdeal.nD,
      r.2.mem ((c.tc : Thread Cert.RwkvLowIdeal.nD Cert.RwkvLowIdeal.τ).loc Cert.RwkvLowIdeal.main_arg0) = m ((c.tc : Thread Cert.RwkvLowIdeal.nD Cert.RwkvLowIdeal.τ).loc Cert.RwkvLowIdeal.main_arg0)
      ∧ r.2.mem ((c.tc : Thread Cert.RwkvLowIdeal.nD Cert.RwkvLowIdeal.τ).loc Cert.RwkvLowIdeal.main_arg1) = m ((c.tc : Thread Cert.RwkvLowIdeal.nD Cert.RwkvLowIdeal.τ).loc Cert.RwkvLowIdeal.main_arg1))
      ∧ r.2.sem = fun _ => 0)

def quiescent_RwkvLowReferenceIdeal [hRwkvLowReferenceIdeal : Cert.RwkvLowReferenceIdeal.Facts] : Prop :=
  ∀ (m : (ℓ : Loc Cert.RwkvLowReferenceIdeal.nD Cert.RwkvLowReferenceIdeal.τ Cert.RwkvLowReferenceIdeal.sig) → Buf (Elt Ideal) ℓ) (g : Dev Cert.RwkvLowReferenceIdeal.nD → PrngReg), Pre_RwkvLowReferenceIdeal m →
    θ_run (Cert.RwkvLowReferenceIdeal.defs (F := Ideal)) (onTc (τ := Cert.RwkvLowReferenceIdeal.τ) (Cert.RwkvLowReferenceIdeal.main (F := Ideal))) ⟨m, fun _ => 0, g⟩ (fun r => (∀ c : Dev Cert.RwkvLowReferenceIdeal.nD,
      r.2.mem ((c.tc : Thread Cert.RwkvLowReferenceIdeal.nD Cert.RwkvLowReferenceIdeal.τ).loc Cert.RwkvLowReferenceIdeal.main_arg0) = m ((c.tc : Thread Cert.RwkvLowReferenceIdeal.nD Cert.RwkvLowReferenceIdeal.τ).loc Cert.RwkvLowReferenceIdeal.main_arg0)
      ∧ r.2.mem ((c.tc : Thread Cert.RwkvLowReferenceIdeal.nD Cert.RwkvLowReferenceIdeal.τ).loc Cert.RwkvLowReferenceIdeal.main_arg1) = m ((c.tc : Thread Cert.RwkvLowReferenceIdeal.nD Cert.RwkvLowReferenceIdeal.τ).loc Cert.RwkvLowReferenceIdeal.main_arg1))
      ∧ r.2.sem = fun _ => 0)

def quiescent_GlaGate [hGlaGate : Cert.GlaGate.Facts] : Prop :=
  ∀ (m : (ℓ : Loc Cert.GlaGate.nD Cert.GlaGate.τ Cert.GlaGate.sig) → Buf (Elt Bits) ℓ) (g : Dev Cert.GlaGate.nD → PrngReg), Pre_GlaGate m →
    θ_run (Cert.GlaGate.defs (F := Bits)) (onTc (τ := Cert.GlaGate.τ) (Cert.GlaGate.main (F := Bits))) ⟨m, fun _ => 0, g⟩ (fun r => (∀ c : Dev Cert.GlaGate.nD,
      r.2.mem ((c.tc : Thread Cert.GlaGate.nD Cert.GlaGate.τ).loc Cert.GlaGate.main_arg0) = m ((c.tc : Thread Cert.GlaGate.nD Cert.GlaGate.τ).loc Cert.GlaGate.main_arg0)
      ∧ r.2.mem ((c.tc : Thread Cert.GlaGate.nD Cert.GlaGate.τ).loc Cert.GlaGate.main_arg1) = m ((c.tc : Thread Cert.GlaGate.nD Cert.GlaGate.τ).loc Cert.GlaGate.main_arg1)
      ∧ r.2.mem ((c.tc : Thread Cert.GlaGate.nD Cert.GlaGate.τ).loc Cert.GlaGate.main_arg2) = m ((c.tc : Thread Cert.GlaGate.nD Cert.GlaGate.τ).loc Cert.GlaGate.main_arg2)
      ∧ r.2.mem ((c.tc : Thread Cert.GlaGate.nD Cert.GlaGate.τ).loc Cert.GlaGate.main_arg3) = m ((c.tc : Thread Cert.GlaGate.nD Cert.GlaGate.τ).loc Cert.GlaGate.main_arg3))
      ∧ r.2.sem = fun _ => 0)

def quiescent_GlaGateIdeal [hGlaGateIdeal : Cert.GlaGateIdeal.Facts] : Prop :=
  ∀ (m : (ℓ : Loc Cert.GlaGateIdeal.nD Cert.GlaGateIdeal.τ Cert.GlaGateIdeal.sig) → Buf (Elt Ideal) ℓ) (g : Dev Cert.GlaGateIdeal.nD → PrngReg), Pre_GlaGateIdeal m →
    θ_run (Cert.GlaGateIdeal.defs (F := Ideal)) (onTc (τ := Cert.GlaGateIdeal.τ) (Cert.GlaGateIdeal.main (F := Ideal))) ⟨m, fun _ => 0, g⟩ (fun r => (∀ c : Dev Cert.GlaGateIdeal.nD,
      r.2.mem ((c.tc : Thread Cert.GlaGateIdeal.nD Cert.GlaGateIdeal.τ).loc Cert.GlaGateIdeal.main_arg0) = m ((c.tc : Thread Cert.GlaGateIdeal.nD Cert.GlaGateIdeal.τ).loc Cert.GlaGateIdeal.main_arg0)
      ∧ r.2.mem ((c.tc : Thread Cert.GlaGateIdeal.nD Cert.GlaGateIdeal.τ).loc Cert.GlaGateIdeal.main_arg1) = m ((c.tc : Thread Cert.GlaGateIdeal.nD Cert.GlaGateIdeal.τ).loc Cert.GlaGateIdeal.main_arg1)
      ∧ r.2.mem ((c.tc : Thread Cert.GlaGateIdeal.nD Cert.GlaGateIdeal.τ).loc Cert.GlaGateIdeal.main_arg2) = m ((c.tc : Thread Cert.GlaGateIdeal.nD Cert.GlaGateIdeal.τ).loc Cert.GlaGateIdeal.main_arg2)
      ∧ r.2.mem ((c.tc : Thread Cert.GlaGateIdeal.nD Cert.GlaGateIdeal.τ).loc Cert.GlaGateIdeal.main_arg3) = m ((c.tc : Thread Cert.GlaGateIdeal.nD Cert.GlaGateIdeal.τ).loc Cert.GlaGateIdeal.main_arg3))
      ∧ r.2.sem = fun _ => 0)

def quiescent_GlaGateReferenceIdeal [hGlaGateReferenceIdeal : Cert.GlaGateReferenceIdeal.Facts] : Prop :=
  ∀ (m : (ℓ : Loc Cert.GlaGateReferenceIdeal.nD Cert.GlaGateReferenceIdeal.τ Cert.GlaGateReferenceIdeal.sig) → Buf (Elt Ideal) ℓ) (g : Dev Cert.GlaGateReferenceIdeal.nD → PrngReg), Pre_GlaGateReferenceIdeal m →
    θ_run (Cert.GlaGateReferenceIdeal.defs (F := Ideal)) (onTc (τ := Cert.GlaGateReferenceIdeal.τ) (Cert.GlaGateReferenceIdeal.main (F := Ideal))) ⟨m, fun _ => 0, g⟩ (fun r => (∀ c : Dev Cert.GlaGateReferenceIdeal.nD,
      r.2.mem ((c.tc : Thread Cert.GlaGateReferenceIdeal.nD Cert.GlaGateReferenceIdeal.τ).loc Cert.GlaGateReferenceIdeal.main_arg0) = m ((c.tc : Thread Cert.GlaGateReferenceIdeal.nD Cert.GlaGateReferenceIdeal.τ).loc Cert.GlaGateReferenceIdeal.main_arg0)
      ∧ r.2.mem ((c.tc : Thread Cert.GlaGateReferenceIdeal.nD Cert.GlaGateReferenceIdeal.τ).loc Cert.GlaGateReferenceIdeal.main_arg1) = m ((c.tc : Thread Cert.GlaGateReferenceIdeal.nD Cert.GlaGateReferenceIdeal.τ).loc Cert.GlaGateReferenceIdeal.main_arg1)
      ∧ r.2.mem ((c.tc : Thread Cert.GlaGateReferenceIdeal.nD Cert.GlaGateReferenceIdeal.τ).loc Cert.GlaGateReferenceIdeal.main_arg2) = m ((c.tc : Thread Cert.GlaGateReferenceIdeal.nD Cert.GlaGateReferenceIdeal.τ).loc Cert.GlaGateReferenceIdeal.main_arg2)
      ∧ r.2.mem ((c.tc : Thread Cert.GlaGateReferenceIdeal.nD Cert.GlaGateReferenceIdeal.τ).loc Cert.GlaGateReferenceIdeal.main_arg3) = m ((c.tc : Thread Cert.GlaGateReferenceIdeal.nD Cert.GlaGateReferenceIdeal.τ).loc Cert.GlaGateReferenceIdeal.main_arg3))
      ∧ r.2.sem = fun _ => 0)

def quiescent_NormMod [hNormMod : Cert.NormMod.Facts] : Prop :=
  ∀ (m : (ℓ : Loc Cert.NormMod.nD Cert.NormMod.τ Cert.NormMod.sig) → Buf (Elt Bits) ℓ) (g : Dev Cert.NormMod.nD → PrngReg), Pre_NormMod m →
    θ_run (Cert.NormMod.defs (F := Bits)) (onTc (τ := Cert.NormMod.τ) (Cert.NormMod.main (F := Bits))) ⟨m, fun _ => 0, g⟩ (fun r => (∀ c : Dev Cert.NormMod.nD,
      r.2.mem ((c.tc : Thread Cert.NormMod.nD Cert.NormMod.τ).loc Cert.NormMod.main_arg0) = m ((c.tc : Thread Cert.NormMod.nD Cert.NormMod.τ).loc Cert.NormMod.main_arg0)
      ∧ r.2.mem ((c.tc : Thread Cert.NormMod.nD Cert.NormMod.τ).loc Cert.NormMod.main_arg1) = m ((c.tc : Thread Cert.NormMod.nD Cert.NormMod.τ).loc Cert.NormMod.main_arg1)
      ∧ r.2.mem ((c.tc : Thread Cert.NormMod.nD Cert.NormMod.τ).loc Cert.NormMod.main_arg2) = m ((c.tc : Thread Cert.NormMod.nD Cert.NormMod.τ).loc Cert.NormMod.main_arg2))
      ∧ r.2.sem = fun _ => 0)

def quiescent_NormModIdeal [hNormModIdeal : Cert.NormModIdeal.Facts] : Prop :=
  ∀ (m : (ℓ : Loc Cert.NormModIdeal.nD Cert.NormModIdeal.τ Cert.NormModIdeal.sig) → Buf (Elt Ideal) ℓ) (g : Dev Cert.NormModIdeal.nD → PrngReg), Pre_NormModIdeal m →
    θ_run (Cert.NormModIdeal.defs (F := Ideal)) (onTc (τ := Cert.NormModIdeal.τ) (Cert.NormModIdeal.main (F := Ideal))) ⟨m, fun _ => 0, g⟩ (fun r => (∀ c : Dev Cert.NormModIdeal.nD,
      r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
      ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
      ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2))
      ∧ r.2.sem = fun _ => 0)

def quiescent_NormModReferenceIdeal [hNormModReferenceIdeal : Cert.NormModReferenceIdeal.Facts] : Prop :=
  ∀ (m : (ℓ : Loc Cert.NormModReferenceIdeal.nD Cert.NormModReferenceIdeal.τ Cert.NormModReferenceIdeal.sig) → Buf (Elt Ideal) ℓ) (g : Dev Cert.NormModReferenceIdeal.nD → PrngReg), Pre_NormModReferenceIdeal m →
    θ_run (Cert.NormModReferenceIdeal.defs (F := Ideal)) (onTc (τ := Cert.NormModReferenceIdeal.τ) (Cert.NormModReferenceIdeal.main (F := Ideal))) ⟨m, fun _ => 0, g⟩ (fun r => (∀ c : Dev Cert.NormModReferenceIdeal.nD,
      r.2.mem ((c.tc : Thread Cert.NormModReferenceIdeal.nD Cert.NormModReferenceIdeal.τ).loc Cert.NormModReferenceIdeal.main_arg0) = m ((c.tc : Thread Cert.NormModReferenceIdeal.nD Cert.NormModReferenceIdeal.τ).loc Cert.NormModReferenceIdeal.main_arg0)
      ∧ r.2.mem ((c.tc : Thread Cert.NormModReferenceIdeal.nD Cert.NormModReferenceIdeal.τ).loc Cert.NormModReferenceIdeal.main_arg1) = m ((c.tc : Thread Cert.NormModReferenceIdeal.nD Cert.NormModReferenceIdeal.τ).loc Cert.NormModReferenceIdeal.main_arg1)
      ∧ r.2.mem ((c.tc : Thread Cert.NormModReferenceIdeal.nD Cert.NormModReferenceIdeal.τ).loc Cert.NormModReferenceIdeal.main_arg2) = m ((c.tc : Thread Cert.NormModReferenceIdeal.nD Cert.NormModReferenceIdeal.τ).loc Cert.NormModReferenceIdeal.main_arg2))
      ∧ r.2.sem = fun _ => 0)

def preserves_Kernel_KernelIdeal : Prop :=
  IdealRules.named_const.Statement Cert.KernelIdeal.κ "qscale" .f32 0x3DD53B95#32 (((Real.log 2)⁻¹ * (Real.sqrt 192)⁻¹ : ℝ) : EReal)

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_GlaIn_GlaInIdeal : Prop :=
  True

def algebraic_GlaInIdeal_GlaInReferenceIdeal [hGlaInIdeal : Cert.GlaInIdeal.Facts] [hGlaInReferenceIdeal : Cert.GlaInReferenceIdeal.Facts] : Prop :=
  ∀ (m : (ℓ : Loc Cert.GlaInIdeal.nD Cert.GlaInIdeal.τ Cert.GlaInIdeal.sig) → Buf (Elt Ideal) ℓ) (g : Dev Cert.GlaInIdeal.nD → PrngReg)
    (m' : (ℓ : Loc Cert.GlaInReferenceIdeal.nD Cert.GlaInReferenceIdeal.τ Cert.GlaInReferenceIdeal.sig) → Buf (Elt Ideal) ℓ) (g' : Dev Cert.GlaInReferenceIdeal.nD → PrngReg), Pre_GlaInIdeal m →
    (∀ c : Dev Cert.GlaInIdeal.nD,
      m' ((c.tc : Thread Cert.GlaInReferenceIdeal.nD Cert.GlaInReferenceIdeal.τ).loc Cert.GlaInReferenceIdeal.main_arg0) = m ((c.tc : Thread Cert.GlaInIdeal.nD Cert.GlaInIdeal.τ).loc Cert.GlaInIdeal.main_arg0)
      ∧ m' ((c.tc : Thread Cert.GlaInReferenceIdeal.nD Cert.GlaInReferenceIdeal.τ).loc Cert.GlaInReferenceIdeal.main_arg1) = m ((c.tc : Thread Cert.GlaInIdeal.nD Cert.GlaInIdeal.τ).loc Cert.GlaInIdeal.main_arg1)) →
    ∃ (v0 : (c : Dev Cert.GlaInIdeal.nD) → Buf (Elt Ideal) ((c.tc : Thread Cert.GlaInIdeal.nD Cert.GlaInIdeal.τ).loc Cert.GlaInIdeal.main_v3)),
      θ_run (Cert.GlaInIdeal.defs (F := Ideal)) (onTc (τ := Cert.GlaInIdeal.τ) (Cert.GlaInIdeal.main (F := Ideal))) ⟨m, fun _ => 0, g⟩ (fun r => ∀ c : Dev Cert.GlaInIdeal.nD,
          r.2.mem ((c.tc : Thread Cert.GlaInIdeal.nD Cert.GlaInIdeal.τ).loc Cert.GlaInIdeal.main_v3) = v0 c
          ∧ r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
          ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1))
      ∧ θ_run (Cert.GlaInReferenceIdeal.defs (F := Ideal)) (onTc (τ := Cert.GlaInReferenceIdeal.τ) (Cert.GlaInReferenceIdeal.main (F := Ideal))) ⟨m', fun _ => 0, g'⟩ (fun r => ∀ c : Dev Cert.GlaInReferenceIdeal.nD,
          r.2.mem ((c.tc : Thread Cert.GlaInReferenceIdeal.nD Cert.GlaInReferenceIdeal.τ).loc Cert.GlaInReferenceIdeal.main_v2) = v0 c
          ∧ r.2.mem ((c.tc : Thread Cert.GlaInReferenceIdeal.nD Cert.GlaInReferenceIdeal.τ).loc Cert.GlaInReferenceIdeal.main_arg0) = m' ((c.tc : Thread Cert.GlaInReferenceIdeal.nD Cert.GlaInReferenceIdeal.τ).loc Cert.GlaInReferenceIdeal.main_arg0)
          ∧ r.2.mem ((c.tc : Thread Cert.GlaInReferenceIdeal.nD Cert.GlaInReferenceIdeal.τ).loc Cert.GlaInReferenceIdeal.main_arg1) = m' ((c.tc : Thread Cert.GlaInReferenceIdeal.nD Cert.GlaInReferenceIdeal.τ).loc Cert.GlaInReferenceIdeal.main_arg1))

def preserves_Square_SquareIdeal : Prop :=
  True

def algebraic_SquareIdeal_SquareReferenceIdeal [hSquareIdeal : Cert.SquareIdeal.Facts] [hSquareReferenceIdeal : Cert.SquareReferenceIdeal.Facts] : Prop :=
  ∀ (m : (ℓ : Loc Cert.SquareIdeal.nD Cert.SquareIdeal.τ Cert.SquareIdeal.sig) → Buf (Elt Ideal) ℓ) (g : Dev Cert.SquareIdeal.nD → PrngReg)
    (m' : (ℓ : Loc Cert.SquareReferenceIdeal.nD Cert.SquareReferenceIdeal.τ Cert.SquareReferenceIdeal.sig) → Buf (Elt Ideal) ℓ) (g' : Dev Cert.SquareReferenceIdeal.nD → PrngReg), Pre_SquareIdeal m →
    (∀ c : Dev Cert.SquareIdeal.nD,
      m' ((c.tc : Thread Cert.SquareReferenceIdeal.nD Cert.SquareReferenceIdeal.τ).loc Cert.SquareReferenceIdeal.main_arg0) = m ((c.tc : Thread Cert.SquareIdeal.nD Cert.SquareIdeal.τ).loc Cert.SquareIdeal.main_arg0)
      ∧ m' ((c.tc : Thread Cert.SquareReferenceIdeal.nD Cert.SquareReferenceIdeal.τ).loc Cert.SquareReferenceIdeal.main_arg1) = m ((c.tc : Thread Cert.SquareIdeal.nD Cert.SquareIdeal.τ).loc Cert.SquareIdeal.main_arg1)) →
    ∃ (v0 : (c : Dev Cert.SquareIdeal.nD) → Buf (Elt Ideal) ((c.tc : Thread Cert.SquareIdeal.nD Cert.SquareIdeal.τ).loc Cert.SquareIdeal.main_v3)),
      θ_run (Cert.SquareIdeal.defs (F := Ideal)) (onTc (τ := Cert.SquareIdeal.τ) (Cert.SquareIdeal.main (F := Ideal))) ⟨m, fun _ => 0, g⟩ (fun r => ∀ c : Dev Cert.SquareIdeal.nD,
          r.2.mem ((c.tc : Thread Cert.SquareIdeal.nD Cert.SquareIdeal.τ).loc Cert.SquareIdeal.main_v3) = v0 c
          ∧ r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
          ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1))
      ∧ θ_run (Cert.SquareReferenceIdeal.defs (F := Ideal)) (onTc (τ := Cert.SquareReferenceIdeal.τ) (Cert.SquareReferenceIdeal.main (F := Ideal))) ⟨m', fun _ => 0, g'⟩ (fun r => ∀ c : Dev Cert.SquareReferenceIdeal.nD,
          r.2.mem ((c.tc : Thread Cert.SquareReferenceIdeal.nD Cert.SquareReferenceIdeal.τ).loc Cert.SquareReferenceIdeal.main_v2) = v0 c
          ∧ r.2.mem ((c.tc : Thread Cert.SquareReferenceIdeal.nD Cert.SquareReferenceIdeal.τ).loc Cert.SquareReferenceIdeal.main_arg0) = m' ((c.tc : Thread Cert.SquareReferenceIdeal.nD Cert.SquareReferenceIdeal.τ).loc Cert.SquareReferenceIdeal.main_arg0)
          ∧ r.2.mem ((c.tc : Thread Cert.SquareReferenceIdeal.nD Cert.SquareReferenceIdeal.τ).loc Cert.SquareReferenceIdeal.main_arg1) = m' ((c.tc : Thread Cert.SquareReferenceIdeal.nD Cert.SquareReferenceIdeal.τ).loc Cert.SquareReferenceIdeal.main_arg1))

def preserves_RwkvK_RwkvKIdeal : Prop :=
  True

def algebraic_RwkvKIdeal_RwkvKReferenceIdeal [hRwkvKIdeal : Cert.RwkvKIdeal.Facts] [hRwkvKReferenceIdeal : Cert.RwkvKReferenceIdeal.Facts] : Prop :=
  ∀ (m : (ℓ : Loc Cert.RwkvKIdeal.nD Cert.RwkvKIdeal.τ Cert.RwkvKIdeal.sig) → Buf (Elt Ideal) ℓ) (g : Dev Cert.RwkvKIdeal.nD → PrngReg)
    (m' : (ℓ : Loc Cert.RwkvKReferenceIdeal.nD Cert.RwkvKReferenceIdeal.τ Cert.RwkvKReferenceIdeal.sig) → Buf (Elt Ideal) ℓ) (g' : Dev Cert.RwkvKReferenceIdeal.nD → PrngReg), Pre_RwkvKIdeal m →
    (∀ c : Dev Cert.RwkvKIdeal.nD,
      m' ((c.tc : Thread Cert.RwkvKReferenceIdeal.nD Cert.RwkvKReferenceIdeal.τ).loc Cert.RwkvKReferenceIdeal.main_arg0) = m ((c.tc : Thread Cert.RwkvKIdeal.nD Cert.RwkvKIdeal.τ).loc Cert.RwkvKIdeal.main_arg0)
      ∧ m' ((c.tc : Thread Cert.RwkvKReferenceIdeal.nD Cert.RwkvKReferenceIdeal.τ).loc Cert.RwkvKReferenceIdeal.main_arg1) = m ((c.tc : Thread Cert.RwkvKIdeal.nD Cert.RwkvKIdeal.τ).loc Cert.RwkvKIdeal.main_arg1)) →
    ∃ (v0 : (c : Dev Cert.RwkvKIdeal.nD) → Buf (Elt Ideal) ((c.tc : Thread Cert.RwkvKIdeal.nD Cert.RwkvKIdeal.τ).loc Cert.RwkvKIdeal.main_v3)),
      θ_run (Cert.RwkvKIdeal.defs (F := Ideal)) (onTc (τ := Cert.RwkvKIdeal.τ) (Cert.RwkvKIdeal.main (F := Ideal))) ⟨m, fun _ => 0, g⟩ (fun r => ∀ c : Dev Cert.RwkvKIdeal.nD,
          r.2.mem ((c.tc : Thread Cert.RwkvKIdeal.nD Cert.RwkvKIdeal.τ).loc Cert.RwkvKIdeal.main_v3) = v0 c
          ∧ r.2.mem ((c.tc : Thread Cert.RwkvKIdeal.nD Cert.RwkvKIdeal.τ).loc Cert.RwkvKIdeal.main_arg0) = m ((c.tc : Thread Cert.RwkvKIdeal.nD Cert.RwkvKIdeal.τ).loc Cert.RwkvKIdeal.main_arg0)
          ∧ r.2.mem ((c.tc : Thread Cert.RwkvKIdeal.nD Cert.RwkvKIdeal.τ).loc Cert.RwkvKIdeal.main_arg1) = m ((c.tc : Thread Cert.RwkvKIdeal.nD Cert.RwkvKIdeal.τ).loc Cert.RwkvKIdeal.main_arg1))
      ∧ θ_run (Cert.RwkvKReferenceIdeal.defs (F := Ideal)) (onTc (τ := Cert.RwkvKReferenceIdeal.τ) (Cert.RwkvKReferenceIdeal.main (F := Ideal))) ⟨m', fun _ => 0, g'⟩ (fun r => ∀ c : Dev Cert.RwkvKReferenceIdeal.nD,
          r.2.mem ((c.tc : Thread Cert.RwkvKReferenceIdeal.nD Cert.RwkvKReferenceIdeal.τ).loc Cert.RwkvKReferenceIdeal.main_v1) = v0 c
          ∧ r.2.mem ((c.tc : Thread Cert.RwkvKReferenceIdeal.nD Cert.RwkvKReferenceIdeal.τ).loc Cert.RwkvKReferenceIdeal.main_arg0) = m' ((c.tc : Thread Cert.RwkvKReferenceIdeal.nD Cert.RwkvKReferenceIdeal.τ).loc Cert.RwkvKReferenceIdeal.main_arg0)
          ∧ r.2.mem ((c.tc : Thread Cert.RwkvKReferenceIdeal.nD Cert.RwkvKReferenceIdeal.τ).loc Cert.RwkvKReferenceIdeal.main_arg1) = m' ((c.tc : Thread Cert.RwkvKReferenceIdeal.nD Cert.RwkvKReferenceIdeal.τ).loc Cert.RwkvKReferenceIdeal.main_arg1))

def preserves_MlaKv_MlaKvIdeal : Prop :=
  True

def algebraic_MlaKvIdeal_MlaKvReferenceIdeal [hMlaKvIdeal : Cert.MlaKvIdeal.Facts] [hMlaKvReferenceIdeal : Cert.MlaKvReferenceIdeal.Facts] : Prop :=
  ∀ (m : (ℓ : Loc Cert.MlaKvIdeal.nD Cert.MlaKvIdeal.τ Cert.MlaKvIdeal.sig) → Buf (Elt Ideal) ℓ) (g : Dev Cert.MlaKvIdeal.nD → PrngReg)
    (m' : (ℓ : Loc Cert.MlaKvReferenceIdeal.nD Cert.MlaKvReferenceIdeal.τ Cert.MlaKvReferenceIdeal.sig) → Buf (Elt Ideal) ℓ) (g' : Dev Cert.MlaKvReferenceIdeal.nD → PrngReg), Pre_MlaKvIdeal m →
    (∀ c : Dev Cert.MlaKvIdeal.nD,
      m' ((c.tc : Thread Cert.MlaKvReferenceIdeal.nD Cert.MlaKvReferenceIdeal.τ).loc Cert.MlaKvReferenceIdeal.main_arg0) = m ((c.tc : Thread Cert.MlaKvIdeal.nD Cert.MlaKvIdeal.τ).loc Cert.MlaKvIdeal.main_arg0)
      ∧ m' ((c.tc : Thread Cert.MlaKvReferenceIdeal.nD Cert.MlaKvReferenceIdeal.τ).loc Cert.MlaKvReferenceIdeal.main_arg1) = m ((c.tc : Thread Cert.MlaKvIdeal.nD Cert.MlaKvIdeal.τ).loc Cert.MlaKvIdeal.main_arg1)) →
    ∃ (v0 : (c : Dev Cert.MlaKvIdeal.nD) → Buf (Elt Ideal) ((c.tc : Thread Cert.MlaKvIdeal.nD Cert.MlaKvIdeal.τ).loc Cert.MlaKvIdeal.main_v3)),
      θ_run (Cert.MlaKvIdeal.defs (F := Ideal)) (onTc (τ := Cert.MlaKvIdeal.τ) (Cert.MlaKvIdeal.main (F := Ideal))) ⟨m, fun _ => 0, g⟩ (fun r => ∀ c : Dev Cert.MlaKvIdeal.nD,
          r.2.mem ((c.tc : Thread Cert.MlaKvIdeal.nD Cert.MlaKvIdeal.τ).loc Cert.MlaKvIdeal.main_v3) = v0 c
          ∧ r.2.mem ((c.tc : Thread Cert.MlaKvIdeal.nD Cert.MlaKvIdeal.τ).loc Cert.MlaKvIdeal.main_arg0) = m ((c.tc : Thread Cert.MlaKvIdeal.nD Cert.MlaKvIdeal.τ).loc Cert.MlaKvIdeal.main_arg0)
          ∧ r.2.mem ((c.tc : Thread Cert.MlaKvIdeal.nD Cert.MlaKvIdeal.τ).loc Cert.MlaKvIdeal.main_arg1) = m ((c.tc : Thread Cert.MlaKvIdeal.nD Cert.MlaKvIdeal.τ).loc Cert.MlaKvIdeal.main_arg1))
      ∧ θ_run (Cert.MlaKvReferenceIdeal.defs (F := Ideal)) (onTc (τ := Cert.MlaKvReferenceIdeal.τ) (Cert.MlaKvReferenceIdeal.main (F := Ideal))) ⟨m', fun _ => 0, g'⟩ (fun r => ∀ c : Dev Cert.MlaKvReferenceIdeal.nD,
          r.2.mem ((c.tc : Thread Cert.MlaKvReferenceIdeal.nD Cert.MlaKvReferenceIdeal.τ).loc Cert.MlaKvReferenceIdeal.main_v2) = v0 c
          ∧ r.2.mem ((c.tc : Thread Cert.MlaKvReferenceIdeal.nD Cert.MlaKvReferenceIdeal.τ).loc Cert.MlaKvReferenceIdeal.main_arg0) = m' ((c.tc : Thread Cert.MlaKvReferenceIdeal.nD Cert.MlaKvReferenceIdeal.τ).loc Cert.MlaKvReferenceIdeal.main_arg0)
          ∧ r.2.mem ((c.tc : Thread Cert.MlaKvReferenceIdeal.nD Cert.MlaKvReferenceIdeal.τ).loc Cert.MlaKvReferenceIdeal.main_arg1) = m' ((c.tc : Thread Cert.MlaKvReferenceIdeal.nD Cert.MlaKvReferenceIdeal.τ).loc Cert.MlaKvReferenceIdeal.main_arg1))

def preserves_PeerQ_PeerQIdeal : Prop :=
  True

def algebraic_PeerQIdeal_PeerQReferenceIdeal [hPeerQIdeal : Cert.PeerQIdeal.Facts] [hPeerQReferenceIdeal : Cert.PeerQReferenceIdeal.Facts] : Prop :=
  ∀ (m : (ℓ : Loc Cert.PeerQIdeal.nD Cert.PeerQIdeal.τ Cert.PeerQIdeal.sig) → Buf (Elt Ideal) ℓ) (g : Dev Cert.PeerQIdeal.nD → PrngReg)
    (m' : (ℓ : Loc Cert.PeerQReferenceIdeal.nD Cert.PeerQReferenceIdeal.τ Cert.PeerQReferenceIdeal.sig) → Buf (Elt Ideal) ℓ) (g' : Dev Cert.PeerQReferenceIdeal.nD → PrngReg), Pre_PeerQIdeal m →
    (∀ c : Dev Cert.PeerQIdeal.nD,
      m' ((c.tc : Thread Cert.PeerQReferenceIdeal.nD Cert.PeerQReferenceIdeal.τ).loc Cert.PeerQReferenceIdeal.main_arg0) = m ((c.tc : Thread Cert.PeerQIdeal.nD Cert.PeerQIdeal.τ).loc Cert.PeerQIdeal.main_arg0)
      ∧ m' ((c.tc : Thread Cert.PeerQReferenceIdeal.nD Cert.PeerQReferenceIdeal.τ).loc Cert.PeerQReferenceIdeal.main_arg1) = m ((c.tc : Thread Cert.PeerQIdeal.nD Cert.PeerQIdeal.τ).loc Cert.PeerQIdeal.main_arg1)) →
    ∃ (v0 : (c : Dev Cert.PeerQIdeal.nD) → Buf (Elt Ideal) ((c.tc : Thread Cert.PeerQIdeal.nD Cert.PeerQIdeal.τ).loc Cert.PeerQIdeal.main_v5)),
      θ_run (Cert.PeerQIdeal.defs (F := Ideal)) (onTc (τ := Cert.PeerQIdeal.τ) (Cert.PeerQIdeal.main (F := Ideal))) ⟨m, fun _ => 0, g⟩ (fun r => ∀ c : Dev Cert.PeerQIdeal.nD,
          r.2.mem ((c.tc : Thread Cert.PeerQIdeal.nD Cert.PeerQIdeal.τ).loc Cert.PeerQIdeal.main_v5) = v0 c
          ∧ r.2.mem ((c.tc : Thread Cert.PeerQIdeal.nD Cert.PeerQIdeal.τ).loc Cert.PeerQIdeal.main_arg0) = m ((c.tc : Thread Cert.PeerQIdeal.nD Cert.PeerQIdeal.τ).loc Cert.PeerQIdeal.main_arg0)
          ∧ r.2.mem ((c.tc : Thread Cert.PeerQIdeal.nD Cert.PeerQIdeal.τ).loc Cert.PeerQIdeal.main_arg1) = m ((c.tc : Thread Cert.PeerQIdeal.nD Cert.PeerQIdeal.τ).loc Cert.PeerQIdeal.main_arg1))
      ∧ θ_run (Cert.PeerQReferenceIdeal.defs (F := Ideal)) (onTc (τ := Cert.PeerQReferenceIdeal.τ) (Cert.PeerQReferenceIdeal.main (F := Ideal))) ⟨m', fun _ => 0, g'⟩ (fun r => ∀ c : Dev Cert.PeerQReferenceIdeal.nD,
          r.2.mem ((c.tc : Thread Cert.PeerQReferenceIdeal.nD Cert.PeerQReferenceIdeal.τ).loc Cert.PeerQReferenceIdeal.main_v2) = v0 c
          ∧ r.2.mem ((c.tc : Thread Cert.PeerQReferenceIdeal.nD Cert.PeerQReferenceIdeal.τ).loc Cert.PeerQReferenceIdeal.main_arg0) = m' ((c.tc : Thread Cert.PeerQReferenceIdeal.nD Cert.PeerQReferenceIdeal.τ).loc Cert.PeerQReferenceIdeal.main_arg0)
          ∧ r.2.mem ((c.tc : Thread Cert.PeerQReferenceIdeal.nD Cert.PeerQReferenceIdeal.τ).loc Cert.PeerQReferenceIdeal.main_arg1) = m' ((c.tc : Thread Cert.PeerQReferenceIdeal.nD Cert.PeerQReferenceIdeal.τ).loc Cert.PeerQReferenceIdeal.main_arg1))

def preserves_MlaIn_MlaInIdeal : Prop :=
  True

def algebraic_MlaInIdeal_MlaInReferenceIdeal [hMlaInIdeal : Cert.MlaInIdeal.Facts] [hMlaInReferenceIdeal : Cert.MlaInReferenceIdeal.Facts] : Prop :=
  ∀ (m : (ℓ : Loc Cert.MlaInIdeal.nD Cert.MlaInIdeal.τ Cert.MlaInIdeal.sig) → Buf (Elt Ideal) ℓ) (g : Dev Cert.MlaInIdeal.nD → PrngReg)
    (m' : (ℓ : Loc Cert.MlaInReferenceIdeal.nD Cert.MlaInReferenceIdeal.τ Cert.MlaInReferenceIdeal.sig) → Buf (Elt Ideal) ℓ) (g' : Dev Cert.MlaInReferenceIdeal.nD → PrngReg), Pre_MlaInIdeal m →
    (∀ c : Dev Cert.MlaInIdeal.nD,
      m' ((c.tc : Thread Cert.MlaInReferenceIdeal.nD Cert.MlaInReferenceIdeal.τ).loc Cert.MlaInReferenceIdeal.main_arg0) = m ((c.tc : Thread Cert.MlaInIdeal.nD Cert.MlaInIdeal.τ).loc Cert.MlaInIdeal.main_arg0)
      ∧ m' ((c.tc : Thread Cert.MlaInReferenceIdeal.nD Cert.MlaInReferenceIdeal.τ).loc Cert.MlaInReferenceIdeal.main_arg1) = m ((c.tc : Thread Cert.MlaInIdeal.nD Cert.MlaInIdeal.τ).loc Cert.MlaInIdeal.main_arg1)) →
    ∃ (v0 : (c : Dev Cert.MlaInIdeal.nD) → Buf (Elt Ideal) ((c.tc : Thread Cert.MlaInIdeal.nD Cert.MlaInIdeal.τ).loc Cert.MlaInIdeal.main_v26)),
      θ_run (Cert.MlaInIdeal.defs (F := Ideal)) (onTc (τ := Cert.MlaInIdeal.τ) (Cert.MlaInIdeal.main (F := Ideal))) ⟨m, fun _ => 0, g⟩ (fun r => ∀ c : Dev Cert.MlaInIdeal.nD,
          r.2.mem ((c.tc : Thread Cert.MlaInIdeal.nD Cert.MlaInIdeal.τ).loc Cert.MlaInIdeal.main_v26) = v0 c
          ∧ r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
          ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1))
      ∧ θ_run (Cert.MlaInReferenceIdeal.defs (F := Ideal)) (onTc (τ := Cert.MlaInReferenceIdeal.τ) (Cert.MlaInReferenceIdeal.main (F := Ideal))) ⟨m', fun _ => 0, g'⟩ (fun r => ∀ c : Dev Cert.MlaInReferenceIdeal.nD,
          r.2.mem ((c.tc : Thread Cert.MlaInReferenceIdeal.nD Cert.MlaInReferenceIdeal.τ).loc Cert.MlaInReferenceIdeal.main_v11) = v0 c
          ∧ r.2.mem ((c.tc : Thread Cert.MlaInReferenceIdeal.nD Cert.MlaInReferenceIdeal.τ).loc Cert.MlaInReferenceIdeal.main_arg0) = m' ((c.tc : Thread Cert.MlaInReferenceIdeal.nD Cert.MlaInReferenceIdeal.τ).loc Cert.MlaInReferenceIdeal.main_arg0)
          ∧ r.2.mem ((c.tc : Thread Cert.MlaInReferenceIdeal.nD Cert.MlaInReferenceIdeal.τ).loc Cert.MlaInReferenceIdeal.main_arg1) = m' ((c.tc : Thread Cert.MlaInReferenceIdeal.nD Cert.MlaInReferenceIdeal.τ).loc Cert.MlaInReferenceIdeal.main_arg1))

def preserves_MlaUq_MlaUqIdeal : Prop :=
  True

def algebraic_MlaUqIdeal_MlaUqReferenceIdeal [hMlaUqIdeal : Cert.MlaUqIdeal.Facts] [hMlaUqReferenceIdeal : Cert.MlaUqReferenceIdeal.Facts] : Prop :=
  ∀ (m : (ℓ : Loc Cert.MlaUqIdeal.nD Cert.MlaUqIdeal.τ Cert.MlaUqIdeal.sig) → Buf (Elt Ideal) ℓ) (g : Dev Cert.MlaUqIdeal.nD → PrngReg)
    (m' : (ℓ : Loc Cert.MlaUqReferenceIdeal.nD Cert.MlaUqReferenceIdeal.τ Cert.MlaUqReferenceIdeal.sig) → Buf (Elt Ideal) ℓ) (g' : Dev Cert.MlaUqReferenceIdeal.nD → PrngReg), Pre_MlaUqIdeal m →
    (∀ c : Dev Cert.MlaUqIdeal.nD,
      m' ((c.tc : Thread Cert.MlaUqReferenceIdeal.nD Cert.MlaUqReferenceIdeal.τ).loc Cert.MlaUqReferenceIdeal.main_arg0) = m ((c.tc : Thread Cert.MlaUqIdeal.nD Cert.MlaUqIdeal.τ).loc Cert.MlaUqIdeal.main_arg0)
      ∧ m' ((c.tc : Thread Cert.MlaUqReferenceIdeal.nD Cert.MlaUqReferenceIdeal.τ).loc Cert.MlaUqReferenceIdeal.main_arg1) = m ((c.tc : Thread Cert.MlaUqIdeal.nD Cert.MlaUqIdeal.τ).loc Cert.MlaUqIdeal.main_arg1)) →
    ∃ (v0 : (c : Dev Cert.MlaUqIdeal.nD) → Buf (Elt Ideal) ((c.tc : Thread Cert.MlaUqIdeal.nD Cert.MlaUqIdeal.τ).loc Cert.MlaUqIdeal.main_v34)),
      θ_run (Cert.MlaUqIdeal.defs (F := Ideal)) (onTc (τ := Cert.MlaUqIdeal.τ) (Cert.MlaUqIdeal.main (F := Ideal))) ⟨m, fun _ => 0, g⟩ (fun r => ∀ c : Dev Cert.MlaUqIdeal.nD,
          r.2.mem ((c.tc : Thread Cert.MlaUqIdeal.nD Cert.MlaUqIdeal.τ).loc Cert.MlaUqIdeal.main_v34) = v0 c
          ∧ r.2.mem ((c.tc : Thread Cert.MlaUqIdeal.nD Cert.MlaUqIdeal.τ).loc Cert.MlaUqIdeal.main_arg0) = m ((c.tc : Thread Cert.MlaUqIdeal.nD Cert.MlaUqIdeal.τ).loc Cert.MlaUqIdeal.main_arg0)
          ∧ r.2.mem ((c.tc : Thread Cert.MlaUqIdeal.nD Cert.MlaUqIdeal.τ).loc Cert.MlaUqIdeal.main_arg1) = m ((c.tc : Thread Cert.MlaUqIdeal.nD Cert.MlaUqIdeal.τ).loc Cert.MlaUqIdeal.main_arg1))
      ∧ θ_run (Cert.MlaUqReferenceIdeal.defs (F := Ideal)) (onTc (τ := Cert.MlaUqReferenceIdeal.τ) (Cert.MlaUqReferenceIdeal.main (F := Ideal))) ⟨m', fun _ => 0, g'⟩ (fun r => ∀ c : Dev Cert.MlaUqReferenceIdeal.nD,
          r.2.mem ((c.tc : Thread Cert.MlaUqReferenceIdeal.nD Cert.MlaUqReferenceIdeal.τ).loc Cert.MlaUqReferenceIdeal.main_v12) = v0 c
          ∧ r.2.mem ((c.tc : Thread Cert.MlaUqReferenceIdeal.nD Cert.MlaUqReferenceIdeal.τ).loc Cert.MlaUqReferenceIdeal.main_arg0) = m' ((c.tc : Thread Cert.MlaUqReferenceIdeal.nD Cert.MlaUqReferenceIdeal.τ).loc Cert.MlaUqReferenceIdeal.main_arg0)
          ∧ r.2.mem ((c.tc : Thread Cert.MlaUqReferenceIdeal.nD Cert.MlaUqReferenceIdeal.τ).loc Cert.MlaUqReferenceIdeal.main_arg1) = m' ((c.tc : Thread Cert.MlaUqReferenceIdeal.nD Cert.MlaUqReferenceIdeal.τ).loc Cert.MlaUqReferenceIdeal.main_arg1))

def preserves_RwkvLow_RwkvLowIdeal : Prop :=
  True

def algebraic_RwkvLowIdeal_RwkvLowReferenceIdeal [hRwkvLowIdeal : Cert.RwkvLowIdeal.Facts] [hRwkvLowReferenceIdeal : Cert.RwkvLowReferenceIdeal.Facts] : Prop :=
  ∀ (m : (ℓ : Loc Cert.RwkvLowIdeal.nD Cert.RwkvLowIdeal.τ Cert.RwkvLowIdeal.sig) → Buf (Elt Ideal) ℓ) (g : Dev Cert.RwkvLowIdeal.nD → PrngReg)
    (m' : (ℓ : Loc Cert.RwkvLowReferenceIdeal.nD Cert.RwkvLowReferenceIdeal.τ Cert.RwkvLowReferenceIdeal.sig) → Buf (Elt Ideal) ℓ) (g' : Dev Cert.RwkvLowReferenceIdeal.nD → PrngReg), Pre_RwkvLowIdeal m →
    (∀ c : Dev Cert.RwkvLowIdeal.nD,
      m' ((c.tc : Thread Cert.RwkvLowReferenceIdeal.nD Cert.RwkvLowReferenceIdeal.τ).loc Cert.RwkvLowReferenceIdeal.main_arg0) = m ((c.tc : Thread Cert.RwkvLowIdeal.nD Cert.RwkvLowIdeal.τ).loc Cert.RwkvLowIdeal.main_arg0)
      ∧ m' ((c.tc : Thread Cert.RwkvLowReferenceIdeal.nD Cert.RwkvLowReferenceIdeal.τ).loc Cert.RwkvLowReferenceIdeal.main_arg1) = m ((c.tc : Thread Cert.RwkvLowIdeal.nD Cert.RwkvLowIdeal.τ).loc Cert.RwkvLowIdeal.main_arg1)) →
    ∃ (v0 : (c : Dev Cert.RwkvLowIdeal.nD) → Buf (Elt Ideal) ((c.tc : Thread Cert.RwkvLowIdeal.nD Cert.RwkvLowIdeal.τ).loc Cert.RwkvLowIdeal.main_v8)),
      θ_run (Cert.RwkvLowIdeal.defs (F := Ideal)) (onTc (τ := Cert.RwkvLowIdeal.τ) (Cert.RwkvLowIdeal.main (F := Ideal))) ⟨m, fun _ => 0, g⟩ (fun r => ∀ c : Dev Cert.RwkvLowIdeal.nD,
          r.2.mem ((c.tc : Thread Cert.RwkvLowIdeal.nD Cert.RwkvLowIdeal.τ).loc Cert.RwkvLowIdeal.main_v8) = v0 c
          ∧ r.2.mem ((c.tc : Thread Cert.RwkvLowIdeal.nD Cert.RwkvLowIdeal.τ).loc Cert.RwkvLowIdeal.main_arg0) = m ((c.tc : Thread Cert.RwkvLowIdeal.nD Cert.RwkvLowIdeal.τ).loc Cert.RwkvLowIdeal.main_arg0)
          ∧ r.2.mem ((c.tc : Thread Cert.RwkvLowIdeal.nD Cert.RwkvLowIdeal.τ).loc Cert.RwkvLowIdeal.main_arg1) = m ((c.tc : Thread Cert.RwkvLowIdeal.nD Cert.RwkvLowIdeal.τ).loc Cert.RwkvLowIdeal.main_arg1))
      ∧ θ_run (Cert.RwkvLowReferenceIdeal.defs (F := Ideal)) (onTc (τ := Cert.RwkvLowReferenceIdeal.τ) (Cert.RwkvLowReferenceIdeal.main (F := Ideal))) ⟨m', fun _ => 0, g'⟩ (fun r => ∀ c : Dev Cert.RwkvLowReferenceIdeal.nD,
          r.2.mem ((c.tc : Thread Cert.RwkvLowReferenceIdeal.nD Cert.RwkvLowReferenceIdeal.τ).loc Cert.RwkvLowReferenceIdeal.main_v7) = v0 c
          ∧ r.2.mem ((c.tc : Thread Cert.RwkvLowReferenceIdeal.nD Cert.RwkvLowReferenceIdeal.τ).loc Cert.RwkvLowReferenceIdeal.main_arg0) = m' ((c.tc : Thread Cert.RwkvLowReferenceIdeal.nD Cert.RwkvLowReferenceIdeal.τ).loc Cert.RwkvLowReferenceIdeal.main_arg0)
          ∧ r.2.mem ((c.tc : Thread Cert.RwkvLowReferenceIdeal.nD Cert.RwkvLowReferenceIdeal.τ).loc Cert.RwkvLowReferenceIdeal.main_arg1) = m' ((c.tc : Thread Cert.RwkvLowReferenceIdeal.nD Cert.RwkvLowReferenceIdeal.τ).loc Cert.RwkvLowReferenceIdeal.main_arg1))

def preserves_GlaGate_GlaGateIdeal : Prop :=
  True

def algebraic_GlaGateIdeal_GlaGateReferenceIdeal [hGlaGateIdeal : Cert.GlaGateIdeal.Facts] [hGlaGateReferenceIdeal : Cert.GlaGateReferenceIdeal.Facts] : Prop :=
  ∀ (m : (ℓ : Loc Cert.GlaGateIdeal.nD Cert.GlaGateIdeal.τ Cert.GlaGateIdeal.sig) → Buf (Elt Ideal) ℓ) (g : Dev Cert.GlaGateIdeal.nD → PrngReg)
    (m' : (ℓ : Loc Cert.GlaGateReferenceIdeal.nD Cert.GlaGateReferenceIdeal.τ Cert.GlaGateReferenceIdeal.sig) → Buf (Elt Ideal) ℓ) (g' : Dev Cert.GlaGateReferenceIdeal.nD → PrngReg), Pre_GlaGateIdeal m →
    (∀ c : Dev Cert.GlaGateIdeal.nD,
      m' ((c.tc : Thread Cert.GlaGateReferenceIdeal.nD Cert.GlaGateReferenceIdeal.τ).loc Cert.GlaGateReferenceIdeal.main_arg0) = m ((c.tc : Thread Cert.GlaGateIdeal.nD Cert.GlaGateIdeal.τ).loc Cert.GlaGateIdeal.main_arg0)
      ∧ m' ((c.tc : Thread Cert.GlaGateReferenceIdeal.nD Cert.GlaGateReferenceIdeal.τ).loc Cert.GlaGateReferenceIdeal.main_arg1) = m ((c.tc : Thread Cert.GlaGateIdeal.nD Cert.GlaGateIdeal.τ).loc Cert.GlaGateIdeal.main_arg1)
      ∧ m' ((c.tc : Thread Cert.GlaGateReferenceIdeal.nD Cert.GlaGateReferenceIdeal.τ).loc Cert.GlaGateReferenceIdeal.main_arg2) = m ((c.tc : Thread Cert.GlaGateIdeal.nD Cert.GlaGateIdeal.τ).loc Cert.GlaGateIdeal.main_arg2)
      ∧ m' ((c.tc : Thread Cert.GlaGateReferenceIdeal.nD Cert.GlaGateReferenceIdeal.τ).loc Cert.GlaGateReferenceIdeal.main_arg3) = m ((c.tc : Thread Cert.GlaGateIdeal.nD Cert.GlaGateIdeal.τ).loc Cert.GlaGateIdeal.main_arg3)) →
    ∃ (v0 : (c : Dev Cert.GlaGateIdeal.nD) → Buf (Elt Ideal) ((c.tc : Thread Cert.GlaGateIdeal.nD Cert.GlaGateIdeal.τ).loc Cert.GlaGateIdeal.main_v4)),
      θ_run (Cert.GlaGateIdeal.defs (F := Ideal)) (onTc (τ := Cert.GlaGateIdeal.τ) (Cert.GlaGateIdeal.main (F := Ideal))) ⟨m, fun _ => 0, g⟩ (fun r => ∀ c : Dev Cert.GlaGateIdeal.nD,
          r.2.mem ((c.tc : Thread Cert.GlaGateIdeal.nD Cert.GlaGateIdeal.τ).loc Cert.GlaGateIdeal.main_v4) = v0 c
          ∧ r.2.mem ((c.tc : Thread Cert.GlaGateIdeal.nD Cert.GlaGateIdeal.τ).loc Cert.GlaGateIdeal.main_arg0) = m ((c.tc : Thread Cert.GlaGateIdeal.nD Cert.GlaGateIdeal.τ).loc Cert.GlaGateIdeal.main_arg0)
          ∧ r.2.mem ((c.tc : Thread Cert.GlaGateIdeal.nD Cert.GlaGateIdeal.τ).loc Cert.GlaGateIdeal.main_arg1) = m ((c.tc : Thread Cert.GlaGateIdeal.nD Cert.GlaGateIdeal.τ).loc Cert.GlaGateIdeal.main_arg1)
          ∧ r.2.mem ((c.tc : Thread Cert.GlaGateIdeal.nD Cert.GlaGateIdeal.τ).loc Cert.GlaGateIdeal.main_arg2) = m ((c.tc : Thread Cert.GlaGateIdeal.nD Cert.GlaGateIdeal.τ).loc Cert.GlaGateIdeal.main_arg2)
          ∧ r.2.mem ((c.tc : Thread Cert.GlaGateIdeal.nD Cert.GlaGateIdeal.τ).loc Cert.GlaGateIdeal.main_arg3) = m ((c.tc : Thread Cert.GlaGateIdeal.nD Cert.GlaGateIdeal.τ).loc Cert.GlaGateIdeal.main_arg3))
      ∧ θ_run (Cert.GlaGateReferenceIdeal.defs (F := Ideal)) (onTc (τ := Cert.GlaGateReferenceIdeal.τ) (Cert.GlaGateReferenceIdeal.main (F := Ideal))) ⟨m', fun _ => 0, g'⟩ (fun r => ∀ c : Dev Cert.GlaGateReferenceIdeal.nD,
          r.2.mem ((c.tc : Thread Cert.GlaGateReferenceIdeal.nD Cert.GlaGateReferenceIdeal.τ).loc Cert.GlaGateReferenceIdeal.main_v19) = v0 c
          ∧ r.2.mem ((c.tc : Thread Cert.GlaGateReferenceIdeal.nD Cert.GlaGateReferenceIdeal.τ).loc Cert.GlaGateReferenceIdeal.main_arg0) = m' ((c.tc : Thread Cert.GlaGateReferenceIdeal.nD Cert.GlaGateReferenceIdeal.τ).loc Cert.GlaGateReferenceIdeal.main_arg0)
          ∧ r.2.mem ((c.tc : Thread Cert.GlaGateReferenceIdeal.nD Cert.GlaGateReferenceIdeal.τ).loc Cert.GlaGateReferenceIdeal.main_arg1) = m' ((c.tc : Thread Cert.GlaGateReferenceIdeal.nD Cert.GlaGateReferenceIdeal.τ).loc Cert.GlaGateReferenceIdeal.main_arg1)
          ∧ r.2.mem ((c.tc : Thread Cert.GlaGateReferenceIdeal.nD Cert.GlaGateReferenceIdeal.τ).loc Cert.GlaGateReferenceIdeal.main_arg2) = m' ((c.tc : Thread Cert.GlaGateReferenceIdeal.nD Cert.GlaGateReferenceIdeal.τ).loc Cert.GlaGateReferenceIdeal.main_arg2)
          ∧ r.2.mem ((c.tc : Thread Cert.GlaGateReferenceIdeal.nD Cert.GlaGateReferenceIdeal.τ).loc Cert.GlaGateReferenceIdeal.main_arg3) = m' ((c.tc : Thread Cert.GlaGateReferenceIdeal.nD Cert.GlaGateReferenceIdeal.τ).loc Cert.GlaGateReferenceIdeal.main_arg3))

def preserves_NormMod_NormModIdeal : Prop :=
  True

def algebraic_NormModIdeal_NormModReferenceIdeal [hNormModIdeal : Cert.NormModIdeal.Facts] [hNormModReferenceIdeal : Cert.NormModReferenceIdeal.Facts] : Prop :=
  ∀ (m : (ℓ : Loc Cert.NormModIdeal.nD Cert.NormModIdeal.τ Cert.NormModIdeal.sig) → Buf (Elt Ideal) ℓ) (g : Dev Cert.NormModIdeal.nD → PrngReg)
    (m' : (ℓ : Loc Cert.NormModReferenceIdeal.nD Cert.NormModReferenceIdeal.τ Cert.NormModReferenceIdeal.sig) → Buf (Elt Ideal) ℓ) (g' : Dev Cert.NormModReferenceIdeal.nD → PrngReg), Pre_NormModIdeal m →
    (∀ c : Dev Cert.NormModIdeal.nD,
      m' ((c.tc : Thread Cert.NormModReferenceIdeal.nD Cert.NormModReferenceIdeal.τ).loc Cert.NormModReferenceIdeal.main_arg0) = m ((c.tc : Thread Cert.NormModIdeal.nD Cert.NormModIdeal.τ).loc Cert.NormModIdeal.main_arg0)
      ∧ m' ((c.tc : Thread Cert.NormModReferenceIdeal.nD Cert.NormModReferenceIdeal.τ).loc Cert.NormModReferenceIdeal.main_arg1) = m ((c.tc : Thread Cert.NormModIdeal.nD Cert.NormModIdeal.τ).loc Cert.NormModIdeal.main_arg1)
      ∧ m' ((c.tc : Thread Cert.NormModReferenceIdeal.nD Cert.NormModReferenceIdeal.τ).loc Cert.NormModReferenceIdeal.main_arg2) = m ((c.tc : Thread Cert.NormModIdeal.nD Cert.NormModIdeal.τ).loc Cert.NormModIdeal.main_arg2)) →
    ∃ (v0 : (c : Dev Cert.NormModIdeal.nD) → Buf (Elt Ideal) ((c.tc : Thread Cert.NormModIdeal.nD Cert.NormModIdeal.τ).loc Cert.NormModIdeal.main_v1_0)) (v1 : (c : Dev Cert.NormModIdeal.nD) → Buf (Elt Ideal) ((c.tc : Thread Cert.NormModIdeal.nD Cert.NormModIdeal.τ).loc Cert.NormModIdeal.main_v1_1)),
      θ_run (Cert.NormModIdeal.defs (F := Ideal)) (onTc (τ := Cert.NormModIdeal.τ) (Cert.NormModIdeal.main (F := Ideal))) ⟨m, fun _ => 0, g⟩ (fun r => ∀ c : Dev Cert.NormModIdeal.nD,
          r.2.mem ((c.tc : Thread Cert.NormModIdeal.nD Cert.NormModIdeal.τ).loc Cert.NormModIdeal.main_v1_0) = v0 c
          ∧ r.2.mem ((c.tc : Thread Cert.NormModIdeal.nD Cert.NormModIdeal.τ).loc Cert.NormModIdeal.main_v1_1) = v1 c
          ∧ r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
          ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
          ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2))
      ∧ θ_run (Cert.NormModReferenceIdeal.defs (F := Ideal)) (onTc (τ := Cert.NormModReferenceIdeal.τ) (Cert.NormModReferenceIdeal.main (F := Ideal))) ⟨m', fun _ => 0, g'⟩ (fun r => ∀ c : Dev Cert.NormModReferenceIdeal.nD,
          r.2.mem ((c.tc : Thread Cert.NormModReferenceIdeal.nD Cert.NormModReferenceIdeal.τ).loc Cert.NormModReferenceIdeal.main_v81) = v0 c
          ∧ r.2.mem ((c.tc : Thread Cert.NormModReferenceIdeal.nD Cert.NormModReferenceIdeal.τ).loc Cert.NormModReferenceIdeal.main_v84) = v1 c
          ∧ r.2.mem ((c.tc : Thread Cert.NormModReferenceIdeal.nD Cert.NormModReferenceIdeal.τ).loc Cert.NormModReferenceIdeal.main_arg0) = m' ((c.tc : Thread Cert.NormModReferenceIdeal.nD Cert.NormModReferenceIdeal.τ).loc Cert.NormModReferenceIdeal.main_arg0)
          ∧ r.2.mem ((c.tc : Thread Cert.NormModReferenceIdeal.nD Cert.NormModReferenceIdeal.τ).loc Cert.NormModReferenceIdeal.main_arg1) = m' ((c.tc : Thread Cert.NormModReferenceIdeal.nD Cert.NormModReferenceIdeal.τ).loc Cert.NormModReferenceIdeal.main_arg1)
          ∧ r.2.mem ((c.tc : Thread Cert.NormModReferenceIdeal.nD Cert.NormModReferenceIdeal.τ).loc Cert.NormModReferenceIdeal.main_arg2) = m' ((c.tc : Thread Cert.NormModReferenceIdeal.nD Cert.NormModReferenceIdeal.τ).loc Cert.NormModReferenceIdeal.main_arg2))

def Claim : Prop :=
  ∃ (hKernel : Cert.Kernel.Facts) (hKernelIdeal : Cert.KernelIdeal.Facts) (hReferenceIdeal : Cert.ReferenceIdeal.Facts) (hGlaIn : Cert.GlaIn.Facts) (hGlaInIdeal : Cert.GlaInIdeal.Facts) (hGlaInReferenceIdeal : Cert.GlaInReferenceIdeal.Facts) (hSquare : Cert.Square.Facts) (hSquareIdeal : Cert.SquareIdeal.Facts) (hSquareReferenceIdeal : Cert.SquareReferenceIdeal.Facts) (hRwkvK : Cert.RwkvK.Facts) (hRwkvKIdeal : Cert.RwkvKIdeal.Facts) (hRwkvKReferenceIdeal : Cert.RwkvKReferenceIdeal.Facts) (hMlaKv : Cert.MlaKv.Facts) (hMlaKvIdeal : Cert.MlaKvIdeal.Facts) (hMlaKvReferenceIdeal : Cert.MlaKvReferenceIdeal.Facts) (hPeerQ : Cert.PeerQ.Facts) (hPeerQIdeal : Cert.PeerQIdeal.Facts) (hPeerQReferenceIdeal : Cert.PeerQReferenceIdeal.Facts) (hMlaIn : Cert.MlaIn.Facts) (hMlaInIdeal : Cert.MlaInIdeal.Facts) (hMlaInReferenceIdeal : Cert.MlaInReferenceIdeal.Facts) (hMlaUq : Cert.MlaUq.Facts) (hMlaUqIdeal : Cert.MlaUqIdeal.Facts) (hMlaUqReferenceIdeal : Cert.MlaUqReferenceIdeal.Facts) (hRwkvLow : Cert.RwkvLow.Facts) (hRwkvLowIdeal : Cert.RwkvLowIdeal.Facts) (hRwkvLowReferenceIdeal : Cert.RwkvLowReferenceIdeal.Facts) (hGlaGate : Cert.GlaGate.Facts) (hGlaGateIdeal : Cert.GlaGateIdeal.Facts) (hGlaGateReferenceIdeal : Cert.GlaGateReferenceIdeal.Facts) (hNormMod : Cert.NormMod.Facts) (hNormModIdeal : Cert.NormModIdeal.Facts) (hNormModReferenceIdeal : Cert.NormModReferenceIdeal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_GlaIn (hGlaIn := hGlaIn)
    ∧ quiescent_GlaInIdeal (hGlaInIdeal := hGlaInIdeal)
    ∧ quiescent_GlaInReferenceIdeal (hGlaInReferenceIdeal := hGlaInReferenceIdeal)
    ∧ quiescent_Square (hSquare := hSquare)
    ∧ quiescent_SquareIdeal (hSquareIdeal := hSquareIdeal)
    ∧ quiescent_SquareReferenceIdeal (hSquareReferenceIdeal := hSquareReferenceIdeal)
    ∧ quiescent_RwkvK (hRwkvK := hRwkvK)
    ∧ quiescent_RwkvKIdeal (hRwkvKIdeal := hRwkvKIdeal)
    ∧ quiescent_RwkvKReferenceIdeal (hRwkvKReferenceIdeal := hRwkvKReferenceIdeal)
    ∧ quiescent_MlaKv (hMlaKv := hMlaKv)
    ∧ quiescent_MlaKvIdeal (hMlaKvIdeal := hMlaKvIdeal)
    ∧ quiescent_MlaKvReferenceIdeal (hMlaKvReferenceIdeal := hMlaKvReferenceIdeal)
    ∧ quiescent_PeerQ (hPeerQ := hPeerQ)
    ∧ quiescent_PeerQIdeal (hPeerQIdeal := hPeerQIdeal)
    ∧ quiescent_PeerQReferenceIdeal (hPeerQReferenceIdeal := hPeerQReferenceIdeal)
    ∧ quiescent_MlaIn (hMlaIn := hMlaIn)
    ∧ quiescent_MlaInIdeal (hMlaInIdeal := hMlaInIdeal)
    ∧ quiescent_MlaInReferenceIdeal (hMlaInReferenceIdeal := hMlaInReferenceIdeal)
    ∧ quiescent_MlaUq (hMlaUq := hMlaUq)
    ∧ quiescent_MlaUqIdeal (hMlaUqIdeal := hMlaUqIdeal)
    ∧ quiescent_MlaUqReferenceIdeal (hMlaUqReferenceIdeal := hMlaUqReferenceIdeal)
    ∧ quiescent_RwkvLow (hRwkvLow := hRwkvLow)
    ∧ quiescent_RwkvLowIdeal (hRwkvLowIdeal := hRwkvLowIdeal)
    ∧ quiescent_RwkvLowReferenceIdeal (hRwkvLowReferenceIdeal := hRwkvLowReferenceIdeal)
    ∧ quiescent_GlaGate (hGlaGate := hGlaGate)
    ∧ quiescent_GlaGateIdeal (hGlaGateIdeal := hGlaGateIdeal)
    ∧ quiescent_GlaGateReferenceIdeal (hGlaGateReferenceIdeal := hGlaGateReferenceIdeal)
    ∧ quiescent_NormMod (hNormMod := hNormMod)
    ∧ quiescent_NormModIdeal (hNormModIdeal := hNormModIdeal)
    ∧ quiescent_NormModReferenceIdeal (hNormModReferenceIdeal := hNormModReferenceIdeal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_GlaIn_GlaInIdeal
    ∧ algebraic_GlaInIdeal_GlaInReferenceIdeal (hGlaInIdeal := hGlaInIdeal) (hGlaInReferenceIdeal := hGlaInReferenceIdeal)
    ∧ preserves_Square_SquareIdeal
    ∧ algebraic_SquareIdeal_SquareReferenceIdeal (hSquareIdeal := hSquareIdeal) (hSquareReferenceIdeal := hSquareReferenceIdeal)
    ∧ preserves_RwkvK_RwkvKIdeal
    ∧ algebraic_RwkvKIdeal_RwkvKReferenceIdeal (hRwkvKIdeal := hRwkvKIdeal) (hRwkvKReferenceIdeal := hRwkvKReferenceIdeal)
    ∧ preserves_MlaKv_MlaKvIdeal
    ∧ algebraic_MlaKvIdeal_MlaKvReferenceIdeal (hMlaKvIdeal := hMlaKvIdeal) (hMlaKvReferenceIdeal := hMlaKvReferenceIdeal)
    ∧ preserves_PeerQ_PeerQIdeal
    ∧ algebraic_PeerQIdeal_PeerQReferenceIdeal (hPeerQIdeal := hPeerQIdeal) (hPeerQReferenceIdeal := hPeerQReferenceIdeal)
    ∧ preserves_MlaIn_MlaInIdeal
    ∧ algebraic_MlaInIdeal_MlaInReferenceIdeal (hMlaInIdeal := hMlaInIdeal) (hMlaInReferenceIdeal := hMlaInReferenceIdeal)
    ∧ preserves_MlaUq_MlaUqIdeal
    ∧ algebraic_MlaUqIdeal_MlaUqReferenceIdeal (hMlaUqIdeal := hMlaUqIdeal) (hMlaUqReferenceIdeal := hMlaUqReferenceIdeal)
    ∧ preserves_RwkvLow_RwkvLowIdeal
    ∧ algebraic_RwkvLowIdeal_RwkvLowReferenceIdeal (hRwkvLowIdeal := hRwkvLowIdeal) (hRwkvLowReferenceIdeal := hRwkvLowReferenceIdeal)
    ∧ preserves_GlaGate_GlaGateIdeal
    ∧ algebraic_GlaGateIdeal_GlaGateReferenceIdeal (hGlaGateIdeal := hGlaGateIdeal) (hGlaGateReferenceIdeal := hGlaGateReferenceIdeal)
    ∧ preserves_NormMod_NormModIdeal
    ∧ algebraic_NormModIdeal_NormModReferenceIdeal (hNormModIdeal := hNormModIdeal) (hNormModReferenceIdeal := hNormModReferenceIdeal)
-- ==== Pre_scores_finite.lean ====
abbrev S4x4352x6144 : Shape := ⟨3, ![4, 4352, 6144]⟩
abbrev S4x4352x64 : Shape := ⟨3, ![4, 4352, 64]⟩
abbrev S4x4352x8192 : Shape := ⟨3, ![4, 4352, 8192]⟩
abbrev S4x4352x32x256 : Shape := ⟨4, ![4, 4352, 32, 256]⟩
abbrev S4x4352x32x128 : Shape := ⟨4, ![4, 4352, 32, 128]⟩
abbrev S_ : Shape := ⟨0, ![]⟩

class Facts : Prop where
  shapeCasts_S4x4352x8192_S4x4352x32x256 : S4x4352x8192.ShapeCasts S4x4352x32x256
  slices_S4x4352x32x256_S4x4352x32x128_0_0_0_0 : S4x4352x32x256.Slices ![0, 0, 0, 0] S4x4352x32x128
  bcast_S_S4x4352x6144 : S_.BroadcastsInDim S4x4352x6144 (![] : Fin 0 → Fin S4x4352x6144.rank)
  reducesTo_S4x4352x6144_S_d0_1_2 : S4x4352x6144.ReducesTo [0, 1, 2] S_
  h_S_ : 0 < S_.numel
  bcast_S_S4x4352x64 : S_.BroadcastsInDim S4x4352x64 (![] : Fin 0 → Fin S4x4352x64.rank)
  reducesTo_S4x4352x64_S_d0_1_2 : S4x4352x64.ReducesTo [0, 1, 2] S_
  bcast_S_S4x4352x32x128 : S_.BroadcastsInDim S4x4352x32x128 (![] : Fin 0 → Fin S4x4352x32x128.rank)
  reducesTo_S4x4352x32x128_S_d0_1_2_3 : S4x4352x32x128.ReducesTo [0, 1, 2, 3] S_

variable [Facts]

def fn {F : FTy → Type} [FloatOps F] (main_arg0 : FVec F S4x4352x6144 .f32) (main_arg1 : FVec F S4x4352x64 .f32) (main_arg2 : FVec F S4x4352x8192 .f32) : IVec S_ 1 :=
  let main_v0 : FVec F S4x4352x32x256 .f32 := shapeCast S4x4352x32x256 main_arg2 shapeCasts_S4x4352x8192_S4x4352x32x256
  let main_v1 : FVec F S4x4352x32x128 .f32 := (extractStridedSlice S4x4352x32x128 ![0, 0, 0, 0] · slices_S4x4352x32x256_S4x4352x32x128_0_0_0_0) main_v0
  let main_v2 : FVec F S4x4352x6144 .f32 := Host.absf main_arg0
  let main_cst : FVec F S_ .f32 := constant S_ .f32 0x7F800000#32
  let main_v3 : FVec F S4x4352x6144 .f32 := broadcastInDim S4x4352x6144 ![] bcast_S_S4x4352x6144 main_cst
  let main_v4 : IVec S4x4352x6144 1 := cmpf .olt main_v2 main_v3
  let main_c : IVec S_ 1 := constantI S_ 1 1#1
  let main_v5 : IVec S_ 1 := (fun x v => Host.reduce IntOp.andi x v reducesTo_S4x4352x6144_S_d0_1_2 h_S_) main_v4 main_c
  let main_v6 : FVec F S4x4352x64 .f32 := Host.absf main_arg1
  let main_cst_0 : FVec F S_ .f32 := constant S_ .f32 0x7F800000#32
  let main_v7 : FVec F S4x4352x64 .f32 := broadcastInDim S4x4352x64 ![] bcast_S_S4x4352x64 main_cst_0
  let main_v8 : IVec S4x4352x64 1 := cmpf .olt main_v6 main_v7
  let main_c_1 : IVec S_ 1 := constantI S_ 1 1#1
  let main_v9 : IVec S_ 1 := (fun x v => Host.reduce IntOp.andi x v reducesTo_S4x4352x64_S_d0_1_2 h_S_) main_v8 main_c_1
  let main_v10 : IVec S_ 1 := andi main_v5 main_v9
  let main_v11 : FVec F S4x4352x32x128 .f32 := Host.absf main_v1
  let main_cst_2 : FVec F S_ .f32 := constant S_ .f32 0x7F800000#32
  let main_v12 : FVec F S4x4352x32x128 .f32 := broadcastInDim S4x4352x32x128 ![] bcast_S_S4x4352x32x128 main_cst_2
  let main_v13 : IVec S4x4352x32x128 1 := cmpf .olt main_v11 main_v12
  let main_c_3 : IVec S_ 1 := constantI S_ 1 1#1
  let main_v14 : IVec S_ 1 := (fun x v => Host.reduce IntOp.andi x v reducesTo_S4x4352x32x128_S_d0_1_2_3 h_S_) main_v13 main_c_3
  let main_v15 : IVec S_ 1 := andi main_v10 main_v14
  main_v15
-- ==== Kernel.lean ====
abbrev S4x4352x6144 : Shape := ⟨3, ![4, 4352, 6144]⟩
abbrev S4x4352x64 : Shape := ⟨3, ![4, 4352, 64]⟩
abbrev S4x4352x8192 : Shape := ⟨3, ![4, 4352, 8192]⟩
abbrev S32 : Shape := ⟨1, ![32]⟩
abbrev S_ : Shape := ⟨0, ![]⟩
abbrev S128 : Shape := ⟨1, ![128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S256x32 : Shape := ⟨2, ![256, 32]⟩
abbrev S4352x32 : Shape := ⟨2, ![4352, 32]⟩
abbrev S4352x128 : Shape := ⟨2, ![4352, 128]⟩
abbrev S32x1 : Shape := ⟨2, ![32, 1]⟩
abbrev S256 : Shape := ⟨1, ![256]⟩
abbrev S1x256 : Shape := ⟨2, ![1, 256]⟩
abbrev S32x256 : Shape := ⟨2, ![32, 256]⟩
abbrev S8192 : Shape := ⟨1, ![8192]⟩
abbrev S8192x1 : Shape := ⟨2, ![8192, 1]⟩
abbrev S128x1 : Shape := ⟨2, ![128, 1]⟩
abbrev S4x4352x128 : Shape := ⟨3, ![4, 4352, 128]⟩
abbrev S1x4352x128 : Shape := ⟨3, ![1, 4352, 128]⟩
abbrev S4x4352x4096 : Shape := ⟨3, ![4, 4352, 4096]⟩
abbrev S1x256x256 : Shape := ⟨3, ![1, 256, 256]⟩
abbrev S256x128 : Shape := ⟨2, ![256, 128]⟩
abbrev S1x256x128 : Shape := ⟨3, ![1, 256, 128]⟩
abbrev S4352x256 : Shape := ⟨2, ![4352, 256]⟩
abbrev S256x256 : Shape := ⟨2, ![256, 256]⟩
abbrev S256x1 : Shape := ⟨2, ![256, 1]⟩
abbrev S2176x256 : Shape := ⟨2, ![2176, 256]⟩
abbrev S256x2176 : Shape := ⟨2, ![256, 2176]⟩

abbrev nBuf : Space → Nat
  | .hbm => 104
  | .vmem => 16
  | .smem => 0
  | _ => 0

abbrev bufTy : (tb : Table) → Fin (tcTables nBuf tb) → BufTy
  | .hbm, ⟨0, _⟩ => ⟨S4x4352x6144, .f32⟩
  | .hbm, ⟨1, _⟩ => ⟨S4x4352x64, .f32⟩
  | .hbm, ⟨2, _⟩ => ⟨S4x4352x8192, .f32⟩
  | .hbm, ⟨3, _⟩ => ⟨S32, .i32⟩
  | .hbm, ⟨4, _⟩ => ⟨S_, .i32⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S128, .i32⟩
  | .hbm, ⟨18, _⟩ => ⟨S64, .f32⟩
  | .hbm, ⟨19, _⟩ => ⟨S64x64, .f32⟩
  | .hbm, ⟨20, _⟩ => ⟨S4096, .f32⟩
  | .hbm, ⟨21, _⟩ => ⟨S64, .f32⟩
  | .hbm, ⟨22, _⟩ => ⟨S1x64, .f32⟩
  | .hbm, ⟨23, _⟩ => ⟨S64x64, .f32⟩
  | .hbm, ⟨24, _⟩ => ⟨S4096, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S4096x1, .f32⟩
  | .hbm, ⟨34, _⟩ => ⟨S1x16, .f32⟩
  | .hbm, ⟨35, _⟩ => ⟨S4096x16, .f32⟩
  | .hbm, ⟨36, _⟩ => ⟨S4096x16, .f32⟩
  | .hbm, ⟨37, _⟩ => ⟨S4096x16, .f32⟩
  | .hbm, ⟨38, _⟩ => ⟨S4096x1, .f32⟩
  | .hbm, ⟨39, _⟩ => ⟨S1x16, .f32⟩
  | .hbm, ⟨40, _⟩ => ⟨S4096x16, .f32⟩
  | .hbm, ⟨41, _⟩ => ⟨S4096x16, .f32⟩
  | .hbm, ⟨42, _⟩ => ⟨S4096x16, .f32⟩
  | .hbm, ⟨43, _⟩ => ⟨S4096x32, .f32⟩
  | .hbm, ⟨44, _⟩ => ⟨S_, .f32⟩
  | .hbm, ⟨45, _⟩ => ⟨S256x32, .f32⟩
  | .hbm, ⟨46, _⟩ => ⟨S4096x32, .f32⟩
  | .hbm, ⟨47, _⟩ => ⟨S4352x32, .f32⟩
  | .hbm, ⟨48, _⟩ => ⟨S_, .f32⟩
  | .hbm, ⟨49, _⟩ => ⟨S256x32, .f32⟩
  | .hbm, ⟨50, _⟩ => ⟨S4096x32, .f32⟩
  | .hbm, ⟨51, _⟩ => ⟨S4352x32, .f32⟩
  | .hbm, ⟨52, _⟩ => ⟨S_, .f32⟩
  | .hbm, ⟨53, _⟩ => ⟨S4352x32, .f32⟩
  | .hbm, ⟨54, _⟩ => ⟨S4352x128, .f32⟩
  | .hbm, ⟨55, _⟩ => ⟨S4352x32, .f32⟩
  | .hbm, ⟨56, _⟩ => ⟨S4352x128, .f32⟩
  | .hbm, ⟨57, _⟩ => ⟨S32, .i32⟩
  | .hbm, ⟨58, _⟩ => ⟨S32x1, .i32⟩
  | .hbm, ⟨59, _⟩ => ⟨S_, .i32⟩
  | .hbm, ⟨60, _⟩ => ⟨S32x1, .i32⟩
  | .hbm, ⟨61, _⟩ => ⟨S32x1, .i32⟩
  | .hbm, ⟨62, _⟩ => ⟨S128, .i32⟩
  | .hbm, ⟨63, _⟩ => ⟨S_, .i32⟩
  | .hbm, ⟨64, _⟩ => ⟨S128, .i32⟩
  | .hbm, ⟨65, _⟩ => ⟨S128, .i32⟩
  | .hbm, ⟨66, _⟩ => ⟨S256, .i32⟩
  | .hbm, ⟨67, _⟩ => ⟨S1x256, .i32⟩
  | .hbm, ⟨68, _⟩ => ⟨S32x256, .i32⟩
  | .hbm, ⟨69, _⟩ => ⟨S32x256, .i32⟩
  | .hbm, ⟨70, _⟩ => ⟨S32x256, .i32⟩
  | .hbm, ⟨71, _⟩ => ⟨S8192, .i32⟩
  | .hbm, ⟨72, _⟩ => ⟨S_, .i32⟩
  | .hbm, ⟨73, _⟩ => ⟨S8192, .i32⟩
  | .hbm, ⟨74, _⟩ => ⟨S8192, .i1⟩
  | .hbm, ⟨75, _⟩ => ⟨S_, .i32⟩
  | .hbm, ⟨76, _⟩ => ⟨S8192, .i32⟩
  | .hbm, ⟨77, _⟩ => ⟨S8192, .i32⟩
  | .hbm, ⟨78, _⟩ => ⟨S8192, .i32⟩
  | .hbm, ⟨79, _⟩ => ⟨S8192x1, .i32⟩
  | .hbm, ⟨80, _⟩ => ⟨S4x4352x8192, .f32⟩
  | .hbm, ⟨81, _⟩ => ⟨S4x4352x8192, .bf16⟩
  | .hbm, ⟨82, _⟩ => ⟨S4x4352x8192, .bf16⟩
  | .hbm, ⟨83, _⟩ => ⟨S_, .i32⟩
  | .hbm, ⟨84, _⟩ => ⟨S128, .i32⟩
  | .hbm, ⟨85, _⟩ => ⟨S128, .i1⟩
  | .hbm, ⟨86, _⟩ => ⟨S_, .i32⟩
  | .hbm, ⟨87, _⟩ => ⟨S128, .i32⟩
  | .hbm, ⟨88, _⟩ => ⟨S128, .i32⟩
  | .hbm, ⟨89, _⟩ => ⟨S128, .i32⟩
  | .hbm, ⟨90, _⟩ => ⟨S128x1, .i32⟩
  | .hbm, ⟨91, _⟩ => ⟨S4x4352x128, .f32⟩
  | .hbm, ⟨92, _⟩ => ⟨S1x4352x128, .f32⟩
  | .hbm, ⟨93, _⟩ => ⟨S4x4352x128, .f32⟩
  | .hbm, ⟨94, _⟩ => ⟨S4x4352x128, .f32⟩
  | .hbm, ⟨95, _⟩ => ⟨S4x4352x64, .f32⟩
  | .hbm, ⟨96, _⟩ => ⟨S4x4352x64, .f32⟩
  | .hbm, ⟨97, _⟩ => ⟨S4x4352x128, .f32⟩
  | .hbm, ⟨98, _⟩ => ⟨S1x4352x128, .f32⟩
  | .hbm, ⟨99, _⟩ => ⟨S4x4352x128, .f32⟩
  | .hbm, ⟨100, _⟩ => ⟨S4x4352x128, .f32⟩
  | .hbm, ⟨101, _⟩ => ⟨S4x4352x128, .f32⟩
  | .hbm, ⟨102, _⟩ => ⟨S4x4352x128, .bf16⟩
  | .hbm, ⟨103, _⟩ => ⟨S4x4352x4096, .bf16⟩
  | .local _ .vmem, ⟨0, _⟩ => ⟨S1x256x256, .bf16⟩
  | .local _ .vmem, ⟨1, _⟩ => ⟨S1x256x256, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x4352x128, .bf16⟩
  | .local _ .vmem, ⟨7, _⟩ => ⟨S1x4352x128, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x256x128, .bf16⟩
  | .local _ .vmem, ⟨13, _⟩ => ⟨S1x256x128, .bf16⟩
  | .local _ .vmem, ⟨14, _⟩ => ⟨S4352x256, .bf16⟩
  | .local _ .vmem, ⟨15, _⟩ => ⟨S4352x256, .bf16⟩
  | _, _ => ⟨S4x4352x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_c_8 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_c_9 : Ref sig .tc := ⟨.hbm, 72, rfl⟩
abbrev main_v58 : Ref sig .tc := ⟨.hbm, 73, rfl⟩
abbrev main_v59 : Ref sig .tc := ⟨.hbm, 74, rfl⟩
abbrev main_c_10 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_c_11 : Ref sig .tc := ⟨.hbm, 83, rfl⟩
abbrev main_v67 : Ref sig .tc := ⟨.hbm, 84, rfl⟩
abbrev main_v68 : Ref sig .tc := ⟨.hbm, 85, rfl⟩
abbrev main_c_12 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_call0_v0 : Ref sig .tc := ⟨.hbm, 95, rfl⟩
abbrev main_call0_v1 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 32, 17], ![false, false, false]⟩

def k0_cond2 (i : grid0.Coords) : BitVec 1 :=
  let arg2 : BitVec 32 := BitVec.ofNat 32 (i 2).val
  let c1_i32 : BitVec 32 := 1#32
  let v20 : BitVec 1 := Scalar.cmpi .slt arg2 c1_i32
  let v21 : BitVec 32 := Scalar.extui v20
  let c0_i32_7 : BitVec 32 := 0#32
  let v22 : BitVec 1 := Scalar.cmpi .ne v21 c0_i32_7
  v22

def k0_cond3 (i : grid0.Coords) : BitVec 1 :=
  let arg2 : BitVec 32 := BitVec.ofNat 32 (i 2).val
  let c1_i32_8 : BitVec 32 := 1#32
  let v23 : BitVec 1 := Scalar.cmpi .sge arg2 c1_i32_8
  let v24 : BitVec 32 := Scalar.extui v23
  let c0_i32_9 : BitVec 32 := 0#32
  let v25 : BitVec 1 := Scalar.cmpi .ne v24 c0_i32_9
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![arg0.toNat, c0_i32.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "qscale" => some (((Real.log 2)⁻¹ * (Real.sqrt 192)⁻¹ : ℝ) : EReal)
  | _ => none
-- ==== ReferenceIdeal.lean ====
abbrev S4x4352x6144 : Shape := ⟨3, ![4, 4352, 6144]⟩
abbrev S4x4352x64 : Shape := ⟨3, ![4, 4352, 64]⟩
abbrev S4x4352x8192 : Shape := ⟨3, ![4, 4352, 8192]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4x4352x32x192 : Shape := ⟨4, ![4, 4352, 32, 192]⟩
abbrev S4x4352x32x256 : Shape := ⟨4, ![4, 4352, 32, 256]⟩
abbrev S4x4352x32x128 : Shape := ⟨4, ![4, 4352, 32, 128]⟩
abbrev S4x4352x32x64 : Shape := ⟨4, ![4, 4352, 32, 64]⟩
abbrev S4x4096x32x64 : Shape := ⟨4, ![4, 4096, 32, 64]⟩
abbrev S4096x1x32 : Shape := ⟨3, ![4096, 1, 32]⟩
abbrev S4x4096x32x32x2 : Shape := ⟨5, ![4, 4096, 32, 32, 2]⟩
abbrev S4x4096x32x32x1 : Shape := ⟨5, ![4, 4096, 32, 32, 1]⟩
abbrev S4x4096x32x32 : Shape := ⟨4, ![4, 4096, 32, 32]⟩
abbrev S1x4096x1x32 : Shape := ⟨4, ![1, 4096, 1, 32]⟩
abbrev S4x256x64 : Shape := ⟨3, ![4, 256, 64]⟩
abbrev S4x4096x64 : Shape := ⟨3, ![4, 4096, 64]⟩
abbrev S4x4096x32x2 : Shape := ⟨4, ![4, 4096, 32, 2]⟩
abbrev S4x4096x32x1 : Shape := ⟨4, ![4, 4096, 32, 1]⟩
abbrev S4x4096x32 : Shape := ⟨3, ![4, 4096, 32]⟩
abbrev S1x4096x32 : Shape := ⟨3, ![1, 4096, 32]⟩
abbrev S4x4096x32x128 : Shape := ⟨4, ![4, 4096, 32, 128]⟩
abbrev S4x32x4096x4352 : Shape := ⟨4, ![4, 32, 4096, 4352]⟩
abbrev S4x4352x4096x32 : Shape := ⟨4, ![4, 4352, 4096, 32]⟩
abbrev S4x32x4096 : Shape := ⟨3, ![4, 32, 4096]⟩
abbrev S4x32x4096x1 : Shape := ⟨4, ![4, 32, 4096, 1]⟩
abbrev S4x32x128x4096 : Shape := ⟨4, ![4, 32, 128, 4096]⟩
abbrev S4x256x32x128 : Shape := ⟨4, ![4, 256, 32, 128]⟩
abbrev S4x256x32x64 : Shape := ⟨4, ![4, 256, 32, 64]⟩
abbrev S4x32x256x256 : Shape := ⟨4, ![4, 32, 256, 256]⟩
abbrev S4x256x256x32 : Shape := ⟨4, ![4, 256, 256, 32]⟩
abbrev S4x32x256 : Shape := ⟨3, ![4, 32, 256]⟩
abbrev S4x32x256x1 : Shape := ⟨4, ![4, 32, 256, 1]⟩
abbrev S4x32x128x256 : Shape := ⟨4, ![4, 32, 128, 256]⟩
abbrev S4x4352x4096 : Shape := ⟨3, ![4, 4352, 4096]⟩

abbrev nBuf : Space → Nat
  | .hbm => 145
  | .vmem => 0
  | .smem => 0
  | _ => 0

abbrev hbmTy0_0 (i : Nat) : BufTy := match i % 128 with
  | 0 => ⟨S4x4352x6144, .f32⟩
  | 1 => ⟨S4x4352x64, .f32⟩
  | 2 => ⟨S4x4352x8192, .f32⟩
  | 3 => ⟨S64, .f32⟩
  | 4 => ⟨S64x64, .f32⟩
  | 5 => ⟨S4096, .f32⟩
  | 6 => ⟨S64, .f32⟩
  | 7 => ⟨S1x64, .f32⟩
  | 8 => ⟨S64x64, .f32⟩
  | 9 => ⟨S4096, .f32⟩
  | 10 => ⟨S16, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S4096x1, .f32⟩
  | 19 => ⟨S1x16, .f32⟩
  | 20 => ⟨S4096x16, .f32⟩
  | 21 => ⟨S4096x16, .f32⟩
  | 22 => ⟨S4096x16, .f32⟩
  | 23 => ⟨S4096x1, .f32⟩
  | 24 => ⟨S1x16, .f32⟩
  | 25 => ⟨S4096x16, .f32⟩
  | 26 => ⟨S4096x16, .f32⟩
  | 27 => ⟨S4096x16, .f32⟩
  | 28 => ⟨S4096x32, .f32⟩
  | 29 => ⟨S4096x32, .f32⟩
  | 30 => ⟨S4096x32, .f32⟩
  | 31 => ⟨S4x4352x32x192, .f32⟩
  | 32 => ⟨S4x4352x32x256, .f32⟩
  | 33 => ⟨S4x4352x32x128, .f32⟩
  | 34 => ⟨S4x4352x32x64, .f32⟩
  | 35 => ⟨S4x4352x32x128, .f32⟩
  | 36 => ⟨S4x4352x32x128, .f32⟩
  | 37 => ⟨S4x4096x32x64, .f32⟩
  | 38 => ⟨S4096x1x32, .f32⟩
  | 39 => ⟨S4096x1x32, .f32⟩
  | 40 => ⟨S4x4096x32x32x2, .f32⟩
  | 41 => ⟨S4x4096x32x32x1, .f32⟩
  | 42 => ⟨S4x4096x32x32, .f32⟩
  | 43 => ⟨S4x4096x32x32x1, .f32⟩
  | 44 => ⟨S4x4096x32x32, .f32⟩
  | 45 => ⟨S1x4096x1x32, .f32⟩
  | 46 => ⟨S4x4096x32x32, .f32⟩
  | 47 => ⟨S4x4096x32x32, .f32⟩
  | 48 => ⟨S1x4096x1x32, .f32⟩
  | 49 => ⟨S4x4096x32x32, .f32⟩
  | 50 => ⟨S4x4096x32x32, .f32⟩
  | 51 => ⟨S4x4096x32x32, .f32⟩
  | 52 => ⟨S1x4096x1x32, .f32⟩
  | 53 => ⟨S4x4096x32x32, .f32⟩
  | 54 => ⟨S4x4096x32x32, .f32⟩
  | 55 => ⟨S1x4096x1x32, .f32⟩
  | 56 => ⟨S4x4096x32x32, .f32⟩
  | 57 => ⟨S4x4096x32x32, .f32⟩
  | 58 => ⟨S4x4096x32x32, .f32⟩
  | 59 => ⟨S4x4096x32x32x1, .f32⟩
  | 60 => ⟨S4x4096x32x32x1, .f32⟩
  | 61 => ⟨S4x4096x32x32x2, .f32⟩
  | 62 => ⟨S4x4096x32x64, .f32⟩
  | 63 => ⟨S4x256x64, .f32⟩
  | 64 => ⟨S4x4096x64, .f32⟩
  | 65 => ⟨S4x4096x32x2, .f32⟩
  | 66 => ⟨S4x4096x32x1, .f32⟩
  | 67 => ⟨S4x4096x32, .f32⟩
  | 68 => ⟨S4x4096x32x1, .f32⟩
  | 69 => ⟨S4x4096x32, .f32⟩
  | 70 => ⟨S1x4096x32, .f32⟩
  | 71 => ⟨S4x4096x32, .f32⟩
  | 72 => ⟨S4x4096x32, .f32⟩
  | 73 => ⟨S1x4096x32, .f32⟩
  | 74 => ⟨S4x4096x32, .f32⟩
  | 75 => ⟨S4x4096x32, .f32⟩
  | 76 => ⟨S4x4096x32, .f32⟩
  | 77 => ⟨S1x4096x32, .f32⟩
  | 78 => ⟨S4x4096x32, .f32⟩
  | 79 => ⟨S4x4096x32, .f32⟩
  | 80 => ⟨S1x4096x32, .f32⟩
  | 81 => ⟨S4x4096x32, .f32⟩
  | 82 => ⟨S4x4096x32, .f32⟩
  | 83 => ⟨S4x4096x32, .f32⟩
  | 84 => ⟨S4x4096x32x1, .f32⟩
  | 85 => ⟨S4x4096x32x1, .f32⟩
  | 86 => ⟨S4x4096x32x2, .f32⟩
  | 87 => ⟨S4x4096x64, .f32⟩
  | 88 => ⟨S4x4096x32x128, .f32⟩
  | 89 => ⟨S4x4352x64, .f32⟩
  | 90 => ⟨S4x32x4096x4352, .f32⟩
  | 91 => ⟨S4x4352x4096x32, .f32⟩
  | 92 => ⟨S4x32x4096x4352, .f32⟩
  | 93 => ⟨S4x32x4096x4352, .f32⟩
  | 94 => ⟨S_, .f32⟩
  | 95 => ⟨S_, .f32⟩
  | 96 => ⟨S4x32x4096x4352, .f32⟩
  | 97 => ⟨S4x32x4096x4352, .f32⟩
  | 98 => ⟨S_, .f32⟩
  | 99 => ⟨S4x32x4096, .f32⟩
  | 100 => ⟨S_, .f32⟩
  | 101 => ⟨S4x32x4096, .f32⟩
  | 102 => ⟨S4x32x4096, .f32⟩
  | 103 => ⟨S4x32x4096x1, .f32⟩
  | 104 => ⟨S4x32x4096x4352, .f32⟩
  | 105 => ⟨S4x32x4096x4352, .f32⟩
  | 106 => ⟨S4x32x4096x4352, .f32⟩
  | 107 => ⟨S_, .f32⟩
  | 108 => ⟨S4x32x4096, .f32⟩
  | 109 => ⟨S4x32x4096x1, .f32⟩
  | 110 => ⟨S4x32x4096x4352, .f32⟩
  | 111 => ⟨S4x32x4096x4352, .f32⟩
  | 112 => ⟨S4x32x128x4096, .f32⟩
  | 113 => ⟨S4x4096x32x128, .f32⟩
  | 114 => ⟨S4x256x32x128, .f32⟩
  | 115 => ⟨S4x256x32x64, .f32⟩
  | 116 => ⟨S4x256x32x128, .f32⟩
  | 117 => ⟨S4x256x32x128, .f32⟩
  | 118 => ⟨S4x32x256x256, .f32⟩
  | 119 => ⟨S4x256x256x32, .f32⟩
  | 120 => ⟨S4x32x256x256, .f32⟩
  | 121 => ⟨S4x32x256x256, .f32⟩
  | 122 => ⟨S_, .f32⟩
  | 123 => ⟨S_, .f32⟩
  | 124 => ⟨S4x32x256x256, .f32⟩
  | 125 => ⟨S4x32x256x256, .f32⟩
  | 126 => ⟨S_, .f32⟩
  | 127 => ⟨S4x32x256, .f32⟩
  | _ => ⟨S4x4352x6144, .f32⟩

abbrev hbmTy0_1 (i : Nat) : BufTy := match i % 128 with
  | 0 => ⟨S_, .f32⟩
  | 1 => ⟨S4x32x256, .f32⟩
  | 2 => ⟨S4x32x256, .f32⟩
  | 3 => ⟨S4x32x256x1, .f32⟩
  | 4 => ⟨S4x32x256x256, .f32⟩
  | 5 => ⟨S4x32x256x256, .f32⟩
  | 6 => ⟨S4x32x256x256, .f32⟩
  | 7 => ⟨S_, .f32⟩
  | 8 => ⟨S4x32x256, .f32⟩
  | 9 => ⟨S4x32x256x1, .f32⟩
  | 10 => ⟨S4x32x256x256, .f32⟩
  | 11 => ⟨S4x32x256x256, .f32⟩
  | 12 => ⟨S4x32x128x256, .f32⟩
  | 13 => ⟨S4x256x32x128, .f32⟩
  | 14 => ⟨S4x4352x32x128, .f32⟩
  | 15 => ⟨S4x4352x4096, .f32⟩
  | 16 => ⟨S4x4352x4096, .bf16⟩
  | _ => ⟨S4x4352x6144, .f32⟩

abbrev hbmTy (i : Nat) : BufTy := match i / 128 with
  | 0 => hbmTy0_0 i
  | 1 => hbmTy0_1 i
  | _ => ⟨S4x4352x6144, .f32⟩

abbrev bufTy : (tb : Table) → Fin (tcTables nBuf tb) → BufTy
  | .hbm, ⟨i, _⟩ => hbmTy i
  | _, _ => ⟨S4x4352x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_cst_1 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_cst_2 : Ref sig .tc := ⟨.hbm, 98, rfl⟩
abbrev main_v92 : Ref sig .tc := ⟨.hbm, 99, rfl⟩
abbrev main_cst_3 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_cst_4 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_cst_5 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_cst_6 : Ref sig .tc := ⟨.hbm, 126, rfl⟩
abbrev main_v116 : Ref sig .tc := ⟨.hbm, 127, rfl⟩
abbrev main_cst_7 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_cst_8 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩

abbrev nD : Nat := 1
abbrev τ : Topo := Topo.v7x

variable {F : FTy → Type} [FloatOps F]
-- ==== GlaIn.lean ====
abbrev S4x4352x4096 : Shape := ⟨3, ![4, 4352, 4096]⟩
abbrev S4096x12288 : Shape := ⟨2, ![4096, 12288]⟩
abbrev S17408x4096 : Shape := ⟨2, ![17408, 4096]⟩
abbrev S17408x12288 : Shape := ⟨2, ![17408, 12288]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S4x4352x4096, .f32⟩
  | .hbm, ⟨1, _⟩ => ⟨S4096x12288, .f32⟩
  | .hbm, ⟨2, _⟩ => ⟨S17408x4096, .f32⟩
  | .hbm, ⟨3, _⟩ => ⟨S17408x4096, .bf16⟩
  | .hbm, ⟨4, _⟩ => ⟨S4096x12288, .bf16⟩
  | .hbm, ⟨5, _⟩ => ⟨S17408x12288, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4x4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GlaInReferenceIdeal.lean ====
abbrev S4x4352x4096 : Shape := ⟨3, ![4, 4352, 4096]⟩
abbrev S4096x12288 : Shape := ⟨2, ![4096, 12288]⟩
abbrev S4x4352x12288 : Shape := ⟨3, ![4, 4352, 12288]⟩
abbrev S17408x12288 : Shape := ⟨2, ![17408, 12288]⟩

abbrev nBuf : Space → Nat
  | .hbm => 5
  | .vmem => 0
  | .smem => 0
  | _ => 0

abbrev bufTy : (tb : Table) → Fin (tcTables nBuf tb) → BufTy
  | .hbm, ⟨0, _⟩ => ⟨S4x4352x4096, .f32⟩
  | .hbm, ⟨1, _⟩ => ⟨S4096x12288, .f32⟩
  | .hbm, ⟨2, _⟩ => ⟨S4x4352x12288, .f32⟩
  | .hbm, ⟨3, _⟩ => ⟨S17408x12288, .f32⟩
  | .hbm, ⟨4, _⟩ => ⟨S17408x12288, .bf16⟩
  | _, _ => ⟨S4x4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Square.lean ====
abbrev S4x4352x4096 : Shape := ⟨3, ![4, 4352, 4096]⟩
abbrev S4096x4096 : Shape := ⟨2, ![4096, 4096]⟩
abbrev S17408x4096 : Shape := ⟨2, ![17408, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S4x4352x4096, .f32⟩
  | .hbm, ⟨1, _⟩ => ⟨S4096x4096, .f32⟩
  | .hbm, ⟨2, _⟩ => ⟨S17408x4096, .f32⟩
  | .hbm, ⟨3, _⟩ => ⟨S17408x4096, .bf16⟩
  | .hbm, ⟨4, _⟩ => ⟨S4096x4096, .bf16⟩
  | .hbm, ⟨5, _⟩ => ⟨S17408x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4x4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SquareReferenceIdeal.lean ====
abbrev S4x4352x4096 : Shape := ⟨3, ![4, 4352, 4096]⟩
abbrev S4096x4096 : Shape := ⟨2, ![4096, 4096]⟩
abbrev S17408x4096 : Shape := ⟨2, ![17408, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4x4352x4096, .f32⟩
  | .hbm, ⟨1, _⟩ => ⟨S4096x4096, .f32⟩
  | .hbm, ⟨2, _⟩ => ⟨S4x4352x4096, .f32⟩
  | .hbm, ⟨3, _⟩ => ⟨S17408x4096, .f32⟩
  | .hbm, ⟨4, _⟩ => ⟨S17408x4096, .bf16⟩
  | _, _ => ⟨S4x4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== RwkvK.lean ====
abbrev S4x4352x4096 : Shape := ⟨3, ![4, 4352, 4096]⟩
abbrev S4096x4096 : Shape := ⟨2, ![4096, 4096]⟩
abbrev S17408x4096 : Shape := ⟨2, ![17408, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S4x4352x4096, .f32⟩
  | .hbm, ⟨1, _⟩ => ⟨S4096x4096, .f32⟩
  | .hbm, ⟨2, _⟩ => ⟨S17408x4096, .f32⟩
  | .hbm, ⟨3, _⟩ => ⟨S17408x4096, .bf16⟩
  | .hbm, ⟨4, _⟩ => ⟨S4096x4096, .bf16⟩
  | .hbm, ⟨5, _⟩ => ⟨S17408x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4x4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RwkvKReferenceIdeal.lean ====
abbrev S4x4352x4096 : Shape := ⟨3, ![4, 4352, 4096]⟩
abbrev S4096x4096 : Shape := ⟨2, ![4096, 4096]⟩
abbrev S17408x4096 : Shape := ⟨2, ![17408, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x4352x4096, .f32⟩
  | .hbm, ⟨1, _⟩ => ⟨S4096x4096, .f32⟩
  | .hbm, ⟨2, _⟩ => ⟨S4x4352x4096, .f32⟩
  | .hbm, ⟨3, _⟩ => ⟨S17408x4096, .f32⟩
  | _, _ => ⟨S4x4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MlaKv.lean ====
abbrev S4x4352x512 : Shape := ⟨3, ![4, 4352, 512]⟩
abbrev S512x8192 : Shape := ⟨2, ![512, 8192]⟩
abbrev S17408x512 : Shape := ⟨2, ![17408, 512]⟩
abbrev S17408x8192 : Shape := ⟨2, ![17408, 8192]⟩
abbrev S1024x512 : Shape := ⟨2, ![1024, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S4x4352x512, .f32⟩
  | .hbm, ⟨1, _⟩ => ⟨S512x8192, .f32⟩
  | .hbm, ⟨2, _⟩ => ⟨S17408x512, .f32⟩
  | .hbm, ⟨3, _⟩ => ⟨S17408x512, .bf16⟩
  | .hbm, ⟨4, _⟩ => ⟨S512x8192, .bf16⟩
  | .hbm, ⟨5, _⟩ => ⟨S17408x8192, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .bf16⟩
  | _, _ => ⟨S4x4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlaKvReferenceIdeal.lean ====
abbrev S4x4352x512 : Shape := ⟨3, ![4, 4352, 512]⟩
abbrev S512x8192 : Shape := ⟨2, ![512, 8192]⟩
abbrev S4x4352x8192 : Shape := ⟨3, ![4, 4352, 8192]⟩
abbrev S17408x8192 : Shape := ⟨2, ![17408, 8192]⟩

abbrev nBuf : Space → Nat
  | .hbm => 5
  | .vmem => 0
  | .smem => 0
  | _ => 0

abbrev bufTy : (tb : Table) → Fin (tcTables nBuf tb) → BufTy
  | .hbm, ⟨0, _⟩ => ⟨S4x4352x512, .f32⟩
  | .hbm, ⟨1, _⟩ => ⟨S512x8192, .f32⟩
  | .hbm, ⟨2, _⟩ => ⟨S4x4352x8192, .f32⟩
  | .hbm, ⟨3, _⟩ => ⟨S17408x8192, .f32⟩
  | .hbm, ⟨4, _⟩ => ⟨S17408x8192, .bf16⟩
  | _, _ => ⟨S4x4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PeerQ.lean ====
abbrev S4x4352x4096 : Shape := ⟨3, ![4, 4352, 4096]⟩
abbrev S4096x2048 : Shape := ⟨2, ![4096, 2048]⟩
abbrev S17408x4096 : Shape := ⟨2, ![17408, 4096]⟩
abbrev S4096x17408 : Shape := ⟨2, ![4096, 17408]⟩
abbrev S2048x4096 : Shape := ⟨2, ![2048, 4096]⟩
abbrev S2048x17408 : Shape := ⟨2, ![2048, 17408]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 8
  | .vmem => 6
  | .smem => 0
  | _ => 0

abbrev bufTy : (tb : Table) → Fin (tcTables nBuf tb) → BufTy
  | .hbm, ⟨0, _⟩ => ⟨S4x4352x4096, .f32⟩
  | .hbm, ⟨1, _⟩ => ⟨S4096x2048, .f32⟩
  | .hbm, ⟨2, _⟩ => ⟨S17408x4096, .f32⟩
  | .hbm, ⟨3, _⟩ => ⟨S4096x17408, .f32⟩
  | .hbm, ⟨4, _⟩ => ⟨S4096x17408, .bf16⟩
  | .hbm, ⟨5, _⟩ => ⟨S2048x4096, .f32⟩
  | .hbm, ⟨6, _⟩ => ⟨S2048x4096, .bf16⟩
  | .hbm, ⟨7, _⟩ => ⟨S2048x17408, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4x4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 34], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PeerQReferenceIdeal.lean ====
abbrev S4x4352x4096 : Shape := ⟨3, ![4, 4352, 4096]⟩
abbrev S4096x2048 : Shape := ⟨2, ![4096, 2048]⟩
abbrev S4x4352x2048 : Shape := ⟨3, ![4, 4352, 2048]⟩
abbrev S17408x2048 : Shape := ⟨2, ![17408, 2048]⟩
abbrev S2048x17408 : Shape := ⟨2, ![2048, 17408]⟩

abbrev nBuf : Space → Nat
  | .hbm => 5
  | .vmem => 0
  | .smem => 0
  | _ => 0

abbrev bufTy : (tb : Table) → Fin (tcTables nBuf tb) → BufTy
  | .hbm, ⟨0, _⟩ => ⟨S4x4352x4096, .f32⟩
  | .hbm, ⟨1, _⟩ => ⟨S4096x2048, .f32⟩
  | .hbm, ⟨2, _⟩ => ⟨S4x4352x2048, .f32⟩
  | .hbm, ⟨3, _⟩ => ⟨S17408x2048, .f32⟩
  | .hbm, ⟨4, _⟩ => ⟨S2048x17408, .f32⟩
  | _, _ => ⟨S4x4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MlaIn.lean ====
abbrev S4x4352x4096 : Shape := ⟨3, ![4, 4352, 4096]⟩
abbrev S4096x2112 : Shape := ⟨2, ![4096, 2112]⟩
abbrev S32 : Shape := ⟨1, ![32]⟩
abbrev S_ : Shape := ⟨0, ![]⟩
abbrev S128 : Shape := ⟨1, ![128]⟩
abbrev S4096x2048 : Shape := ⟨2, ![4096, 2048]⟩
abbrev S128x1 : Shape := ⟨2, ![128, 1]⟩
abbrev S4096x128 : Shape := ⟨2, ![4096, 128]⟩
abbrev S4096x2304 : Shape := ⟨2, ![4096, 2304]⟩
abbrev S17408x4096 : Shape := ⟨2, ![17408, 4096]⟩
abbrev S17408x2304 : Shape := ⟨2, ![17408, 2304]⟩
abbrev S1024x4096 : Shape := ⟨2, ![1024, 4096]⟩
abbrev S4096x256 : Shape := ⟨2, ![4096, 256]⟩
abbrev S1024x256 : Shape := ⟨2, ![1024, 256]⟩

abbrev nBuf : Space → Nat
  | .hbm => 37
  | .vmem => 6
  | .smem => 0
  | _ => 0

abbrev bufTy : (tb : Table) → Fin (tcTables nBuf tb) → BufTy
  | .hbm, ⟨0, _⟩ => ⟨S4x4352x4096, .f32⟩
  | .hbm, ⟨1, _⟩ => ⟨S4096x2112, .f32⟩
  | .hbm, ⟨2, _⟩ => ⟨S32, .i32⟩
  | .hbm, ⟨3, _⟩ => ⟨S_, .i32⟩
  | .hbm, ⟨4, _⟩ => ⟨S32, .i32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S128, .i32⟩
  | .hbm, ⟨17, _⟩ => ⟨S4096x2048, .f32⟩
  | .hbm, ⟨18, _⟩ => ⟨S_, .i32⟩
  | .hbm, ⟨19, _⟩ => ⟨S128, .i32⟩
  | .hbm, ⟨20, _⟩ => ⟨S128, .i32⟩
  | .hbm, ⟨21, _⟩ => ⟨S_, .i32⟩
  | .hbm, ⟨22, _⟩ => ⟨S128, .i32⟩
  | .hbm, ⟨23, _⟩ => ⟨S128, .i1⟩
  | .hbm, ⟨24, _⟩ => ⟨S_, .i32⟩
  | .hbm, ⟨25, _⟩ => ⟨S128, .i32⟩
  | .hbm, ⟨26, _⟩ => ⟨S128, .i32⟩
  | .hbm, ⟨27, _⟩ => ⟨S128, .i32⟩
  | .hbm, ⟨28, _⟩ => ⟨S128x1, .i32⟩
  | .hbm, ⟨29, _⟩ => ⟨S4096x128, .f32⟩
  | .hbm, ⟨30, _⟩ => ⟨S_, .f32⟩
  | .hbm, ⟨31, _⟩ => ⟨S4096x128, .f32⟩
  | .hbm, ⟨32, _⟩ => ⟨S4096x2304, .f32⟩
  | .hbm, ⟨33, _⟩ => ⟨S17408x4096, .f32⟩
  | .hbm, ⟨34, _⟩ => ⟨S17408x4096, .bf16⟩
  | .hbm, ⟨35, _⟩ => ⟨S4096x2304, .bf16⟩
  | .hbm, ⟨36, _⟩ => ⟨S17408x2304, .f32⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S1024x256, .f32⟩
  | .local _ .vmem, ⟨5, _⟩ => ⟨S1024x256, .f32⟩
  | _, _ => ⟨S4x4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_3 : Ref sig .tc := ⟨.hbm, 18, rfl⟩
abbrev main_v12 : Ref sig .tc := ⟨.hbm, 19, rfl⟩
abbrev main_v13 : Ref sig .tc := ⟨.hbm, 20, rfl⟩
abbrev main_c_4 : Ref sig .tc := ⟨.hbm, 21, rfl⟩
abbrev main_v14 : Ref sig .tc := ⟨.hbm, 22, rfl⟩
abbrev main_v15 : Ref sig .tc := ⟨.hbm, 23, rfl⟩
abbrev main_c_5 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlaInReferenceIdeal.lean ====
abbrev S4x4352x4096 : Shape := ⟨3, ![4, 4352, 4096]⟩
abbrev S4096x2112 : Shape := ⟨2, ![4096, 2112]⟩
abbrev S4x4352x2112 : Shape := ⟨3, ![4, 4352, 2112]⟩
abbrev S4x4352x2048 : Shape := ⟨3, ![4, 4352, 2048]⟩
abbrev S4x4352x64 : Shape := ⟨3, ![4, 4352, 64]⟩
abbrev S4x4352x32x2 : Shape := ⟨4, ![4, 4352, 32, 2]⟩
abbrev S4x4352x32x1 : Shape := ⟨4, ![4, 4352, 32, 1]⟩
abbrev S4x4352x32 : Shape := ⟨3, ![4, 4352, 32]⟩
abbrev S4x4352x128 : Shape := ⟨3, ![4, 4352, 128]⟩
abbrev S_ : Shape := ⟨0, ![]⟩
abbrev S4x4352x2304 : Shape := ⟨3, ![4, 4352, 2304]⟩
abbrev S17408x2304 : Shape := ⟨2, ![17408, 2304]⟩

abbrev nBuf : Space → Nat
  | .hbm => 15
  | .vmem => 0
  | .smem => 0
  | _ => 0

abbrev bufTy : (tb : Table) → Fin (tcTables nBuf tb) → BufTy
  | .hbm, ⟨0, _⟩ => ⟨S4x4352x4096, .f32⟩
  | .hbm, ⟨1, _⟩ => ⟨S4096x2112, .f32⟩
  | .hbm, ⟨2, _⟩ => ⟨S4x4352x2112, .f32⟩
  | .hbm, ⟨3, _⟩ => ⟨S4x4352x2048, .f32⟩
  | .hbm, ⟨4, _⟩ => ⟨S4x4352x64, .f32⟩
  | .hbm, ⟨5, _⟩ => ⟨S4x4352x32x2, .f32⟩
  | .hbm, ⟨6, _⟩ => ⟨S4x4352x32x1, .f32⟩
  | .hbm, ⟨7, _⟩ => ⟨S4x4352x32, .f32⟩
  | .hbm, ⟨8, _⟩ => ⟨S4x4352x32x1, .f32⟩
  | .hbm, ⟨9, _⟩ => ⟨S4x4352x32, .f32⟩
  | .hbm, ⟨10, _⟩ => ⟨S4x4352x128, .f32⟩
  | .hbm, ⟨11, _⟩ => ⟨S_, .f32⟩
  | .hbm, ⟨12, _⟩ => ⟨S4x4352x128, .f32⟩
  | .hbm, ⟨13, _⟩ => ⟨S4x4352x2304, .f32⟩
  | .hbm, ⟨14, _⟩ => ⟨S17408x2304, .f32⟩
  | _, _ => ⟨S4x4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== MlaUq.lean ====
abbrev S4x4352x1536 : Shape := ⟨3, ![4, 4352, 1536]⟩
abbrev S1536x6144 : Shape := ⟨2, ![1536, 6144]⟩
abbrev S32 : Shape := ⟨1, ![32]⟩
abbrev S_ : Shape := ⟨0, ![]⟩
abbrev S128 : Shape := ⟨1, ![128]⟩
abbrev S32x1 : Shape := ⟨2, ![32, 1]⟩
abbrev S256 : Shape := ⟨1, ![256]⟩
abbrev S1x256 : Shape := ⟨2, ![1, 256]⟩
abbrev S32x256 : Shape := ⟨2, ![32, 256]⟩
abbrev S8192 : Shape := ⟨1, ![8192]⟩
abbrev S17408x1536 : Shape := ⟨2, ![17408, 1536]⟩
abbrev S8192x1 : Shape := ⟨2, ![8192, 1]⟩
abbrev S1536x8192 : Shape := ⟨2, ![1536, 8192]⟩
abbrev S17408x8192 : Shape := ⟨2, ![17408, 8192]⟩
abbrev S1024x1536 : Shape := ⟨2, ![1024, 1536]⟩
abbrev S1536x512 : Shape := ⟨2, ![1536, 512]⟩
abbrev S1024x512 : Shape := ⟨2, ![1024, 512]⟩

abbrev nBuf : Space → Nat
  | .hbm => 45
  | .vmem => 6
  | .smem => 0
  | _ => 0

abbrev bufTy : (tb : Table) → Fin (tcTables nBuf tb) → BufTy
  | .hbm, ⟨0, _⟩ => ⟨S4x4352x1536, .f32⟩
  | .hbm, ⟨1, _⟩ => ⟨S1536x6144, .f32⟩
  | .hbm, ⟨2, _⟩ => ⟨S32, .i32⟩
  | .hbm, ⟨3, _⟩ => ⟨S_, .i32⟩
  | .hbm, ⟨4, _⟩ => ⟨S32, .i32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S128, .i32⟩
  | .hbm, ⟨17, _⟩ => ⟨S32, .i32⟩
  | .hbm, ⟨18, _⟩ => ⟨S32x1, .i32⟩
  | .hbm, ⟨19, _⟩ => ⟨S_, .i32⟩
  | .hbm, ⟨20, _⟩ => ⟨S32x1, .i32⟩
  | .hbm, ⟨21, _⟩ => ⟨S32x1, .i32⟩
  | .hbm, ⟨22, _⟩ => ⟨S128, .i32⟩
  | .hbm, ⟨23, _⟩ => ⟨S_, .i32⟩
  | .hbm, ⟨24, _⟩ => ⟨S128, .i32⟩
  | .hbm, ⟨25, _⟩ => ⟨S128, .i32⟩
  | .hbm, ⟨26, _⟩ => ⟨S256, .i32⟩
  | .hbm, ⟨27, _⟩ => ⟨S1x256, .i32⟩
  | .hbm, ⟨28, _⟩ => ⟨S32x256, .i32⟩
  | .hbm, ⟨29, _⟩ => ⟨S32x256, .i32⟩
  | .hbm, ⟨30, _⟩ => ⟨S32x256, .i32⟩
  | .hbm, ⟨31, _⟩ => ⟨S8192, .i32⟩
  | .hbm, ⟨32, _⟩ => ⟨S17408x1536, .f32⟩
  | .hbm, ⟨33, _⟩ => ⟨S17408x1536, .bf16⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S8192x1, .i32⟩
  | .hbm, ⟨42, _⟩ => ⟨S1536x8192, .f32⟩
  | .hbm, ⟨43, _⟩ => ⟨S1536x8192, .bf16⟩
  | .hbm, ⟨44, _⟩ => ⟨S17408x8192, .bf16⟩
  | .local _ .vmem, ⟨0, _⟩ => ⟨S1024x1536, .bf16⟩
  | .local _ .vmem, ⟨1, _⟩ => ⟨S1024x1536, .bf16⟩
  | .local _ .vmem, ⟨2, _⟩ => ⟨S1536x512, .bf16⟩
  | .local _ .vmem, ⟨3, _⟩ => ⟨S1536x512, .bf16⟩
  | .local _ .vmem, ⟨4, _⟩ => ⟨S1024x512, .bf16⟩
  | .local _ .vmem, ⟨5, _⟩ => ⟨S1024x512, .bf16⟩
  | _, _ => ⟨S4x4352x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_5 : Ref sig .tc := ⟨.hbm, 34, rfl⟩
abbrev main_v26 : Ref sig .tc := ⟨.hbm, 35, rfl⟩
abbrev main_v27 : Ref sig .tc := ⟨.hbm, 36, rfl⟩
abbrev main_c_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlaUqReferenceIdeal.lean ====
abbrev S4x4352x1536 : Shape := ⟨3, ![4, 4352, 1536]⟩
abbrev S1536x6144 : Shape := ⟨2, ![1536, 6144]⟩
abbrev S4x4352x6144 : Shape := ⟨3, ![4, 4352, 6144]⟩
abbrev S4x4352x32x192 : Shape := ⟨4, ![4, 4352, 32, 192]⟩
abbrev S4x4352x32x128 : Shape := ⟨4, ![4, 4352, 32, 128]⟩
abbrev S4x4352x32x64 : Shape := ⟨4, ![4, 4352, 32, 64]⟩
abbrev S4x4352x32x32x2 : Shape := ⟨5, ![4, 4352, 32, 32, 2]⟩
abbrev S4x4352x32x32x1 : Shape := ⟨5, ![4, 4352, 32, 32, 1]⟩
abbrev S4x4352x32x32 : Shape := ⟨4, ![4, 4352, 32, 32]⟩
abbrev S4x4352x32x256 : Shape := ⟨4, ![4, 4352, 32, 256]⟩
abbrev S17408x8192 : Shape := ⟨2, ![17408, 8192]⟩

abbrev nBuf : Space → Nat
  | .hbm => 15
  | .vmem => 0
  | .smem => 0
  | _ => 0

abbrev bufTy : (tb : Table) → Fin (tcTables nBuf tb) → BufTy
  | .hbm, ⟨0, _⟩ => ⟨S4x4352x1536, .f32⟩
  | .hbm, ⟨1, _⟩ => ⟨S1536x6144, .f32⟩
  | .hbm, ⟨2, _⟩ => ⟨S4x4352x6144, .f32⟩
  | .hbm, ⟨3, _⟩ => ⟨S4x4352x32x192, .f32⟩
  | .hbm, ⟨4, _⟩ => ⟨S4x4352x32x128, .f32⟩
  | .hbm, ⟨5, _⟩ => ⟨S4x4352x32x64, .f32⟩
  | .hbm, ⟨6, _⟩ => ⟨S4x4352x32x32x2, .f32⟩
  | .hbm, ⟨7, _⟩ => ⟨S4x4352x32x32x1, .f32⟩
  | .hbm, ⟨8, _⟩ => ⟨S4x4352x32x32, .f32⟩
  | .hbm, ⟨9, _⟩ => ⟨S4x4352x32x32x1, .f32⟩
  | .hbm, ⟨10, _⟩ => ⟨S4x4352x32x32, .f32⟩
  | .hbm, ⟨11, _⟩ => ⟨S4x4352x32x128, .f32⟩
  | .hbm, ⟨12, _⟩ => ⟨S4x4352x32x256, .f32⟩
  | .hbm, ⟨13, _⟩ => ⟨S17408x8192, .f32⟩
  | .hbm, ⟨14, _⟩ => ⟨S17408x8192, .bf16⟩
  | _, _ => ⟨S4x4352x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== RwkvLow.lean ====
abbrev S4x4352x4096 : Shape := ⟨3, ![4, 4352, 4096]⟩
abbrev S2x4096x128 : Shape := ⟨3, ![2, 4096, 128]⟩
abbrev S17408x4096 : Shape := ⟨2, ![17408, 4096]⟩
abbrev S1x4096x128 : Shape := ⟨3, ![1, 4096, 128]⟩
abbrev S4096x128 : Shape := ⟨2, ![4096, 128]⟩
abbrev S4096x256 : Shape := ⟨2, ![4096, 256]⟩
abbrev S17408x256 : Shape := ⟨2, ![17408, 256]⟩
abbrev S1024x4096 : Shape := ⟨2, ![1024, 4096]⟩
abbrev S1024x256 : Shape := ⟨2, ![1024, 256]⟩

abbrev nBuf : Space → Nat
  | .hbm => 11
  | .vmem => 5
  | .smem => 0
  | _ => 0

abbrev bufTy : (tb : Table) → Fin (tcTables nBuf tb) → BufTy
  | .hbm, ⟨0, _⟩ => ⟨S4x4352x4096, .f32⟩
  | .hbm, ⟨1, _⟩ => ⟨S2x4096x128, .f32⟩
  | .hbm, ⟨2, _⟩ => ⟨S17408x4096, .f32⟩
  | .hbm, ⟨3, _⟩ => ⟨S17408x4096, .bf16⟩
  | .hbm, ⟨4, _⟩ => ⟨S1x4096x128, .f32⟩
  | .hbm, ⟨5, _⟩ => ⟨S4096x128, .f32⟩
  | .hbm, ⟨6, _⟩ => ⟨S1x4096x128, .f32⟩
  | .hbm, ⟨7, _⟩ => ⟨S4096x128, .f32⟩
  | .hbm, ⟨8, _⟩ => ⟨S4096x256, .f32⟩
  | .hbm, ⟨9, _⟩ => ⟨S4096x256, .bf16⟩
  | .hbm, ⟨10, _⟩ => ⟨S17408x256, .f32⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S1024x256, .f32⟩
  | .local _ .vmem, ⟨4, _⟩ => ⟨S1024x256, .f32⟩
  | _, _ => ⟨S4x4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![17, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RwkvLowReferenceIdeal.lean ====
abbrev S4x4352x4096 : Shape := ⟨3, ![4, 4352, 4096]⟩
abbrev S2x4096x128 : Shape := ⟨3, ![2, 4096, 128]⟩
abbrev S1x4096x128 : Shape := ⟨3, ![1, 4096, 128]⟩
abbrev S4096x128 : Shape := ⟨2, ![4096, 128]⟩
abbrev S4x4352x128 : Shape := ⟨3, ![4, 4352, 128]⟩
abbrev S4x4352x256 : Shape := ⟨3, ![4, 4352, 256]⟩
abbrev S17408x256 : Shape := ⟨2, ![17408, 256]⟩

abbrev nBuf : Space → Nat
  | .hbm => 10
  | .vmem => 0
  | .smem => 0
  | _ => 0

abbrev bufTy : (tb : Table) → Fin (tcTables nBuf tb) → BufTy
  | .hbm, ⟨0, _⟩ => ⟨S4x4352x4096, .f32⟩
  | .hbm, ⟨1, _⟩ => ⟨S2x4096x128, .f32⟩
  | .hbm, ⟨2, _⟩ => ⟨S1x4096x128, .f32⟩
  | .hbm, ⟨3, _⟩ => ⟨S4096x128, .f32⟩
  | .hbm, ⟨4, _⟩ => ⟨S4x4352x128, .f32⟩
  | .hbm, ⟨5, _⟩ => ⟨S1x4096x128, .f32⟩
  | .hbm, ⟨6, _⟩ => ⟨S4096x128, .f32⟩
  | .hbm, ⟨7, _⟩ => ⟨S4x4352x128, .f32⟩
  | .hbm, ⟨8, _⟩ => ⟨S4x4352x256, .f32⟩
  | .hbm, ⟨9, _⟩ => ⟨S17408x256, .f32⟩
  | _, _ => ⟨S4x4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== GlaGate.lean ====
abbrev S4x4352x4096 : Shape := ⟨3, ![4, 4352, 4096]⟩
abbrev S4x4352x12288 : Shape := ⟨3, ![4, 4352, 12288]⟩
abbrev S512 : Shape := ⟨1, ![512]⟩
abbrev S1x512 : Shape := ⟨2, ![1, 512]⟩
abbrev S1x256x4096 : Shape := ⟨3, ![1, 256, 4096]⟩
abbrev S256x4096 : Shape := ⟨2, ![256, 4096]⟩
abbrev S256x512 : Shape := ⟨2, ![256, 512]⟩
abbrev S256 : Shape := ⟨1, ![256]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S4x4352x4096, .f32⟩
  | .hbm, ⟨1, _⟩ => ⟨S4x4352x4096, .f32⟩
  | .hbm, ⟨2, _⟩ => ⟨S4x4352x12288, .f32⟩
  | .hbm, ⟨3, _⟩ => ⟨S512, .f32⟩
  | .hbm, ⟨4, _⟩ => ⟨S4x4352x4096, .bf16⟩
  | .hbm, ⟨5, _⟩ => ⟨S4x4352x4096, .bf16⟩
  | .hbm, ⟨6, _⟩ => ⟨S4x4352x12288, .bf16⟩
  | .hbm, ⟨7, _⟩ => ⟨S1x512, .f32⟩
  | .hbm, ⟨8, _⟩ => ⟨S4x4352x4096, .bf16⟩
  | .local _ .vmem, ⟨0, _⟩ => ⟨S1x256x4096, .bf16⟩
  | .local _ .vmem, ⟨1, _⟩ => ⟨S1x256x4096, .bf16⟩
  | .local _ .vmem, ⟨2, _⟩ => ⟨S1x256x4096, .bf16⟩
  | .local _ .vmem, ⟨3, _⟩ => ⟨S1x256x4096, .bf16⟩
  | .local _ .vmem, ⟨4, _⟩ => ⟨S1x256x4096, .bf16⟩
  | .local _ .vmem, ⟨5, _⟩ => ⟨S1x256x4096, .bf16⟩
  | .local _ .vmem, ⟨6, _⟩ => ⟨S1x512, .f32⟩
  | .local _ .vmem, ⟨7, _⟩ => ⟨S1x256x4096, .bf16⟩
  | .local _ .vmem, ⟨8, _⟩ => ⟨S1x256x4096, .bf16⟩
  | _, _ => ⟨S4x4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GlaGateReferenceIdeal.lean ====
abbrev S4x4352x4096 : Shape := ⟨3, ![4, 4352, 4096]⟩
abbrev S4x4352x12288 : Shape := ⟨3, ![4, 4352, 12288]⟩
abbrev S512 : Shape := ⟨1, ![512]⟩
abbrev S4x4352x8x512 : Shape := ⟨4, ![4, 4352, 8, 512]⟩
abbrev S_ : Shape := ⟨0, ![]⟩
abbrev S4x4352x8 : Shape := ⟨3, ![4, 4352, 8]⟩
abbrev S4x4352x8x1 : Shape := ⟨4, ![4, 4352, 8, 1]⟩
abbrev S1x1x1x512 : Shape := ⟨4, ![1, 1, 1, 512]⟩

abbrev nBuf : Space → Nat
  | .hbm => 35
  | .vmem => 0
  | .smem => 0
  | _ => 0

abbrev bufTy : (tb : Table) → Fin (tcTables nBuf tb) → BufTy
  | .hbm, ⟨0, _⟩ => ⟨S4x4352x4096, .f32⟩
  | .hbm, ⟨1, _⟩ => ⟨S4x4352x4096, .f32⟩
  | .hbm, ⟨2, _⟩ => ⟨S4x4352x12288, .f32⟩
  | .hbm, ⟨3, _⟩ => ⟨S512, .f32⟩
  | .hbm, ⟨4, _⟩ => ⟨S4x4352x4096, .f32⟩
  | .hbm, ⟨5, _⟩ => ⟨S4x4352x4096, .f32⟩
  | .hbm, ⟨6, _⟩ => ⟨S4x4352x8x512, .f32⟩
  | .hbm, ⟨7, _⟩ => ⟨S4x4352x8x512, .f32⟩
  | .hbm, ⟨8, _⟩ => ⟨S_, .f32⟩
  | .hbm, ⟨9, _⟩ => ⟨S4x4352x8, .f32⟩
  | .hbm, ⟨10, _⟩ => ⟨S4x4352x8x1, .f32⟩
  | .hbm, ⟨11, _⟩ => ⟨S_, .f32⟩
  | .hbm, ⟨12, _⟩ => ⟨S4x4352x8x1, .f32⟩
  | .hbm, ⟨13, _⟩ => ⟨S4x4352x8x1, .f32⟩
  | .hbm, ⟨14, _⟩ => ⟨S_, .f32⟩
  | .hbm, ⟨15, _⟩ => ⟨S4x4352x8x1, .f32⟩
  | .hbm, ⟨16, _⟩ => ⟨S4x4352x8x1, .f32⟩
  | .hbm, ⟨17, _⟩ => ⟨S4x4352x8x1, .f32⟩
  | .hbm, ⟨18, _⟩ => ⟨S4x4352x8x512, .f32⟩
  | .hbm, ⟨19, _⟩ => ⟨S4x4352x8x512, .f32⟩
  | .hbm, ⟨20, _⟩ => ⟨S1x1x1x512, .f32⟩
  | .hbm, ⟨21, _⟩ => ⟨S4x4352x8x512, .f32⟩
  | .hbm, ⟨22, _⟩ => ⟨S4x4352x8x512, .f32⟩
  | .hbm, ⟨23, _⟩ => ⟨S4x4352x4096, .f32⟩
  | .hbm, ⟨24, _⟩ => ⟨S4x4352x4096, .f32⟩
  | .hbm, ⟨25, _⟩ => ⟨S4x4352x4096, .f32⟩
  | .hbm, ⟨26, _⟩ => ⟨S_, .f32⟩
  | .hbm, ⟨27, _⟩ => ⟨S4x4352x4096, .f32⟩
  | .hbm, ⟨28, _⟩ => ⟨S4x4352x4096, .f32⟩
  | .hbm, ⟨29, _⟩ => ⟨S_, .f32⟩
  | .hbm, ⟨30, _⟩ => ⟨S4x4352x4096, .f32⟩
  | .hbm, ⟨31, _⟩ => ⟨S4x4352x4096, .f32⟩
  | .hbm, ⟨32, _⟩ => ⟨S4x4352x4096, .f32⟩
  | .hbm, ⟨33, _⟩ => ⟨S4x4352x4096, .f32⟩
  | .hbm, ⟨34, _⟩ => ⟨S4x4352x4096, .bf16⟩
  | _, _ => ⟨S4x4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== NormMod.lean ====
abbrev S4x4352x4096 : Shape := ⟨3, ![4, 4352, 4096]⟩
abbrev S4x2x6x4096 : Shape := ⟨4, ![4, 2, 6, 4096]⟩
abbrev S4096x17408 : Shape := ⟨2, ![4096, 17408]⟩
abbrev S1x256x4096 : Shape := ⟨3, ![1, 256, 4096]⟩
abbrev S1x1x6x4096 : Shape := ⟨4, ![1, 1, 6, 4096]⟩
abbrev S4096x256 : Shape := ⟨2, ![4096, 256]⟩
abbrev S256x4096 : Shape := ⟨2, ![256, 4096]⟩
abbrev S1x1x1x4096 : Shape := ⟨4, ![1, 1, 1, 4096]⟩
abbrev S1x4096 : Shape := ⟨2, ![1, 4096]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S4x4352x4096, .f32⟩
  | .hbm, ⟨1, _⟩ => ⟨S4x4352x4096, .f32⟩
  | .hbm, ⟨2, _⟩ => ⟨S4x2x6x4096, .f32⟩
  | .hbm, ⟨3, _⟩ => ⟨S4x4352x4096, .bf16⟩
  | .hbm, ⟨4, _⟩ => ⟨S4x4352x4096, .f32⟩
  | .hbm, ⟨5, _⟩ => ⟨S4096x17408, .bf16⟩
  | .local _ .vmem, ⟨0, _⟩ => ⟨S1x256x4096, .f32⟩
  | .local _ .vmem, ⟨1, _⟩ => ⟨S1x256x4096, .f32⟩
  | .local _ .vmem, ⟨2, _⟩ => ⟨S1x256x4096, .bf16⟩
  | .local _ .vmem, ⟨3, _⟩ => ⟨S1x256x4096, .bf16⟩
  | .local _ .vmem, ⟨4, _⟩ => ⟨S1x1x6x4096, .f32⟩
  | .local _ .vmem, ⟨5, _⟩ => ⟨S1x1x6x4096, .f32⟩
  | .local _ .vmem, ⟨6, _⟩ => ⟨S1x1x6x4096, .f32⟩
  | .local _ .vmem, ⟨7, _⟩ => ⟨S1x1x6x4096, .f32⟩
  | .local _ .vmem, ⟨8, _⟩ => ⟨S1x256x4096, .f32⟩
  | .local _ .vmem, ⟨9, _⟩ => ⟨S1x256x4096, .f32⟩
  | .local _ .vmem, ⟨10, _⟩ => ⟨S4096x256, .bf16⟩
  | .local _ .vmem, ⟨11, _⟩ => ⟨S4096x256, .bf16⟩
  | _, _ => ⟨S4x4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 1 := Scalar.cmpi .slt v0 c1_i32
  let c0_i32_0 : BitVec 32 := 0#32
  let c1_i32_1 : BitVec 32 := 1#32
  let v2 : BitVec 32 := Scalar.select v1 c0_i32_0 c1_i32_1
  let c0_i32_2 : BitVec 32 := 0#32
  let c0_i32_3 : BitVec 32 := 0#32
  let c0_i32_4 : BitVec 32 := 0#32
  ![arg0.toNat, v2.toNat, c0_i32_2.toNat, c0_i32_3.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let v1 : BitVec 1 := Scalar.cmpi .slt v0 c1_i32
  let c0_i32_0 : BitVec 32 := 0#32
  let c1_i32_1 : BitVec 32 := 1#32
  let v2 : BitVec 32 := Scalar.select v1 c0_i32_0 c1_i32_1
  let c0_i32_2 : BitVec 32 := 0#32
  let c0_i32_3 : BitVec 32 := 0#32
  let c0_i32_4 : BitVec 32 := 0#32
  ![arg0.toNat, v2.toNat, c0_i32_2.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let c0_i32 : BitVec 32 := 0#32
  let v1 : BitVec 32 := Scalar.addi v0 c0_i32
  let v2 : BitVec 32 := Scalar.addi v1 arg1
  let c0_i32_0 : BitVec 32 := 0#32
  let c0_i32_1 : BitVec 32 := 0#32
  ![c0_i32_0.toNat, v2.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x6x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== NormModReferenceIdeal.lean ====
abbrev S4x4352x4096 : Shape := ⟨3, ![4, 4352, 4096]⟩
abbrev S4x2x6x4096 : Shape := ⟨4, ![4, 2, 6, 4096]⟩
abbrev S4x256x4096 : Shape := ⟨3, ![4, 256, 4096]⟩
abbrev S4x1x6x4096 : Shape := ⟨4, ![4, 1, 6, 4096]⟩
abbrev S4x6x4096 : Shape := ⟨3, ![4, 6, 4096]⟩
abbrev S_ : Shape := ⟨0, ![]⟩
abbrev S4x1x4096 : Shape := ⟨3, ![4, 1, 4096]⟩
abbrev S4x4096 : Shape := ⟨2, ![4, 4096]⟩
abbrev S4x256 : Shape := ⟨2, ![4, 256]⟩
abbrev S4x256x1 : Shape := ⟨3, ![4, 256, 1]⟩
abbrev S4x4096x4096 : Shape := ⟨3, ![4, 4096, 4096]⟩
abbrev S4x4096x1 : Shape := ⟨3, ![4, 4096, 1]⟩
abbrev S17408x4096 : Shape := ⟨2, ![17408, 4096]⟩
abbrev S4096x17408 : Shape := ⟨2, ![4096, 17408]⟩

abbrev nBuf : Space → Nat
  | .hbm => 102
  | .vmem => 0
  | .smem => 0
  | _ => 0

abbrev bufTy : (tb : Table) → Fin (tcTables nBuf tb) → BufTy
  | .hbm, ⟨0, _⟩ => ⟨S4x4352x4096, .f32⟩
  | .hbm, ⟨1, _⟩ => ⟨S4x4352x4096, .f32⟩
  | .hbm, ⟨2, _⟩ => ⟨S4x2x6x4096, .f32⟩
  | .hbm, ⟨3, _⟩ => ⟨S4x256x4096, .f32⟩
  | .hbm, ⟨4, _⟩ => ⟨S4x256x4096, .f32⟩
  | .hbm, ⟨5, _⟩ => ⟨S4x1x6x4096, .f32⟩
  | .hbm, ⟨6, _⟩ => ⟨S4x6x4096, .f32⟩
  | .hbm, ⟨7, _⟩ => ⟨S_, .f32⟩
  | .hbm, ⟨8, _⟩ => ⟨S4x256x4096, .f32⟩
  | .hbm, ⟨9, _⟩ => ⟨S4x256x4096, .f32⟩
  | .hbm, ⟨10, _⟩ => ⟨S4x1x4096, .f32⟩
  | .hbm, ⟨11, _⟩ => ⟨S4x4096, .f32⟩
  | .hbm, ⟨12, _⟩ => ⟨S4x1x4096, .f32⟩
  | .hbm, ⟨13, _⟩ => ⟨S4x256x4096, .f32⟩
  | .hbm, ⟨14, _⟩ => ⟨S4x256x4096, .f32⟩
  | .hbm, ⟨15, _⟩ => ⟨S4x256x4096, .f32⟩
  | .hbm, ⟨16, _⟩ => ⟨S_, .f32⟩
  | .hbm, ⟨17, _⟩ => ⟨S4x256, .f32⟩
  | .hbm, ⟨18, _⟩ => ⟨S4x256x1, .f32⟩
  | .hbm, ⟨19, _⟩ => ⟨S_, .f32⟩
  | .hbm, ⟨20, _⟩ => ⟨S4x256x1, .f32⟩
  | .hbm, ⟨21, _⟩ => ⟨S4x256x1, .f32⟩
  | .hbm, ⟨22, _⟩ => ⟨S4x256x4096, .f32⟩
  | .hbm, ⟨23, _⟩ => ⟨S4x256x4096, .f32⟩
  | .hbm, ⟨24, _⟩ => ⟨S4x256x4096, .f32⟩
  | .hbm, ⟨25, _⟩ => ⟨S_, .f32⟩
  | .hbm, ⟨26, _⟩ => ⟨S4x256, .f32⟩
  | .hbm, ⟨27, _⟩ => ⟨S4x256x1, .f32⟩
  | .hbm, ⟨28, _⟩ => ⟨S_, .f32⟩
  | .hbm, ⟨29, _⟩ => ⟨S4x256x1, .f32⟩
  | .hbm, ⟨30, _⟩ => ⟨S4x256x1, .f32⟩
  | .hbm, ⟨31, _⟩ => ⟨S_, .f32⟩
  | .hbm, ⟨32, _⟩ => ⟨S4x256x1, .f32⟩
  | .hbm, ⟨33, _⟩ => ⟨S4x256x1, .f32⟩
  | .hbm, ⟨34, _⟩ => ⟨S4x256x1, .f32⟩
  | .hbm, ⟨35, _⟩ => ⟨S4x256x4096, .f32⟩
  | .hbm, ⟨36, _⟩ => ⟨S4x256x4096, .f32⟩
  | .hbm, ⟨37, _⟩ => ⟨S4x1x4096, .f32⟩
  | .hbm, ⟨38, _⟩ => ⟨S4x4096, .f32⟩
  | .hbm, ⟨39, _⟩ => ⟨S4x1x4096, .f32⟩
  | .hbm, ⟨40, _⟩ => ⟨S_, .f32⟩
  | .hbm, ⟨41, _⟩ => ⟨S4x1x4096, .f32⟩
  | .hbm, ⟨42, _⟩ => ⟨S4x1x4096, .f32⟩
  | .hbm, ⟨43, _⟩ => ⟨S4x256x4096, .f32⟩
  | .hbm, ⟨44, _⟩ => ⟨S4x256x4096, .f32⟩
  | .hbm, ⟨45, _⟩ => ⟨S4x1x4096, .f32⟩
  | .hbm, ⟨46, _⟩ => ⟨S4x4096, .f32⟩
  | .hbm, ⟨47, _⟩ => ⟨S4x1x4096, .f32⟩
  | .hbm, ⟨48, _⟩ => ⟨S4x256x4096, .f32⟩
  | .hbm, ⟨49, _⟩ => ⟨S4x256x4096, .f32⟩
  | .hbm, ⟨50, _⟩ => ⟨S4x4096x4096, .f32⟩
  | .hbm, ⟨51, _⟩ => ⟨S4x4096x4096, .f32⟩
  | .hbm, ⟨52, _⟩ => ⟨S4x1x6x4096, .f32⟩
  | .hbm, ⟨53, _⟩ => ⟨S4x6x4096, .f32⟩
  | .hbm, ⟨54, _⟩ => ⟨S_, .f32⟩
  | .hbm, ⟨55, _⟩ => ⟨S4x4096x4096, .f32⟩
  | .hbm, ⟨56, _⟩ => ⟨S4x4096x4096, .f32⟩
  | .hbm, ⟨57, _⟩ => ⟨S4x1x4096, .f32⟩
  | .hbm, ⟨58, _⟩ => ⟨S4x4096, .f32⟩
  | .hbm, ⟨59, _⟩ => ⟨S4x1x4096, .f32⟩
  | .hbm, ⟨60, _⟩ => ⟨S4x4096x4096, .f32⟩
  | .hbm, ⟨61, _⟩ => ⟨S4x4096x4096, .f32⟩
  | .hbm, ⟨62, _⟩ => ⟨S4x4096x4096, .f32⟩
  | .hbm, ⟨63, _⟩ => ⟨S_, .f32⟩
  | .hbm, ⟨64, _⟩ => ⟨S4x4096, .f32⟩
  | .hbm, ⟨65, _⟩ => ⟨S4x4096x1, .f32⟩
  | .hbm, ⟨66, _⟩ => ⟨S_, .f32⟩
  | .hbm, ⟨67, _⟩ => ⟨S4x4096x1, .f32⟩
  | .hbm, ⟨68, _⟩ => ⟨S4x4096x1, .f32⟩
  | .hbm, ⟨69, _⟩ => ⟨S4x4096x4096, .f32⟩
  | .hbm, ⟨70, _⟩ => ⟨S4x4096x4096, .f32⟩
  | .hbm, ⟨71, _⟩ => ⟨S4x4096x4096, .f32⟩
  | .hbm, ⟨72, _⟩ => ⟨S_, .f32⟩
  | .hbm, ⟨73, _⟩ => ⟨S4x4096, .f32⟩
  | .hbm, ⟨74, _⟩ => ⟨S4x4096x1, .f32⟩
  | .hbm, ⟨75, _⟩ => ⟨S_, .f32⟩
  | .hbm, ⟨76, _⟩ => ⟨S4x4096x1, .f32⟩
  | .hbm, ⟨77, _⟩ => ⟨S4x4096x1, .f32⟩
  | .hbm, ⟨78, _⟩ => ⟨S_, .f32⟩
  | .hbm, ⟨79, _⟩ => ⟨S4x4096x1, .f32⟩
  | .hbm, ⟨80, _⟩ => ⟨S4x4096x1, .f32⟩
  | .hbm, ⟨81, _⟩ => ⟨S4x4096x1, .f32⟩
  | .hbm, ⟨82, _⟩ => ⟨S4x4096x4096, .f32⟩
  | .hbm, ⟨83, _⟩ => ⟨S4x4096x4096, .f32⟩
  | .hbm, ⟨84, _⟩ => ⟨S4x1x4096, .f32⟩
  | .hbm, ⟨85, _⟩ => ⟨S4x4096, .f32⟩
  | .hbm, ⟨86, _⟩ => ⟨S4x1x4096, .f32⟩
  | .hbm, ⟨87, _⟩ => ⟨S_, .f32⟩
  | .hbm, ⟨88, _⟩ => ⟨S4x1x4096, .f32⟩
  | .hbm, ⟨89, _⟩ => ⟨S4x1x4096, .f32⟩
  | .hbm, ⟨90, _⟩ => ⟨S4x4096x4096, .f32⟩
  | .hbm, ⟨91, _⟩ => ⟨S4x4096x4096, .f32⟩
  | .hbm, ⟨92, _⟩ => ⟨S4x1x4096, .f32⟩
  | .hbm, ⟨93, _⟩ => ⟨S4x4096, .f32⟩
  | .hbm, ⟨94, _⟩ => ⟨S4x1x4096, .f32⟩
  | .hbm, ⟨95, _⟩ => ⟨S4x4096x4096, .f32⟩
  | .hbm, ⟨96, _⟩ => ⟨S4x4096x4096, .f32⟩
  | .hbm, ⟨97, _⟩ => ⟨S4x4352x4096, .f32⟩
  | .hbm, ⟨98, _⟩ => ⟨S4x4352x4096, .f32⟩
  | .hbm, ⟨99, _⟩ => ⟨S17408x4096, .f32⟩
  | .hbm, ⟨100, _⟩ => ⟨S4096x17408, .f32⟩
  | .hbm, ⟨101, _⟩ => ⟨S4096x17408, .bf16⟩
  | _, _ => ⟨S4x4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_7 : Ref sig .tc := ⟨.hbm, 63, rfl⟩
abbrev main_v52 : Ref sig .tc := ⟨.hbm, 64, rfl⟩
abbrev main_v53 : Ref sig .tc := ⟨.hbm, 65, rfl⟩
abbrev main_cst_8 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_9 : Ref sig .tc := ⟨.hbm, 72, rfl⟩
abbrev main_v59 : Ref sig .tc := ⟨.hbm, 73, rfl⟩
abbrev main_v60 : Ref sig .tc := ⟨.hbm, 74, rfl⟩
abbrev main_cst_10 : Ref sig .tc := ⟨.hbm, 75, rfl⟩
abbrev main_v61 : Ref sig .tc := ⟨.hbm, 76, rfl⟩
abbrev main_v62 : Ref sig .tc := ⟨.hbm, 77, rfl⟩
abbrev main_cst_11 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_12 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩

abbrev nD : Nat := 1
abbrev τ : Topo := Topo.v7x

variable {F : FTy → Type} [FloatOps F]
-- ==== Proof.Attn.Softmax.lean ====
module

public import Idealize.ShloMosaic.Lib.Pointwise
public import Idealize.ShloMosaic.PureOps.Ideal

@[expose] public section

noncomputable section

namespace Cert.Attn

open Idealize.ShloMosaic

/-- The softmax weight of entry `k` of the real scores `x`. -/
def weight {n : ℕ} (x : Fin n → ℝ) (k : Fin n) : ℝ := Real.exp (x k) / ∑ j, Real.exp (x j)

/-- One entry of an attention's result: the values `v`, weighted by the softmax of the real scores `x`. -/
def attend {n : ℕ} (x : Fin n → ℝ) (v : Fin n → EReal) : EReal := ∑ k, (weight x k : EReal) * v k

/-- A nonnegative real factor distributes over a finite sum of extended reals. -/
theorem coe_mul_sum {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- A finite sum of reals, read among the extended reals. -/
theorem sum_coe {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The word of the 32-bit minus infinity denotes the least extended real. -/
theorem ofBits_neg_inf : Ideal.ofBits .f32 0xFF800000#32 = ⊥ := by
  simp [Ideal.ofBits, Ideal.ieee]

/-- The largest of finitely many real scores, started at minus infinity, is a real. -/
theorem fold_max_real {n : ℕ} [NeZero n] (x : Fin n → ℝ) :
    ∃ M : ℝ, (Finset.univ : Finset (Fin n)).fold max ⊥ (fun k => (x k : EReal)) = (M : EReal) := by
  obtain ⟨i, -, hi⟩ := Finset.exists_mem_eq_sup (Finset.univ : Finset (Fin n)) ⟨0, Finset.mem_univ _⟩
    (fun k => (x k : EReal))
  exact ⟨x i, hi⟩

/-- The sum of the exponentials of finitely many (at least one) reals is positive. -/
theorem sum_exp_pos {n : ℕ} [NeZero n] (x : Fin n → ℝ) : 0 < ∑ j, Real.exp (x j) :=
  Finset.sum_pos (fun _ _ => Real.exp_pos _) ⟨0, Finset.mem_univ _⟩

/-- The plain softmax: every weight is the exponential of the score above a real `M`, divided by the sum of them all. -/
theorem attend_of_plain {n : ℕ} [NeZero n] (x : Fin n → ℝ) (v : Fin n → EReal) (M : ℝ) :
    (∑ k, Ideal.div (Ideal.exp ((x k : EReal) - (M : EReal))) (∑ j, Ideal.exp ((x j : EReal) - (M : EReal))) * v k)
      = attend x v := by
  have he : ∀ k, Ideal.exp ((x k : EReal) - (M : EReal)) = ((Real.exp (x k - M) : ℝ) : EReal) := fun k => by
    rw [← EReal.coe_sub, Ideal.exp_coe]
  have hs := sum_exp_pos fun j => x j - M
  simp only [he, sum_coe, attend]
  refine Finset.sum_congr rfl fun k _ => ?_
  rw [Ideal.div_coe hs.ne', ← EReal.coe_mul]
  congr 2
  simp only [weight, Real.exp_sub, ← Finset.sum_div]
  have := Real.exp_pos M
  have := sum_exp_pos x
  field_simp

/-- The base-2 exponential of a real difference. -/
theorem exp2_sub (a b : ℝ) :
    Ideal.exp2 ((a : EReal) - (b : EReal)) = ((Real.exp ((a - b) * Real.log 2) : ℝ) : EReal) := by
  rw [← EReal.coe_sub, Ideal.exp2_coe]
  congr 1
  show (2 : ℝ) ^ (a - b) = _
  rw [Real.rpow_def_of_pos two_pos, mul_comm]

/-- The base-2 exponential of a score over itself is one. -/
theorem exp2_self (a : ℝ) : Ideal.exp2 ((a : EReal) - (a : EReal)) = 1 := by
  rw [exp2_sub]; simp

/-- A chain's weighted sum, moved from the chain's own maximum `m` to the common one `M`. -/
theorem chain_move {n : ℕ} (t : Fin n → ℝ) (v : Fin n → EReal) (m M : ℝ) :
    Ideal.exp2 ((m : EReal) - (M : EReal)) * ∑ k, Ideal.exp2 ((t k : EReal) - (m : EReal)) * v k
      = ∑ k, ((Real.exp ((t k - M) * Real.log 2) : ℝ) : EReal) * v k := by
  rw [exp2_sub, coe_mul_sum _ _ (Real.exp_pos _).le]
  refine Finset.sum_congr rfl fun k _ => ?_
  rw [exp2_sub, ← mul_assoc, ← EReal.coe_mul, ← Real.exp_add]
  congr 3
  ring

/-- The quotient of the weighted values by the weights' sum, both taken in base 2 over a real `M`, is the softmax's
    attention of the scores `t k * log 2`. -/
theorem attend_of_quot {n : ℕ} [NeZero n] (t : Fin n → ℝ) (v : Fin n → EReal) (M : ℝ) :
    Ideal.div (∑ k, ((Real.exp ((t k - M) * Real.log 2) : ℝ) : EReal) * v k)
        (∑ k, ((Real.exp ((t k - M) * Real.log 2) : ℝ) : EReal) * 1)
      = attend (fun k => t k * Real.log 2) v := by
  have hs := sum_exp_pos fun j => (t j - M) * Real.log 2
  simp only [mul_one, sum_coe]
  rw [Ideal.div_coe hs.ne', mul_comm, coe_mul_sum _ _ (by positivity), attend]
  refine Finset.sum_congr rfl fun k _ => ?_
  rw [← mul_assoc, ← EReal.coe_mul]
  congr 2
  simp only [weight, sub_mul, Real.exp_sub, ← Finset.sum_div]
  have := Real.exp_pos (M * Real.log 2)
  have := sum_exp_pos fun k => t k * Real.log 2
  field_simp
  simp only [mul_comm]

/-- One chain of keys, in base 2 over its own maximum. -/
theorem attend_of_one {n : ℕ} [NeZero n] (t : Fin n → ℝ) (v : Fin n → EReal) (m : EReal)
    (hm : m = (Finset.univ : Finset (Fin n)).fold max ⊥ (fun k => (t k : EReal))) :
    Ideal.div (Ideal.exp2 (m - m) * ∑ k, Ideal.exp2 ((t k : EReal) - m) * v k)
        (Ideal.exp2 (m - m) * ∑ k, Ideal.exp2 ((t k : EReal) - m) * 1)
      = attend (fun k => t k * Real.log 2) v := by
  obtain ⟨M, hM⟩ := fold_max_real t
  rw [hm, hM, chain_move, chain_move, attend_of_quot]

/-- Two chains of keys, each in base 2 over its own maximum, merged at the larger of the two maxima. -/
theorem attend_of_two {a b n : ℕ} [NeZero a] [NeZero b] [NeZero n] (hab : a + b = n) (t : Fin n → ℝ) (v : Fin n → EReal)
    (t₁ : Fin a → ℝ) (t₂ : Fin b → ℝ) (v₁ : Fin a → EReal) (v₂ : Fin b → EReal)
    (ht₁ : ∀ k : Fin a, t₁ k = t ⟨k, by omega⟩) (ht₂ : ∀ k : Fin b, t₂ k = t ⟨a + k, by omega⟩)
    (hv₁ : ∀ k : Fin a, v₁ k = v ⟨k, by omega⟩) (hv₂ : ∀ k : Fin b, v₂ k = v ⟨a + k, by omega⟩) (m₁ m₂ : EReal)
    (hm₁ : m₁ = (Finset.univ : Finset (Fin a)).fold max ⊥ (fun k => (t₁ k : EReal)))
    (hm₂ : m₂ = (Finset.univ : Finset (Fin b)).fold max ⊥ (fun k => (t₂ k : EReal))) :
    Ideal.div
        (Ideal.exp2 (m₁ - max m₁ m₂) * (∑ k, Ideal.exp2 ((t₁ k : EReal) - m₁) * v₁ k)
          + Ideal.exp2 (m₂ - max m₁ m₂) * ∑ k, Ideal.exp2 ((t₂ k : EReal) - m₂) * v₂ k)
        (Ideal.exp2 (m₁ - max m₁ m₂) * (∑ k, Ideal.exp2 ((t₁ k : EReal) - m₁) * 1)
          + Ideal.exp2 (m₂ - max m₁ m₂) * ∑ k, Ideal.exp2 ((t₂ k : EReal) - m₂) * 1)
      = attend (fun k => t k * Real.log 2) v := by
  obtain ⟨M₁, hM₁⟩ := fold_max_real t₁
  obtain ⟨M₂, hM₂⟩ := fold_max_real t₂
  have hM : max (M₁ : EReal) (M₂ : EReal) = ((max M₁ M₂ : ℝ) : EReal) := (EReal.coe_strictMono.monotone.map_max).symm
  rw [hm₁, hm₂, hM₁, hM₂, hM, chain_move, chain_move, chain_move, chain_move, ← attend_of_quot t v (max M₁ M₂)]
  simp only [ht₁, ht₂, hv₁, hv₂]
  rw [Fin.sum_univ_two_halves a b hab, Fin.sum_univ_two_halves a b hab]

end Cert.Attn

end
-- ==== Proof.Attn.Payload.lean ====
module

public import proofs.«01_k».proof.Proof.Gen.KernelIdeal.Skeleton
public import proofs.«01_k».proof.Proof.Attn.Softmax
public import Idealize.ShloMosaic.Lib.Pointwise

@[expose] public section

set_option maxRecDepth 16384

noncomputable section

open Idealize.ShloMosaic Idealize.ShloMosaic.TcCoe Idealize.SL.Sem

namespace Cert.KernelIdeal.Value

open Cert.KernelIdeal Cert.KernelIdeal.Gen Cert.Attn

/-- The named constant is the score's scale over log 2. -/
theorem qscale_val : (Named.named (F := Ideal) κ "qscale" (φ := .f32) 0x3DD53B95#32 : EReal)
    = (((Real.log 2)⁻¹ * (Real.sqrt 192)⁻¹ : ℝ) : EReal) :=
  by simp [Named.named, κ]

/-- The prepared query block, its constant still by name. -/
theorem pay5_named (v3 : Vec Ideal S1x256x256 .bf16) (v7 v9 : Vec Ideal S256x128 .f32) (r : Fin 256) (d : Fin 256) :
    k0_pay5 v3 v7 v9 (ix2 r d) = (if h : d.val < 128 then v3 (ix3 0 r d)
      else v3 (ix3 0 r ⟨128 + (d.val - 128), by omega⟩) * v7 (ix2 r ⟨d.val - 128, by omega⟩)
          + v3 (ix3 0 r ⟨128 + (d.val - 128 + 128 - 64) % 128, by omega⟩) * v9 (ix2 r ⟨d.val - 128, by omega⟩))
      * (Named.named (F := Ideal) κ "qscale" (φ := .f32) 0x3DD53B95#32 : EReal) := by
  pointwise [k0_pay5]

/-- The prepared query block: the first 128 lanes are the query's, the last 128 its rotary lanes turned by the tables
    (each lane times the cosine lane, plus the lane 64 away times the sine lane), all times the score's constant. -/
theorem pay5_at (v3 : Vec Ideal S1x256x256 .bf16) (v7 v9 : Vec Ideal S256x128 .f32) (r : Fin 256) (d : Fin 256) :
    k0_pay5 v3 v7 v9 (ix2 r d) = (if h : d.val < 128 then v3 (ix3 0 r d)
      else v3 (ix3 0 r ⟨128 + (d.val - 128), by omega⟩) * v7 (ix2 r ⟨d.val - 128, by omega⟩)
          + v3 (ix3 0 r ⟨128 + (d.val - 128 + 128 - 64) % 128, by omega⟩) * v9 (ix2 r ⟨d.val - 128, by omega⟩))
      * (((Real.log 2)⁻¹ * (Real.sqrt 192)⁻¹ : ℝ) : EReal) :=
  (pay5_named v3 v7 v9 r d).trans (by rw [qscale_val])

/-- A block of the context's queries: the attention over the 256 keys the block is given, when the scores are real
    and lane 128 of the values is one. -/
theorem pay6_attend (v3 : Vec Ideal S1x256x256 .bf16) (v7 v9 : Vec Ideal S256x128 .f32)
    (v26 v34 : Vec Ideal S256x256 .bf16) (r : Fin 256) (l : Fin 128) (t : Fin 256 → ℝ)
    (hs : ∀ k, ∑ d : Fin 256, k0_pay5 v3 v7 v9 (ix2 r d) * v26 (ix2 k d) = (t k : EReal))
    (h1 : ∀ k : Fin 256, v34 (ix2 k 128) = 1) :
    k0_pay6 v3 v7 v9 v26 v34 (ix3 0 r l)
      = attend (fun k => t k * Real.log 2) fun k : Fin 256 => v34 (ix2 k ⟨l.val, by omega⟩) := by
  pointwise [k0_pay6]
  simp only [hs, h1, ofBits_neg_inf]
  exact attend_of_one t _ _ rfl

/-- A block of the latent's queries: the attention over the 4352 keys, given in two halves, when the scores are real
    and lane 128 of the values is one. -/
theorem pay7_attend (v3 : Vec Ideal S1x256x256 .bf16) (v7 v9 : Vec Ideal S256x128 .f32)
    (v26 v28 v36 v44 : Vec Ideal S2176x256 .bf16) (r : Fin 256) (l : Fin 128) (t : Fin 4352 → ℝ) (v : Fin 4352 → EReal)
    (hs₁ : ∀ k : Fin 2176, ∑ d : Fin 256, k0_pay5 v3 v7 v9 (ix2 r d) * v26 (ix2 k d) = (t ⟨k, by omega⟩ : EReal))
    (hs₂ : ∀ k : Fin 2176, ∑ d : Fin 256, k0_pay5 v3 v7 v9 (ix2 r d) * v28 (ix2 k d) = (t ⟨2176 + k, by omega⟩ : EReal))
    (hv₁ : ∀ k : Fin 2176, v36 (ix2 k ⟨l.val, by omega⟩) = v ⟨k, by omega⟩)
    (hv₂ : ∀ k : Fin 2176, v44 (ix2 k ⟨l.val, by omega⟩) = v ⟨2176 + k, by omega⟩)
    (h1₁ : ∀ k : Fin 2176, v36 (ix2 k 128) = 1) (h1₂ : ∀ k : Fin 2176, v44 (ix2 k 128) = 1) :
    k0_pay7 v3 v7 v9 v26 v28 v36 v44 (ix3 0 r l) = attend (fun k => t k * Real.log 2) v := by
  pointwise [k0_pay7]
  simp only [hs₁, hs₂, hv₁, hv₂, h1₁, h1₂, ofBits_neg_inf]
  exact attend_of_two (a := 2176) (b := 2176) rfl t v _ _ _ _ (fun _ => rfl) (fun _ => rfl) (fun _ => rfl) (fun _ => rfl)
    _ _ rfl rfl

end Cert.KernelIdeal.Value

end
-- ==== Proof.Attn.Gather.lean ====
module

public import Idealize.ShloMosaic.Lib.Pointwise
public import Idealize.ShloMosaic.Lib.StableHlo

@[expose] public section

noncomputable section

namespace Cert.Attn

open Idealize.ShloMosaic Idealize.ShloMosaic.Host

/-- The dimension numbers of `x[:, :, cols]`, for an operand `[A, B, N]` and `M` columns given as `[M, 1]`. -/
abbrev lastDims (A B N M : Nat) (wf : GatherDims.WF ⟨3, ![A, B, N]⟩ ⟨2, ![M, 1]⟩ ⟨3, ![A, B, M]⟩ [0, 1] [2] [] [2] [] 1 ![A, B, 1]) :
    GatherDims ⟨3, ![A, B, N]⟩ ⟨2, ![M, 1]⟩ ⟨3, ![A, B, M]⟩ where
  offsetDims := [0, 1]
  collapsedSliceDims := [2]
  operandBatchingDims := []
  startIndicesBatchingDims := []
  startIndexMap := [2]
  indexVectorDim := 1
  sliceSizes := ![A, B, 1]
  wf := wf

/-- A gather of whole columns of the last axis, read at an index: the operand at the column the start index names. -/
theorem gather_last_apply {α : Type} {A B N M w : Nat}
    (wf : GatherDims.WF ⟨3, ![A, B, N]⟩ ⟨2, ![M, 1]⟩ ⟨3, ![A, B, M]⟩ [0, 1] [2] [] [2] [] 1 ![A, B, 1])
    (x : (⟨3, ![A, B, N]⟩ : Shape).Idx → α) (idx : IVec ⟨2, ![M, 1]⟩ w) (a : Fin A) (b : Fin B) (j : Fin M) (n : Fin N)
    (h : (idx (ix2 j 0)).toInt.toNat = n.val) :
    Host.gather (lastDims A B N M wf) x idx (ix3 a b j) = x (ix3 a b n) := by
  unfold Host.gather
  congr 1
  funext k
  refine Fin.ext ?_
  show (lastDims A B N M wf).start (ix3 a b j) idx k + (lastDims A B N M wf).batchCoord (ix3 a b j) k
    + (lastDims A B N M wf).offCoord (ix3 a b j) k = _
  rw [GatherDims.batchCoord_eq_zero _ _ _ List.not_mem_nil, Nat.add_zero]
  match k with
  | ⟨0, _⟩ =>
    have hs : (lastDims A B N M wf).start (ix3 a b j) idx 0 = 0 := by
      unfold GatherDims.start
      exact dif_neg fun h => absurd (List.mem_singleton.mp h) (by simp)
    have ho : (lastDims A B N M wf).offCoord (ix3 a b j) 0 = a.val := by
      unfold GatherDims.offCoord
      rw [dif_pos ((GatherDims.mem_sKept _ _).mpr ⟨fun h => absurd (List.mem_singleton.mp h) (by simp), List.not_mem_nil⟩)]
      rfl
    exact (congrArg₂ (· + ·) hs ho).trans (Nat.zero_add _)
  | ⟨1, _⟩ =>
    have hs : (lastDims A B N M wf).start (ix3 a b j) idx 1 = 0 := by
      unfold GatherDims.start
      exact dif_neg fun h => absurd (List.mem_singleton.mp h) (by simp)
    have ho : (lastDims A B N M wf).offCoord (ix3 a b j) 1 = b.val := by
      unfold GatherDims.offCoord
      rw [dif_pos ((GatherDims.mem_sKept _ _).mpr ⟨fun h => absurd (List.mem_singleton.mp h) (by simp), List.not_mem_nil⟩)]
      rfl
    exact (congrArg₂ (· + ·) hs ho).trans (Nat.zero_add _)
  | ⟨2, _⟩ =>
    have ho : (lastDims A B N M wf).offCoord (ix3 a b j) 2 = 0 :=
      GatherDims.offCoord_eq_zero _ _ _ fun h => ((GatherDims.mem_sKept _ _).mp h).1 (List.mem_singleton.mpr rfl)
    have hs : (lastDims A B N M wf).start (ix3 a b j) idx 2 = n.val := by
      unfold GatherDims.start
      rw [dif_pos (show (2 : Fin 3) ∈ (lastDims A B N M wf).startIndexMap from List.mem_singleton.mpr rfl)]
      have hsi : (lastDims A B N M wf).siIdx (ix3 a b j) ⟨List.idxOf (2 : Fin 3) (lastDims A B N M wf).startIndexMap,
          List.idxOf_lt_length_iff.2 (List.mem_singleton.mpr rfl)⟩ = ix2 j 0 := by
        funext b; refine Fin.ext ?_
        match b with
        | ⟨0, _⟩ => rfl
        | ⟨1, _⟩ => rfl
      rw [hsi, h]
      exact Nat.min_eq_left (Nat.le_sub_one_of_lt n.isLt)
    exact congrArg₂ (· + ·) hs ho

end Cert.Attn

end
-- ==== Proof.Attn.Score.lean ====
module

public import proofs.«01_k».proof.Proof.Attn.Softmax
public import Idealize.ShloMosaic.Lib.Pointwise

@[expose] public section

noncomputable section

namespace Cert.Attn

/-- The even member of a pair turned by an angle of cosine c and sine s. -/
def turnE (c s x y : ℝ) : ℝ := x * c - y * s

/-- The odd member of a pair turned by an angle of cosine c and sine s. -/
def turnO (c s x y : ℝ) : ℝ := x * s + y * c

/-- The two members of pair j. -/
def lo (j : Fin 32) : Fin 64 := ⟨2 * j.val, by omega⟩
/-- The two members of pair j. -/
def hi (j : Fin 32) : Fin 64 := ⟨2 * j.val + 1, by omega⟩

/-- The rotary part of a score: the products of the turned pairs of a query and a key. -/
def rotary (x : Fin 64 → ℝ) (c s : Fin 32 → ℝ) (y : Fin 64 → ℝ) (c' s' : Fin 32 → ℝ) : ℝ :=
  ∑ j : Fin 32, (turnE (c j) (s j) (x (lo j)) (x (hi j)) * turnE (c' j) (s' j) (y (lo j)) (y (hi j))
    + turnO (c j) (s j) (x (lo j)) (x (hi j)) * turnO (c' j) (s' j) (y (lo j)) (y (hi j)))

/-- A score: the plain lanes' products and the rotary part. -/
def score (n : Fin 128 → ℝ) (x : Fin 64 → ℝ) (c s : Fin 32 → ℝ) (n' : Fin 128 → ℝ) (y : Fin 64 → ℝ)
    (c' s' : Fin 32 → ℝ) : ℝ := (∑ d : Fin 128, n d * n' d) + rotary x c s y c' s'

/-- The turned pairs laid out over 128 lanes: the even members, the odd members, then nothing. -/
def spread (x : Fin 64 → ℝ) (c s : Fin 32 → ℝ) (e : Fin 128) : ℝ :=
  if h : e.val < 32 then turnE (c ⟨e, h⟩) (s ⟨e, h⟩) (x (lo ⟨e, h⟩)) (x (hi ⟨e, h⟩))
  else if h : e.val < 64 then turnO (c ⟨e - 32, by omega⟩) (s ⟨e - 32, by omega⟩) (x (lo ⟨e - 32, by omega⟩))
    (x (hi ⟨e - 32, by omega⟩))
  else 0

/-- The turned pairs in their own order. -/
def turned (x : Fin 64 → ℝ) (c s : Fin 32 → ℝ) (r : Fin 64) : ℝ :=
  if r.val % 2 = 0 then turnE (c ⟨r / 2, by omega⟩) (s ⟨r / 2, by omega⟩) (x (lo ⟨r / 2, by omega⟩)) (x (hi ⟨r / 2, by omega⟩))
  else turnO (c ⟨r / 2, by omega⟩) (s ⟨r / 2, by omega⟩) (x (lo ⟨r / 2, by omega⟩)) (x (hi ⟨r / 2, by omega⟩))

/-- A row of 256 lanes: 128 plain ones and the spread of its turned pairs. -/
def lanes (n : Fin 128 → ℝ) (x : Fin 64 → ℝ) (c s : Fin 32 → ℝ) (d : Fin 256) : ℝ :=
  if h : d.val < 128 then n ⟨d, h⟩ else spread x c s ⟨d - 128, by omega⟩

/-- A sum over 64 places by pairs. -/
theorem sum_pairs (f : Fin 64 → ℝ) : ∑ r, f r = ∑ j : Fin 32, (f (lo j) + f (hi j)) := by
  rw [← (finProdFinEquiv : Fin 32 × Fin 2 ≃ Fin 64).sum_comp, Fintype.sum_prod_type]
  refine Finset.sum_congr rfl fun j _ => ?_
  rw [Fin.sum_univ_two]
  congr 2 <;> · ext; simp [finProdFinEquiv, lo, hi]; try omega

/-- The even place of a turned pair. -/
theorem turned_lo (x : Fin 64 → ℝ) (c s : Fin 32 → ℝ) (j : Fin 32) :
    turned x c s (lo j) = turnE (c j) (s j) (x (lo j)) (x (hi j)) := by
  have h : (⟨(lo j).val / 2, by omega⟩ : Fin 32) = j := by ext; simp [lo]
  unfold turned
  rw [if_pos (by simp [lo]), h]

/-- The odd place of a turned pair. -/
theorem turned_hi (x : Fin 64 → ℝ) (c s : Fin 32 → ℝ) (j : Fin 32) :
    turned x c s (hi j) = turnO (c j) (s j) (x (lo j)) (x (hi j)) := by
  have h : (⟨(hi j).val / 2, by omega⟩ : Fin 32) = j := by ext; simp [hi]; omega
  unfold turned
  rw [if_neg (by simp [hi]; try omega), h]

/-- A pair turned by no angle is itself. -/
theorem turned_one (x : Fin 64 → ℝ) (r : Fin 64) : turned x (fun _ => 1) (fun _ => 0) r = x r := by
  unfold turned turnE turnO
  split_ifs with h
  · have : lo ⟨r / 2, by omega⟩ = r := by ext; simp [lo]; omega
    simp [this]
  · have : hi ⟨r / 2, by omega⟩ = r := by ext; simp [hi]; omega
    simp [this]

/-- The products of the turned keys and queries, lane by lane, are the rotary part. -/
theorem sum_turned (x : Fin 64 → ℝ) (c s : Fin 32 → ℝ) (y : Fin 64 → ℝ) (c' s' : Fin 32 → ℝ) :
    ∑ r, turned y c' s' r * turned x c s r = rotary x c s y c' s' := by
  rw [sum_pairs]
  refine Finset.sum_congr rfl fun j _ => ?_
  rw [turned_lo, turned_lo, turned_hi, turned_hi]
  ring

/-- The products of the spread keys and queries are the rotary part. -/
theorem sum_spread (x : Fin 64 → ℝ) (c s : Fin 32 → ℝ) (y : Fin 64 → ℝ) (c' s' : Fin 32 → ℝ) :
    ∑ e, spread x c s e * spread y c' s' e = rotary x c s y c' s' := by
  have h1 := Fin.sum_univ_add (a := 64) (b := 64) fun e : Fin 128 => spread x c s e * spread y c' s' e
  have h2 := Fin.sum_univ_add (a := 32) (b := 32) fun e : Fin 64 =>
    spread x c s (Fin.castAdd 64 e) * spread y c' s' (Fin.castAdd 64 e)
  have h3 : ∑ e : Fin 64, spread x c s (Fin.natAdd 64 e) * spread y c' s' (Fin.natAdd 64 e) = 0 :=
    Finset.sum_eq_zero fun e _ => by simp [spread]
  rw [h3, add_zero] at h1
  refine h1.trans (h2.trans ?_)
  rw [← Finset.sum_add_distrib]
  exact Finset.sum_congr rfl fun j _ => by
    have h : j.val + 32 < 64 := by omega
    simp [spread, h]

/-- The products over the 256 lanes are the score. -/
theorem sum_lanes (n : Fin 128 → ℝ) (x : Fin 64 → ℝ) (c s : Fin 32 → ℝ) (n' : Fin 128 → ℝ) (y : Fin 64 → ℝ)
    (c' s' : Fin 32 → ℝ) : ∑ d, lanes n x c s d * lanes n' y c' s' d = score n x c s n' y c' s' := by
  have h1 := Fin.sum_univ_add (a := 128) (b := 128) fun d : Fin 256 => lanes n x c s d * lanes n' y c' s' d
  refine h1.trans ?_
  unfold score
  rw [← sum_spread]
  exact congrArg₂ (· + ·) (Finset.sum_congr rfl fun d _ => by simp [lanes]) (Finset.sum_congr rfl fun d _ => by simp [lanes])

/-- The place among 64 that a lane of the spread takes. -/
def permAt (e : ℕ) : ℕ :=
  if e < 32 then 2 * e else if e < 64 then 2 * (e - 32) + 1 else if e < 96 then 2 * (e - 64) + 1 else 2 * (e - 96)

/-- The place a lane takes is one of the 64. -/
theorem permAt_lt {e : ℕ} (h : e < 128) : permAt e < 64 := by unfold permAt; split_ifs <;> omega

/-- A table's cosine lanes: the cosines twice, then nothing. -/
def cosLane (c : Fin 32 → ℝ) (e : Fin 128) : ℝ :=
  if h : e.val < 32 then c ⟨e, h⟩ else if h : e.val < 64 then c ⟨e - 32, by omega⟩ else 0

/-- A table's sine lanes: the negated sines, the sines, then nothing. -/
def sinLane (s : Fin 32 → ℝ) (e : Fin 128) : ℝ :=
  if h : e.val < 32 then -s ⟨e, h⟩ else if h : e.val < 64 then s ⟨e - 32, by omega⟩ else 0

/-- A lane times its cosine and the lane 64 away times its sine is the spread of the turned pairs. -/
theorem lane_turned (x : Fin 64 → ℝ) (c s : Fin 32 → ℝ) (e : Fin 128) :
    x ⟨permAt e, permAt_lt e.isLt⟩ * cosLane c e
      + x ⟨permAt ((e.val + 64) % 128), permAt_lt (Nat.mod_lt _ (by decide))⟩ * sinLane s e = spread x c s e := by
  unfold cosLane sinLane spread turnE turnO
  by_cases h1 : e.val < 32
  · rw [dif_pos h1, dif_pos h1, dif_pos h1]
    have a : (⟨permAt e, permAt_lt e.isLt⟩ : Fin 64) = lo ⟨e, h1⟩ := by ext; simp [permAt, lo, h1]
    have b : (⟨permAt ((e.val + 64) % 128), permAt_lt (Nat.mod_lt _ (by decide))⟩ : Fin 64) = hi ⟨e, h1⟩ := by
      ext; simp only [permAt, hi]; split_ifs <;> omega
    rw [a, b]; ring
  · by_cases h2 : e.val < 64
    · rw [dif_neg h1, dif_neg h1, dif_neg h1, dif_pos h2, dif_pos h2, dif_pos h2]
      have a : (⟨permAt e, permAt_lt e.isLt⟩ : Fin 64) = hi ⟨e - 32, by omega⟩ := by ext; simp [permAt, hi, h1, h2]
      have b : (⟨permAt ((e.val + 64) % 128), permAt_lt (Nat.mod_lt _ (by decide))⟩ : Fin 64) = lo ⟨e - 32, by omega⟩ := by
        ext; simp only [permAt, lo]; split_ifs <;> omega
      rw [a, b]; ring
    · rw [dif_neg h1, dif_neg h1, dif_neg h1, dif_neg h2, dif_neg h2, dif_neg h2]; ring

end Cert.Attn
-- ==== Proof.Attn.Host.lean ====
module

public import proofs.«01_k».proof.Proof.Gen.KernelIdeal.Frame
public import proofs.«01_k».proof.Proof.Gen.ReferenceIdeal.Read
public import proofs.«01_k».proof.Proof.Attn.Gather
public import proofs.«01_k».proof.Proof.Attn.Score
public import Idealize.ShloMosaic.Lib.Pointwise
public import Idealize.ShloMosaic.Lib.Claim
public import Idealize.ShloMosaic.Lib.Pipeline.Regions

@[expose] public section

set_option maxRecDepth 16384

noncomputable section

open Idealize.ShloMosaic Idealize.ShloMosaic.TcCoe Idealize.SL.Sem

namespace Cert.KernelIdeal.Value

open Cert.KernelIdeal Cert.KernelIdeal.Gen Cert.Attn

variable (m : (ℓ : Loc nD τ sig) → Buf (Elt Ideal) ℓ)

/-- The even places 2e. -/
def hEven : IVec S32 32 :=
  addi (broadcastInDim S32 ![] bcast_S_S32 (constantI S_ 32 0#32))
    (muli (broadcastInDim S32 ![] bcast_S_S32 (constantI S_ 32 2#32)) (iotaInDim S32 32 0))

/-- The odd places 2e + 1. -/
def hOdd : IVec S32 32 :=
  addi (broadcastInDim S32 ![] bcast_S_S32 (constantI S_ 32 1#32))
    (muli (broadcastInDim S32 ![] bcast_S_S32 (constantI S_ 32 2#32)) (iotaInDim S32 32 0))

/-- The rotary lanes' places: the even ones, the odd ones twice, the even ones. -/
def hPerm : IVec S128 32 :=
  concatenate S128 0 [⟨S32, hEven⟩, ⟨S32, hOdd⟩, ⟨S32, hOdd⟩, ⟨S32, hEven⟩] concatenates_S32_S32_S32_S32_S128_d0

/-- The columns of the query each head's 256 lanes take: its 128 plain ones, then its rotary ones by `hPerm`. -/
def hCols : IVec S8192 32 :=
  shapeCast S8192 (addi
    (broadcastInDim S32x256 ![0, 1] bcast_S32x1_S32x256_0_1
      (muli (broadcastInDim S32x1 ![0] bcast_S32_S32x1_0 (iotaInDim S32 32 0))
        (broadcastInDim S32x1 ![] bcast_S_S32x1 (constantI S_ 32 192#32))))
    (broadcastInDim S32x256 ![0, 1] bcast_S1x256_S32x256_0_1
      (broadcastInDim S1x256 ![1] bcast_S256_S1x256_1
        (concatenate S256 0 [⟨S128, iotaInDim S128 32 0⟩,
          ⟨S128, addi (broadcastInDim S128 ![] bcast_S_S128 (constantI S_ 32 128#32)) hPerm⟩]
          concatenates_S128_S128_S256_d0)))) shapeCasts_S32x256_S8192

/-- `hCols` as the gather takes it: a negative column counted from the end. -/
def hColIdx : IVec S8192x1 32 :=
  broadcastInDim S8192x1 ![0] bcast_S8192_S8192x1_0
    (select (cmpi .slt hCols (broadcastInDim S8192 ![] bcast_S_S8192 (constantI S_ 32 0#32)))
      (addi hCols (broadcastInDim S8192 ![] bcast_S_S8192 (constantI S_ 32 6144#32))) hCols)

/-- `hPerm` as the gather takes it. -/
def hPermIdx : IVec S128x1 32 :=
  broadcastInDim S128x1 ![0] bcast_S128_S128x1_0
    (select (cmpi .slt hPerm (broadcastInDim S128 ![] bcast_S_S128 (constantI S_ 32 0#32)))
      (addi hPerm (broadcastInDim S128 ![] bcast_S_S128 (constantI S_ 32 64#32))) hPerm)

/-- The cosines by position: one over the context, then the latent grid's. -/
def hCos : FVec Ideal S4352x32 .f32 :=
  concatenate S4352x32 0 [⟨S256x32, broadcastInDim S256x32 ![] bcast_S_S256x32 (constant S_ .f32 0x3F800000#32)⟩,
    ⟨S4096x32, Cert.ReferenceIdeal.Read.val_main_v24 (F := Ideal)⟩] concatenates_S256x32_S4096x32_S4352x32_d0

/-- The sines by position: zero over the context, then the latent grid's. -/
def hSin : FVec Ideal S4352x32 .f32 :=
  concatenate S4352x32 0 [⟨S256x32, broadcastInDim S256x32 ![] bcast_S_S256x32 (constant S_ .f32 0x00000000#32)⟩,
    ⟨S4096x32, Cert.ReferenceIdeal.Read.val_main_v25 (F := Ideal)⟩] concatenates_S256x32_S4096x32_S4352x32_d0

/-- A quarter of a table that is zero. -/
def hZero : FVec Ideal S4352x32 .f32 :=
  broadcastInDim S4352x32 ![] bcast_S_S4352x32 (constant S_ .f32 0x00000000#32)

/-- The cosine table over the 128 lanes. -/
def hCtab : FVec Ideal S4352x128 .f32 :=
  concatenate S4352x128 1 [⟨S4352x32, hCos⟩, ⟨S4352x32, hCos⟩, ⟨S4352x32, hZero⟩, ⟨S4352x32, hZero⟩]
    concatenates_S4352x32_S4352x32_S4352x32_S4352x32_S4352x128_d1

/-- The sine table over the 128 lanes. -/
def hStab : FVec Ideal S4352x128 .f32 :=
  concatenate S4352x128 1 [⟨S4352x32, Host.negf hSin⟩, ⟨S4352x32, hSin⟩, ⟨S4352x32, hZero⟩, ⟨S4352x32, hZero⟩]
    concatenates_S4352x32_S4352x32_S4352x32_S4352x32_S4352x128_d1

/-- The keys' rotary lanes, spread over 128 lanes. -/
def hSpread (x : FVec Ideal S4x4352x64 .f32) : FVec Ideal S4x4352x128 .f32 :=
  Host.gather gather_S4x4352x64_S128x1_S4x4352x128_01_2_n_n_2_1_443521 x hPermIdx

/-- The keys' rotary lanes, turned. -/
def hKeys (x : FVec Ideal S4x4352x64 .f32) : FVec Ideal S4x4352x128 .bf16 :=
  truncf .bf16 (addf
    (mulf (hSpread x) (broadcastInDim S4x4352x128 ![0, 1, 2] bcast_S1x4352x128_S4x4352x128_0_1_2
      (broadcastInDim S1x4352x128 ![1, 2] bcast_S4352x128_S1x4352x128_1_2 hCtab)))
    (mulf (concatenate S4x4352x128 2
        [⟨S4x4352x64, extractStridedSlice S4x4352x64 ![0, 0, 64] (hSpread x) slices_S4x4352x128_S4x4352x64_0_0_64⟩,
          ⟨S4x4352x64, extractStridedSlice S4x4352x64 ![0, 0, 0] (hSpread x) slices_S4x4352x128_S4x4352x64_0_0_0⟩]
        concatenates_S4x4352x64_S4x4352x64_S4x4352x128_d2)
      (broadcastInDim S4x4352x128 ![0, 1, 2] bcast_S1x4352x128_S4x4352x128_0_1_2
        (broadcastInDim S1x4352x128 ![1, 2] bcast_S4352x128_S1x4352x128_1_2 hStab)))) bitsLt_bf16_f32

/-- The queries the kernel takes. -/
theorem V_v65 (c : Dev nD) : V m c main_v65 = truncf (F := Ideal) .bf16
    (Host.gather gather_S4x4352x6144_S8192x1_S4x4352x8192_01_2_n_n_2_1_443521
      (m ((c.tc : Thread nD τ).loc main_arg0) : FVec Ideal S4x4352x6144 .f32) hColIdx) bitsLt_bf16_f32 := by chain_rfl

/-- The key and value columns the kernel takes. -/
theorem V_v66 (c : Dev nD) : V m c main_v66
    = truncf (F := Ideal) .bf16 (m ((c.tc : Thread nD τ).loc main_arg2) : FVec Ideal S4x4352x8192 .f32) bitsLt_bf16_f32 := by
  chain_rfl

/-- The rotary keys the kernel takes. -/
theorem V_v82 (c : Dev nD) : V m c main_v82 = hKeys (m ((c.tc : Thread nD τ).loc main_arg1)) := by chain_rfl

/-- The cosine table the kernel takes. -/
theorem V_v42 (c : Dev nD) : V m c main_v42 = hCtab := by chain_rfl

/-- The sine table the kernel takes. -/
theorem V_v44 (c : Dev nD) : V m c main_v44 = hStab := by chain_rfl

/-- The spread's indices, decided. -/
theorem hPermIdx_at : ∀ e : Fin 128, (hPermIdx (ix2 e 0)).toInt.toNat = permAt e.val := by decide +kernel

/-- The column of the query that a lane takes. -/
def colAt (n : ℕ) : ℕ := 192 * (n / 256) + if n % 256 < 128 then n % 256 else 128 + permAt (n % 256 - 128)

/-- The column a lane takes is one of the queries' columns. -/
theorem colAt_lt {n : ℕ} (h : n < 8192) : colAt n < 6144 := by
  unfold colAt
  split_ifs with h1
  · omega
  · have := permAt_lt (e := n % 256 - 128) (by omega)
    omega

/-- The query's column indices, decided. -/
theorem hColIdx_at : ∀ n : Fin 8192, (hColIdx (ix2 n 0)).toInt.toNat = colAt n.val := by decide +kernel

end Cert.KernelIdeal.Value
-- ==== Proof.Attn.Tables.lean ====
module

public import proofs.«01_k».proof.Proof.Gen.ReferenceIdeal.Read
public import proofs.«01_k».proof.Proof.Attn.Score
public import Idealize.ShloMosaic.Lib.Pointwise

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.ReferenceIdeal.Read Cert.Attn

/-- A whole number read as a float is a real number. -/
theorem sitofp_real (n : BitVec 32) : ∃ r : ℝ, (FloatOps.sitofp (F := Ideal) .f32 n : EReal) = r := ⟨(n.toInt : ℝ), rfl⟩

/-- The word of sixteen. -/
theorem bits_sixteen : Ideal.ofBits .f32 0x41800000#32 = ((16 : ℝ) : EReal) := by
  simp [Ideal.ofBits, Ideal.ieee]
  norm_cast
  norm_num

/-- The word of ten thousand. -/
theorem bits_myriad : Ideal.ofBits .f32 0x461C4000#32 = ((10000 : ℝ) : EReal) := by
  simp [Ideal.ofBits, Ideal.ieee]
  norm_cast
  norm_num

/-- Each of the sixteen frequencies is a real number. -/
theorem freq_real (j : Fin 16) : ∃ r : ℝ, (val_main_v12 (F := Ideal) (ix1 j) : EReal) = r := by
  have h : val_main_v12 (F := Ideal) (ix1 j) = Ideal.pow (Ideal.ofBits FTy.f32 1176256512#32)
      (Ideal.div (-(FloatOps.sitofp (F := Ideal) FTy.f32 (BitVec.ofNat 32 j.val) : EReal)) (Ideal.ofBits FTy.f32 1098907648#32)) := by
    pointwise [val_main_v12, val_main_v11, val_main_v10, val_main_v9, val_main_v8, val_main_v7, val_main_cst, val_main_cst_0]
  obtain ⟨x, hx⟩ := sitofp_real (BitVec.ofNat 32 j.val)
  have h16 := bits_sixteen
  have h1e4 := bits_myriad
  refine ⟨Real.rpow 10000 (-x * (1 / 16)), ?_⟩
  rw [h, h16, h1e4, hx, ← EReal.coe_neg, Ideal.div_coe (by norm_num), ← EReal.coe_mul]
  rfl

/-- Every angle is a real number. -/
theorem ang_real (n : Fin 4096) (j : Fin 32) : ∃ r : ℝ, (val_main_v23 (F := Ideal) (ix2 n j) : EReal) = r := by
  have h : val_main_v23 (F := Ideal) (ix2 n j) = if h : j.val < 16
      then (FloatOps.sitofp (F := Ideal) FTy.f32 (BitVec.ofNat 32 (n.val / 64)) : EReal) * val_main_v12 (F := Ideal) (ix1 ⟨j.val, h⟩)
      else (FloatOps.sitofp (F := Ideal) FTy.f32 (BitVec.ofNat 32 (n.val % 64)) : EReal) * val_main_v12 (F := Ideal) (ix1 ⟨j.val - 16, by omega⟩) := by
    pointwise [val_main_v23, val_main_v22, val_main_v21, val_main_v20, val_main_v19, val_main_v18, val_main_v17, val_main_v16,
      val_main_v15, val_main_v14, val_main_v13, val_main_v6, val_main_v5, val_main_v4, val_main_v3, val_main_v2, val_main_v1,
      val_main_v0]
  rw [h]
  split_ifs with hj
  · obtain ⟨a, ha⟩ := sitofp_real (BitVec.ofNat 32 (n.val / 64))
    obtain ⟨b, hb⟩ := freq_real ⟨j.val, hj⟩
    exact ⟨a * b, by rw [EReal.coe_mul, ← ha, ← hb]⟩
  · obtain ⟨a, ha⟩ := sitofp_real (BitVec.ofNat 32 (n.val % 64))
    obtain ⟨b, hb⟩ := freq_real ⟨j.val - 16, by omega⟩
    exact ⟨a * b, by rw [EReal.coe_mul, ← ha, ← hb]⟩

/-- The cosine of a latent position's angle. -/
def cosT (n : Fin 4096) (j : Fin 32) : ℝ := (val_main_v24 (F := Ideal) (ix2 n j) : EReal).toReal

/-- The sine of a latent position's angle. -/
def sinT (n : Fin 4096) (j : Fin 32) : ℝ := (val_main_v25 (F := Ideal) (ix2 n j) : EReal).toReal

/-- The reference's cosine table at a position and pair. -/
theorem v24_at (n : Fin 4096) (j : Fin 32) : val_main_v24 (F := Ideal) (ix2 n j) = (cosT n j : EReal) := by
  obtain ⟨r, hr⟩ := ang_real n j
  have h : (val_main_v24 (F := Ideal) (ix2 n j) : EReal) = (Real.cos r : EReal) := by
    rw [val_main_v24_apply]; exact congrArg Ideal.cos hr
  unfold cosT
  rw [h, EReal.toReal_coe]

/-- The reference's sine table at a position and pair. -/
theorem v25_at (n : Fin 4096) (j : Fin 32) : val_main_v25 (F := Ideal) (ix2 n j) = (sinT n j : EReal) := by
  obtain ⟨r, hr⟩ := ang_real n j
  have h : (val_main_v25 (F := Ideal) (ix2 n j) : EReal) = (Real.sin r : EReal) := by
    rw [val_main_v25_apply]; exact congrArg Ideal.sin hr
  unfold sinT
  rw [h, EReal.toReal_coe]

/-- The cosines of a token's position: one for a context token, which carries none. -/
def cosAt (i : Fin 4352) (j : Fin 32) : ℝ := if h : i.val < 256 then 1 else cosT ⟨i.val - 256, by omega⟩ j

/-- The sines of a token's position: zero for a context token. -/
def sinAt (i : Fin 4352) (j : Fin 32) : ℝ := if h : i.val < 256 then 0 else sinT ⟨i.val - 256, by omega⟩ j

end Cert.ReferenceIdeal.Value
-- ==== Proof.Attn.HostAt.lean ====
module

public import proofs.«01_k».proof.Proof.Attn.Host
public import proofs.«01_k».proof.Proof.Attn.Tables
public import Idealize.ShloMosaic.Lib.IdealHost

@[expose] public section

set_option maxRecDepth 16384

noncomputable section

open Idealize.ShloMosaic Idealize.ShloMosaic.TcCoe Idealize.SL.Sem

namespace Cert.KernelIdeal.Value

open Cert.KernelIdeal Cert.KernelIdeal.Gen Cert.Attn
open Cert.ReferenceIdeal.Value (cosAt sinAt v24_at v25_at)

variable (m : (ℓ : Loc nD τ sig) → Buf (Elt Ideal) ℓ)

/-- The cosines by position, as real numbers. -/
theorem hCos_at (i : Fin 4352) (j : Fin 32) : hCos (ix2 i j) = (cosAt i j : EReal) := by
  have h : hCos (ix2 i j) = if h : i.val < 256 then Ideal.ofBits .f32 0x3F800000#32
      else Cert.ReferenceIdeal.Read.val_main_v24 (F := Ideal) (ix2 ⟨i.val - 256, by omega⟩ j) := by
    pointwise [hCos]
  refine h.trans ?_
  unfold cosAt
  split_ifs with hi
  · exact Ideal.ofBits_one_f32
  · exact v24_at _ j

/-- The sines by position, as real numbers. -/
theorem hSin_at (i : Fin 4352) (j : Fin 32) : hSin (ix2 i j) = (sinAt i j : EReal) := by
  have h : hSin (ix2 i j) = if h : i.val < 256 then Ideal.ofBits .f32 0x00000000#32
      else Cert.ReferenceIdeal.Read.val_main_v25 (F := Ideal) (ix2 ⟨i.val - 256, by omega⟩ j) := by
    pointwise [hSin]
  refine h.trans ?_
  unfold sinAt
  split_ifs with hi
  · exact Ideal.ofBits_zero_f32
  · exact v25_at _ j

/-- The cosine table, as real numbers. -/
theorem hCtab_at (i : Fin 4352) (e : Fin 128) : hCtab (ix2 i e) = (cosLane (cosAt i) e : EReal) := by
  have h : hCtab (ix2 i e) = if h : e.val < 32 then hCos (ix2 i ⟨e.val, h⟩)
      else if h : e.val < 64 then hCos (ix2 i ⟨e.val - 32, by omega⟩) else Ideal.ofBits .f32 0x00000000#32 := by
    pointwise [hCtab, hZero]
    by_cases h1 : e.val < 32 <;> by_cases h2 : e.val < 64 <;> by_cases h3 : e.val - 32 < 32 <;> first | omega | simp [h1, h2, h3]
  refine h.trans ?_
  unfold cosLane
  split_ifs with h1 h2
  · exact hCos_at i _
  · exact hCos_at i _
  · exact Ideal.ofBits_zero_f32

/-- The sine table, as real numbers. -/
theorem hStab_at (i : Fin 4352) (e : Fin 128) : hStab (ix2 i e) = (sinLane (sinAt i) e : EReal) := by
  have h : hStab (ix2 i e) = if h : e.val < 32 then (-(hSin (ix2 i ⟨e.val, h⟩) : EReal) : EReal)
      else if h : e.val < 64 then hSin (ix2 i ⟨e.val - 32, by omega⟩) else Ideal.ofBits .f32 0x00000000#32 := by
    pointwise [hStab, hZero]
    by_cases h1 : e.val < 32 <;> by_cases h2 : e.val < 64 <;> by_cases h3 : e.val - 32 < 32 <;> first | omega | simp [h1, h2, h3]
  refine h.trans ?_
  unfold sinLane
  split_ifs with h1 h2
  · rw [hSin_at i _, EReal.coe_neg]
  · exact hSin_at i _
  · exact Ideal.ofBits_zero_f32

/-- The keys' rotary lanes, spread: lane `e` takes place `permAt e`. -/
theorem hSpread_at (x : FVec Ideal S4x4352x64 .f32) (b : Fin 4) (k : Fin 4352) (e : Fin 128) :
    hSpread x (ix3 b k e) = x (ix3 b k ⟨permAt e, permAt_lt e.isLt⟩) :=
  gather_last_apply _ x hPermIdx b k e ⟨permAt e, permAt_lt e.isLt⟩ (hPermIdx_at e)

/-- The keys' rotary lanes, turned, where they are real: the spread of the turned pairs. -/
theorem hKeys_at (x : FVec Ideal S4x4352x64 .f32) (b : Fin 4) (k : Fin 4352) (y : Fin 64 → ℝ)
    (hy : ∀ r, x (ix3 b k r) = (y r : EReal)) (e : Fin 128) :
    hKeys x (ix3 b k e) = (spread y (cosAt k) (sinAt k) e : EReal) := by
  have h : hKeys x (ix3 b k e) = (hSpread x (ix3 b k e) : EReal) * hCtab (ix2 k e)
      + (hSpread x (ix3 b k ⟨(e.val + 64) % 128, Nat.mod_lt _ (by decide)⟩) : EReal) * hStab (ix2 k e) := by
    pointwise [hKeys]
    by_cases h : e.val < 64
    · rw [dif_pos h]
      exact congrArg (fun z => (hSpread x (ix3 b k e) : EReal) * hCtab (ix2 k e) + (hSpread x (ix3 b k z) : EReal) * hStab (ix2 k e))
        (Fin.ext (by simp only; omega))
    · rw [dif_neg h]
      exact congrArg (fun z => (hSpread x (ix3 b k e) : EReal) * hCtab (ix2 k e) + (hSpread x (ix3 b k z) : EReal) * hStab (ix2 k e))
        (Fin.ext (by simp only; omega))
  refine h.trans ?_
  rw [hSpread_at, hSpread_at, hy, hy, hCtab_at, hStab_at, ← EReal.coe_mul, ← EReal.coe_mul, ← EReal.coe_add]
  exact congrArg _ (lane_turned y (cosAt k) (sinAt k) e)

/-- The queries the kernel takes, at a lane: the query at that lane's column. -/
theorem V_v65_at (c : Dev nD) (b : Fin 4) (i : Fin 4352) (n : Fin 8192) :
    (V m c main_v65 : FVec Ideal S4x4352x8192 .bf16) (ix3 b i n)
      = (m ((c.tc : Thread nD τ).loc main_arg0) : FVec Ideal S4x4352x6144 .f32) (ix3 b i ⟨colAt n, colAt_lt n.isLt⟩) := by
  rw [V_v65]
  exact gather_last_apply _ (m ((c.tc : Thread nD τ).loc main_arg0) : FVec Ideal S4x4352x6144 .f32) hColIdx b i n
    ⟨colAt n, colAt_lt n.isLt⟩ (hColIdx_at n)

end Cert.KernelIdeal.Value
-- ==== Proof.Attn.Blocks.lean ====
module

public import proofs.«01_k».proof.Proof.Gen.KernelIdeal.Frame
public import proofs.«01_k».proof.Proof.Attn.Score
public import Idealize.ShloMosaic.Lib.Pointwise
public import Idealize.ShloMosaic.Lib.Pipeline.ValueKit
public import Idealize.ShloMosaic.Lib.Pipeline.ValueKit.Held
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Attn

variable (m : (ℓ : Loc nD τ sig) → Buf (Elt Ideal) ℓ)

/-- Which block of its array each window takes at a grid point. -/
theorem idx : ∀ t : Fin cfg0.N,
    win0_0.index t = ![t.val / 544, t.val % 17, t.val / 17 % 32] ∧
    win0_1.index t = ![t.val / 544, 0, 2 * (t.val / 17 % 32)] ∧
    win0_2.index t = ![t.val / 544, 0, 2 * (t.val / 17 % 32) + 1] ∧
    win0_3.index t = ![t.val / 544, 0, 0] ∧
    win0_4.index t = ![t.val % 17, 0] ∧ win0_5.index t = ![t.val % 17, 0] ∧
    win0_6.index t = ![t.val / 544, t.val % 17, t.val / 17 % 32] :=
  (by decide +kernel : ∀ t : Fin grid0.N, _)

section At

variable (c : Dev nD) (t : Fin cfg0.N) (b : Fin 4) (h : Fin 32) (hb : t.val / 544 = b.val) (hh : t.val / 17 % 32 = h.val)

include hb hh

/-- The query block of a point: 256 rows of its batch element, 256 lanes of its head. -/
theorem blk0_at (r d : Fin 256) : (show FVec Ideal S1x256x256 .bf16 from iblk m c 0 t) (ix3 0 r d)
    = (V m c main_v65 : FVec Ideal S4x4352x8192 .bf16) (ix3 b ⟨256 * (t.val % 17) + r.val, by omega⟩ ⟨256 * h.val + d.val, by omega⟩) := by
  blk_ext [iblk, idx t]

/-- The key block of a point: all rows of its batch element, its head's plain key lanes. -/
theorem blk1_at (k : Fin 4352) (d : Fin 128) : (show FVec Ideal S1x4352x128 .bf16 from iblk m c 1 t) (ix3 0 k d)
    = (V m c main_v66 : FVec Ideal S4x4352x8192 .bf16) (ix3 b k ⟨h.val * 256 + d.val, by omega⟩) := by
  blk_ext [iblk, idx t]

/-- The value block of a point: all rows of its batch element, its head's value lanes. -/
theorem blk2_at (k : Fin 4352) (d : Fin 128) : (show FVec Ideal S1x4352x128 .bf16 from iblk m c 2 t) (ix3 0 k d)
    = (V m c main_v66 : FVec Ideal S4x4352x8192 .bf16) (ix3 b k ⟨h.val * 256 + (128 + d.val), by omega⟩) := by
  blk_ext [iblk, idx t]

/-- The rotary key block of a point: all of its batch element's. -/
theorem blk3_at (k : Fin 4352) (d : Fin 128) : (show FVec Ideal S1x4352x128 .bf16 from iblk m c 3 t) (ix3 0 k d)
    = (V m c main_v82 : FVec Ideal S4x4352x128 .bf16) (ix3 b k d) := by
  blk_ext [iblk, idx t]

/-- The cosine block of a point: the rows of its queries. -/
theorem blk4_at (r : Fin 256) (e : Fin 128) : (show FVec Ideal S256x128 .f32 from iblk m c 4 t) (ix2 r e)
    = (V m c main_v42 : FVec Ideal S4352x128 .f32) (ix2 ⟨256 * (t.val % 17) + r.val, by omega⟩ e) := by
  blk_ext [iblk, idx t]

/-- The sine block of a point: the rows of its queries. -/
theorem blk5_at (r : Fin 256) (e : Fin 128) : (show FVec Ideal S256x128 .f32 from iblk m c 5 t) (ix2 r e)
    = (V m c main_v44 : FVec Ideal S4352x128 .f32) (ix2 ⟨256 * (t.val % 17) + r.val, by omega⟩ e) := by
  blk_ext [iblk, idx t]

end At

end Cert.KernelIdeal.Value
-- ==== Proof.Attn.Canon.lean ====
module

public import proofs.«01_k».proof.Proof.Gen.KernelIdeal.Frame
public import proofs.«01_k».proof.Proof.Attn.Score
public import Idealize.ShloMosaic.Lib.Pointwise
public import Idealize.ShloMosaic.Lib.Pipeline.ValueKit
public import Idealize.ShloMosaic.Lib.Pipeline.ValueKit.Held
public import Idealize.ShloMosaic.Lib.Pipeline.ReadBack
public import Idealize.ShloMosaic.Lib.Pipeline.Covers
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Attn

variable (m : (ℓ : Loc nD τ sig) → Buf (Elt Ideal) ℓ)

/-- What the first point of a head's run leaves in the key scratch. -/
def keyAt (c : Dev nD) (t : Fin cfg0.N) (y : S4352x256.Idx) : EReal :=
  (if h : (y 1).val < 128 then (show FVec Ideal S1x4352x128 .bf16 from iblk m c 1 t) (ix3 0 (y 0) ⟨(y 1).val, h⟩)
    else (show FVec Ideal S1x4352x128 .bf16 from iblk m c 3 t) (ix3 0 (y 0) ⟨(y 1).val - 128, by have := (y 1).isLt; simp at this; omega⟩))

/-- What the first point of a head's run leaves in the value scratch. -/
def valAt (c : Dev nD) (t : Fin cfg0.N) (y : S4352x256.Idx) : EReal :=
  (if h : (y 1).val < 128 then (show FVec Ideal S1x4352x128 .bf16 from iblk m c 2 t) (ix3 0 (y 0) ⟨(y 1).val, h⟩) else 1)

/-- What is stored of the plain keys is the block itself. -/
theorem pay1_at (v : Vec Ideal S1x4352x128 .bf16) (x : S4352x128.Idx) : k0_pay1 v x = v (ix3 0 (x 0) (x 1)) := by
  idx_vars x
  pointwise [k0_pay1]

/-- What is stored of the rotary keys is the block itself. -/
theorem pay2_at (v : Vec Ideal S1x4352x128 .bf16) (x : S4352x128.Idx) : k0_pay2 v x = v (ix3 0 (x 0) (x 1)) := by
  idx_vars x
  pointwise [k0_pay2]

/-- What is stored of the values is the block itself. -/
theorem pay3_at (v : Vec Ideal S1x4352x128 .bf16) (x : S4352x128.Idx) : k0_pay3 v x = v (ix3 0 (x 0) (x 1)) := by
  idx_vars x
  pointwise [k0_pay3]

/-- What is stored beside the values is one. -/
theorem pay4_at (x : S4352x128.Idx) : k0_pay4 (F := Ideal) x = (1 : EReal) := by
  have h : k0_pay4 (F := Ideal) x = Ideal.ofBits .bf16 0x3F80#16 := by
    idx_vars x
    pointwise [k0_pay4]
  exact h.trans Ideal.ofBits_one_bf16

/-- The two pieces the first point writes into the key scratch, joined. -/
theorem key_canon (c : Dev nD) (t : Fin cfg0.N) :
    (View.canon (Val := Elt Ideal) [⟨Rect.unit (s := S4352x256) ![0, 128] ![4352, 128] inb_S4352x256_S4352x128_0_128, k0_pay2 (iblk m c 3 t)⟩,
      ⟨Rect.unit (s := S4352x256) ![0, 0] ![4352, 128] inb_S4352x256_S4352x128_0_0, k0_pay1 (iblk m c 1 t)⟩] : S4352x256.Idx → Elt Ideal .bf16) = keyAt m c t := by
  funext y
  canon_tiles x hx
  · refine (pay2_at _ x).trans ?_
    unfold keyAt
    rw [dif_neg (by omega)]
    exact congrArg₂ (fun a b => (show FVec Ideal S1x4352x128 .bf16 from iblk m c 3 t) (ix3 0 a b)) (Fin.ext hx0.symm) (Fin.ext (by simp only; omega))
  · refine (pay1_at _ x).trans ?_
    unfold keyAt
    rw [dif_pos (by omega)]
    exact congrArg₂ (fun a b => (show FVec Ideal S1x4352x128 .bf16 from iblk m c 1 t) (ix3 0 a b)) (Fin.ext hx0.symm) (Fin.ext (by simp only; omega))

/-- The two pieces the first point writes into the value scratch, joined. -/
theorem val_canon (c : Dev nD) (t : Fin cfg0.N) :
    (View.canon (Val := Elt Ideal) [⟨Rect.unit (s := S4352x256) ![0, 128] ![4352, 128] inb_S4352x256_S4352x128_0_128, k0_pay4 (F := Ideal)⟩,
      ⟨Rect.unit (s := S4352x256) ![0, 0] ![4352, 128] inb_S4352x256_S4352x128_0_0, k0_pay3 (iblk m c 2 t)⟩] : S4352x256.Idx → Elt Ideal .bf16) = valAt m c t := by
  funext y
  canon_tiles x hx
  · refine (pay4_at x).trans ?_
    unfold valAt
    rw [dif_neg (by omega)]
  · refine (pay3_at _ x).trans ?_
    unfold valAt
    rw [dif_pos (by omega)]
    exact congrArg₂ (fun a b => (show FVec Ideal S1x4352x128 .bf16 from iblk m c 2 t) (ix3 0 a b)) (Fin.ext hx0.symm) (Fin.ext (by simp only; omega))

end Cert.KernelIdeal.Value
-- ==== Proof.Attn.RefSoft.lean ====
module

public import proofs.«01_k».proof.Proof.Attn.Tables
public import proofs.«01_k».proof.Proof.Attn.Softmax
public import Idealize.ShloMosaic.Lib.IdealHost

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.ReferenceIdeal.Read Cert.Attn

/-- The shapes of a softmax: scores by batch, head, query and key; by query; by query with one key. -/
abbrev scoreS (Q K : ℕ) : Shape := ⟨4, ![4, 32, Q, K]⟩
/-- The shape of one number per query and head. -/
abbrev rowS (Q : ℕ) : Shape := ⟨3, ![4, 32, Q]⟩

section Rows

variable {Q K : ℕ} (hr : (scoreS Q K).ReducesTo [3] (rowS Q))
  (h0 : S_.BroadcastsInDim (rowS Q) (![] : Fin 0 → Fin (rowS Q).rank))
  (h1 : (rowS Q).BroadcastsInDim (scoreS Q 1) (![0, 1, 2] : Fin 3 → Fin (scoreS Q 1).rank))
  (h2 : (scoreS Q 1).BroadcastsInDim (scoreS Q K) (![0, 1, 2, 3] : Fin 4 → Fin (scoreS Q K).rank))
  (b : Fin 4) (h : Fin 32) (n : Fin Q)

/-- The largest score of a row, as a fold. -/
theorem rowMax_at (s : FVec Ideal (scoreS Q K) .f32) :
    Host.reduce FloatOps.maximumf s (constant (F := Ideal) S_ .f32 0xFF800000#32) hr h_S_ (ix3 b h n)
      = Finset.univ.fold max (Ideal.ofBits .f32 0xFF800000#32) fun x : Fin K => (s (ix4 b h n x) : EReal) := by
  pointwise

/-- The sum of a row's entries. -/
theorem rowSum_at (s : FVec Ideal (scoreS Q K) .f32) :
    Host.reduceAdd s (constant (F := Ideal) S_ .f32 0x00000000#32) hr h_S_ (ix3 b h n)
      = ∑ x : Fin K, (s (ix4 b h n x) : EReal) := by
  pointwise

/-- The exponentials of a row of real scores, each less the row's largest: some real shift of them. `hB` says that a row's
    value laid over its keys is that value. -/
theorem exps_real [NeZero K] (hB : ∀ (L : FVec Ideal (rowS Q) .f32) (k : Fin K),
      broadcastInDim (scoreS Q K) ![0, 1, 2, 3] h2 (broadcastInDim (scoreS Q 1) ![0, 1, 2] h1 L) (ix4 b h n k) = L (ix3 b h n))
    (s : FVec Ideal (scoreS Q K) .f32) (x : Fin K → ℝ) (hx : ∀ k, s (ix4 b h n k) = (x k : EReal)) :
    ∃ M : ℝ, ∀ k, Host.exp (subf s (broadcastInDim (scoreS Q K) ![0, 1, 2, 3] h2 (broadcastInDim (scoreS Q 1) ![0, 1, 2] h1
      (maximumf (broadcastInDim (rowS Q) ![] h0 (constant S_ .f32 0xFF800000#32))
        (Host.reduce FloatOps.maximumf s (constant (F := Ideal) S_ .f32 0xFF800000#32) hr h_S_))))) (ix4 b h n k)
      = Ideal.exp ((x k : EReal) - (M : EReal)) := by
  obtain ⟨M, hM⟩ := fold_max_real x
  refine ⟨M, fun k => ?_⟩
  refine congrArg₂ (fun y z : EReal => Ideal.exp (y - z)) (hx k) ((hB _ k).trans ?_)
  refine (congrArg (fun z : EReal => max (Ideal.ofBits .f32 0xFF800000#32) z) (rowMax_at hr b h n s)).trans ?_
  rw [ofBits_neg_inf, funext hx, hM]
  exact max_eq_right bot_le

/-- The weights of a row: its exponentials divided by their sum. -/
theorem weights_at (hB : ∀ (L : FVec Ideal (rowS Q) .f32) (k : Fin K),
      broadcastInDim (scoreS Q K) ![0, 1, 2, 3] h2 (broadcastInDim (scoreS Q 1) ![0, 1, 2] h1 L) (ix4 b h n k) = L (ix3 b h n))
    (e : FVec Ideal (scoreS Q K) .f32) (k : Fin K) :
    Host.divf e (broadcastInDim (scoreS Q K) ![0, 1, 2, 3] h2 (broadcastInDim (scoreS Q 1) ![0, 1, 2] h1
      (Host.reduceAdd e (constant (F := Ideal) S_ .f32 0x00000000#32) hr h_S_))) (ix4 b h n k)
    = Ideal.div (e (ix4 b h n k)) (∑ x : Fin K, (e (ix4 b h n x) : EReal)) :=
  congrArg (fun z : EReal => Ideal.div (e (ix4 b h n k)) z) ((hB _ k).trans (rowSum_at hr b h n e))

end Rows

end Cert.ReferenceIdeal.Value
-- ==== Proof.Attn.RefOut.lean ====
module

public import proofs.«01_k».proof.Proof.Attn.Tables
public import proofs.«01_k».proof.Proof.Attn.Softmax
public import Idealize.ShloMosaic.Lib.IdealHost

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.ReferenceIdeal.Read Cert.Attn

/-- The heads laid side by side: an entry's head and lane from its column. -/
theorem flat_at (A : FVec Ideal S4x4352x32x128 .f32) (b : Fin 4) (i : Fin 4352) (n : Fin 4096) :
    (truncf (F := Ideal) .bf16 (shapeCast S4x4352x4096 A shapeCasts_S4x4352x32x128_S4x4352x4096) bitsLt_bf16_f32) (ix3 b i n)
      = A (ix4 b i ⟨n.val / 128, by omega⟩ ⟨n.val % 128, by omega⟩) := by
  pointwise

/-- Context rows first, latent rows after them. -/
theorem joined_at (A : FVec Ideal S4x256x32x128 .f32) (B : FVec Ideal S4x4096x32x128 .f32) (b : Fin 4) (i : Fin 4352)
    (h : Fin 32) (d : Fin 128) :
    concatenate S4x4352x32x128 1 [⟨S4x256x32x128, A⟩, ⟨S4x4096x32x128, B⟩]
      concatenates_S4x256x32x128_S4x4096x32x128_S4x4352x32x128_d1 (ix4 b i h d)
    = if h' : i.val < 256 then A (ix4 b ⟨i.val, h'⟩ h d) else B (ix4 b ⟨i.val - 256, by omega⟩ h d) := by
  pointwise

/-- The context's result with its axes put in order. -/
theorem swapC_at (A : FVec Ideal S4x32x128x256 .f32) (b : Fin 4) (n : Fin 256) (h : Fin 32) (d : Fin 128) :
    transpose S4x256x32x128 [0, 3, 1, 2] A transposes_S4x32x128x256_S4x256x32x128_0_3_1_2 (ix4 b n h d) = A (ix4 b h d n) := by
  pointwise

/-- The latent's result with its axes put in order. -/
theorem swapL_at (A : FVec Ideal S4x32x128x4096 .f32) (b : Fin 4) (n : Fin 4096) (h : Fin 32) (d : Fin 128) :
    transpose S4x4096x32x128 [0, 3, 1, 2] A transposes_S4x32x128x4096_S4x4096x32x128_0_3_1_2 (ix4 b n h d) = A (ix4 b h d n) := by
  pointwise

/-- The context's mixed values as a sum over its keys. -/
theorem mixC_at (v : FVec Ideal S4x256x32x128 .f32) (p : FVec Ideal S4x32x256x256 .f32) (b : Fin 4) (h : Fin 32) (d : Fin 128)
    (n : Fin 256) : Host.dotGeneral dot_S4x256x32x128_S4x32x256x256_S4x32x128x256_1_3_3_2_02_01 none v p (ix4 b h d n)
      = ∑ x : Fin 256, (v (ix4 b x h d) : EReal) * p (ix4 b h n x) := by
  pointwise

/-- The latent's mixed values as a sum over all keys. -/
theorem mixL_at (v : FVec Ideal S4x4352x32x128 .f32) (p : FVec Ideal S4x32x4096x4352 .f32) (b : Fin 4) (h : Fin 32) (d : Fin 128)
    (n : Fin 4096) : Host.dotGeneral dot_S4x4352x32x128_S4x32x4096x4352_S4x32x128x4096_1_3_3_2_02_01 none v p (ix4 b h d n)
      = ∑ x : Fin 4352, (v (ix4 b x h d) : EReal) * p (ix4 b h n x) := by
  pointwise

/-- The result's layout, of the context's and the latent tokens' attention. -/
theorem out_at (A : FVec Ideal S4x32x128x256 .f32) (B : FVec Ideal S4x32x128x4096 .f32) (b : Fin 4) (i : Fin 4352) (n : Fin 4096) :
    (truncf (F := Ideal) .bf16 (shapeCast S4x4352x4096 (concatenate S4x4352x32x128 1
      [⟨S4x256x32x128, transpose S4x256x32x128 [0, 3, 1, 2] A transposes_S4x32x128x256_S4x256x32x128_0_3_1_2⟩,
        ⟨S4x4096x32x128, transpose S4x4096x32x128 [0, 3, 1, 2] B transposes_S4x32x128x4096_S4x4096x32x128_0_3_1_2⟩]
      concatenates_S4x256x32x128_S4x4096x32x128_S4x4352x32x128_d1) shapeCasts_S4x4352x32x128_S4x4352x4096) bitsLt_bf16_f32) (ix3 b i n)
    = if h : i.val < 256 then A (ix4 b ⟨n.val / 128, by omega⟩ ⟨n.val % 128, by omega⟩ ⟨i.val, h⟩)
      else B (ix4 b ⟨n.val / 128, by omega⟩ ⟨n.val % 128, by omega⟩ ⟨i.val - 256, by omega⟩) := by
  refine (flat_at _ b i n).trans ((joined_at _ _ b i _ _).trans ?_)
  by_cases hi : i.val < 256
  · rw [dif_pos hi, dif_pos hi]; exact swapC_at A b _ _ _
  · rw [dif_neg hi, dif_neg hi]; exact swapL_at B b _ _ _

end Cert.ReferenceIdeal.Value
-- ==== Proof.Attn.RefRot.lean ====
module

public import proofs.«01_k».proof.Proof.Attn.Tables
public import proofs.«01_k».proof.Proof.Attn.Softmax
public import Idealize.ShloMosaic.Lib.IdealHost

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.ReferenceIdeal.Read Cert.Attn

variable (x0 : FVec Ideal S4x4352x6144 .f32) (x1 : FVec Ideal S4x4352x64 .f32)

/-- A head's rotary query lanes, at a token. -/
abbrev ropeLane (h : Fin 32) (r : Fin 64) : Fin 6144 := ⟨h.val * 192 + (128 + r.val), by omega⟩

/-- A latent query's rotary lanes, turned by its position's angles. -/
theorem v57_at (b : Fin 4) (n : Fin 4096) (h : Fin 32) (q : Fin 64 → ℝ)
    (hq : ∀ r, x0 (ix3 b ⟨256 + n.val, by omega⟩ (ropeLane h r)) = (q r : EReal)) (r : Fin 64) :
    val_main_v57 (F := Ideal) x0 (ix4 b n h r) = (turned q (cosT n) (sinT n) r : EReal) := by
  have e : val_main_v57 (F := Ideal) x0 (ix4 b n h r) = if _h : r.val % 2 < 1 then
      (x0 (ix3 b ⟨256 + n.val, by omega⟩ ⟨h.val * 192 + (128 + r.val / 2 * 2), by omega⟩) : EReal) * val_main_v24 (F := Ideal) (ix2 n ⟨r.val / 2, by omega⟩)
        - x0 (ix3 b ⟨256 + n.val, by omega⟩ ⟨h.val * 192 + (128 + (r.val / 2 * 2 + 1)), by omega⟩) * val_main_v25 (F := Ideal) (ix2 n ⟨r.val / 2, by omega⟩)
      else
      (x0 (ix3 b ⟨256 + n.val, by omega⟩ ⟨h.val * 192 + (128 + r.val / 2 * 2), by omega⟩) : EReal) * val_main_v25 (F := Ideal) (ix2 n ⟨r.val / 2, by omega⟩)
        + x0 (ix3 b ⟨256 + n.val, by omega⟩ ⟨h.val * 192 + (128 + (r.val / 2 * 2 + 1)), by omega⟩) * val_main_v24 (F := Ideal) (ix2 n ⟨r.val / 2, by omega⟩) := by
    pointwise [val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v29, val_main_v26]
  have h0 : x0 (ix3 b ⟨256 + n.val, by omega⟩ ⟨h.val * 192 + (128 + r.val / 2 * 2), by omega⟩) = (q (lo ⟨r.val / 2, by omega⟩) : EReal) := by
    rw [← hq]; exact congrArg (fun z => x0 (ix3 b ⟨256 + n.val, by omega⟩ z)) (Fin.ext (by simp only [lo]; omega))
  have h1 : x0 (ix3 b ⟨256 + n.val, by omega⟩ ⟨h.val * 192 + (128 + (r.val / 2 * 2 + 1)), by omega⟩) = (q (hi ⟨r.val / 2, by omega⟩) : EReal) := by
    rw [← hq]; exact congrArg (fun z => x0 (ix3 b ⟨256 + n.val, by omega⟩ z)) (Fin.ext (by simp only [hi]; omega))
  refine e.trans ?_
  unfold turned turnE turnO
  by_cases hr : r.val % 2 = 0
  · rw [dif_pos (by omega), if_pos hr, h0, h1, v24_at, v25_at, EReal.coe_sub, EReal.coe_mul, EReal.coe_mul]
  · rw [dif_neg (by omega), if_neg hr, h0, h1, v24_at, v25_at, EReal.coe_add, EReal.coe_mul, EReal.coe_mul]

end Cert.ReferenceIdeal.Value
-- ==== Proof.Attn.RefRotK.lean ====
module

public import proofs.«01_k».proof.Proof.Attn.Tables
public import proofs.«01_k».proof.Proof.Attn.Softmax
public import Idealize.ShloMosaic.Lib.IdealHost

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.ReferenceIdeal.Read Cert.Attn

variable (x1 : FVec Ideal S4x4352x64 .f32)

/-- A key's rotary lanes, turned by its position's angles; a context key's are left as they are. -/
theorem v84_at (b : Fin 4) (k : Fin 4352) (y : Fin 64 → ℝ) (hy : ∀ r, x1 (ix3 b k r) = (y r : EReal)) (r : Fin 64) :
    val_main_v84 (F := Ideal) x1 (ix3 b k r) = (turned y (cosAt k) (sinAt k) r : EReal) := by
  have e : val_main_v84 (F := Ideal) x1 (ix3 b k r) = if h : k.val < 256 then x1 (ix3 b k r)
      else if _h : r.val % 2 < 1 then
      (x1 (ix3 b ⟨256 + (k.val - 256), by omega⟩ ⟨r.val / 2 * 2, by omega⟩) : EReal) * val_main_v24 (F := Ideal) (ix2 ⟨k.val - 256, by omega⟩ ⟨r.val / 2, by omega⟩)
        - x1 (ix3 b ⟨256 + (k.val - 256), by omega⟩ ⟨r.val / 2 * 2 + 1, by omega⟩) * val_main_v25 (F := Ideal) (ix2 ⟨k.val - 256, by omega⟩ ⟨r.val / 2, by omega⟩)
      else
      (x1 (ix3 b ⟨256 + (k.val - 256), by omega⟩ ⟨r.val / 2 * 2, by omega⟩) : EReal) * val_main_v25 (F := Ideal) (ix2 ⟨k.val - 256, by omega⟩ ⟨r.val / 2, by omega⟩)
        + x1 (ix3 b ⟨256 + (k.val - 256), by omega⟩ ⟨r.val / 2 * 2 + 1, by omega⟩) * val_main_v24 (F := Ideal) (ix2 ⟨k.val - 256, by omega⟩ ⟨r.val / 2, by omega⟩) := by
    pointwise [val_main_v84, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58]
  refine e.trans ?_
  by_cases hk : k.val < 256
  · have hc : cosAt k = fun _ => 1 := funext fun j => by unfold cosAt; rw [dif_pos hk]
    have hs : sinAt k = fun _ => 0 := funext fun j => by unfold sinAt; rw [dif_pos hk]
    rw [dif_pos hk, hc, hs, turned_one, hy]
  · have hc : cosAt k = cosT ⟨k.val - 256, by omega⟩ := funext fun j => by unfold cosAt; rw [dif_neg hk]
    have hs : sinAt k = sinT ⟨k.val - 256, by omega⟩ := funext fun j => by unfold sinAt; rw [dif_neg hk]
    have hb : (⟨256 + (k.val - 256), by omega⟩ : Fin 4352) = k := Fin.ext (by simp only; omega)
    have h0 : x1 (ix3 b ⟨256 + (k.val - 256), by omega⟩ ⟨r.val / 2 * 2, by omega⟩) = (y (lo ⟨r.val / 2, by omega⟩) : EReal) := by
      rw [← hy, hb]; exact congrArg (fun z => x1 (ix3 b k z)) (Fin.ext (by simp only [lo]; omega))
    have h1 : x1 (ix3 b ⟨256 + (k.val - 256), by omega⟩ ⟨r.val / 2 * 2 + 1, by omega⟩) = (y (hi ⟨r.val / 2, by omega⟩) : EReal) := by
      rw [← hy, hb]; exact congrArg (fun z => x1 (ix3 b k z)) (Fin.ext (by simp only [hi]; omega))
    rw [dif_neg hk, hc, hs]
    unfold turned turnE turnO
    by_cases hr : r.val % 2 = 0
    · rw [dif_pos (by omega), if_pos hr, h0, h1, v24_at, v25_at, EReal.coe_sub, EReal.coe_mul, EReal.coe_mul]
    · rw [dif_neg (by omega), if_neg hr, h0, h1, v24_at, v25_at, EReal.coe_add, EReal.coe_mul, EReal.coe_mul]

end Cert.ReferenceIdeal.Value
-- ==== Proof.Attn.RefScore.lean ====
module

public import proofs.«01_k».proof.Proof.Attn.Tables
public import proofs.«01_k».proof.Proof.Attn.Softmax
public import proofs.«01_k».proof.Proof.Attn.RefRot
public import proofs.«01_k».proof.Proof.Attn.RefRotK
public import Idealize.ShloMosaic.Lib.IdealHost

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.ReferenceIdeal.Read Cert.Attn

variable (x0 : FVec Ideal S4x4352x6144 .f32) (x1 : FVec Ideal S4x4352x64 .f32) (x2 : FVec Ideal S4x4352x8192 .f32)

/-- A head's plain query lanes. -/
abbrev plainLane (h : Fin 32) (d : Fin 128) : Fin 6144 := ⟨h.val * 192 + d.val, by omega⟩

/-- A head's plain key lanes. -/
abbrev keyLane (h : Fin 32) (d : Fin 128) : Fin 8192 := ⟨h.val * 256 + d.val, by omega⟩

/-- The scores' scale, one over the square root of 192. -/
theorem rsqrt_val : Ideal.rsqrt (Ideal.ofBits .f32 0x43400000#32) = (((Real.sqrt 192)⁻¹ : ℝ) : EReal) := by
  have h : Ideal.ofBits .f32 0x43400000#32 = ((192 : ℝ) : EReal) := by
    simp [Ideal.ofBits, Ideal.ieee]
    norm_cast
    norm_num
  rw [h, Ideal.rsqrt_coe]
  norm_num

/-- A latent query's score at a key. -/
theorem v91_at (b : Fin 4) (h : Fin 32) (n : Fin 4096) (k : Fin 4352) (qn : Fin 128 → ℝ) (q : Fin 64 → ℝ) (kn : Fin 128 → ℝ)
    (y : Fin 64 → ℝ) (hqn : ∀ d, x0 (ix3 b ⟨256 + n.val, by omega⟩ (plainLane h d)) = (qn d : EReal))
    (hq : ∀ r, x0 (ix3 b ⟨256 + n.val, by omega⟩ (ropeLane h r)) = (q r : EReal))
    (hkn : ∀ d, x2 (ix3 b k (keyLane h d)) = (kn d : EReal)) (hy : ∀ r, x1 (ix3 b k r) = (y r : EReal)) :
    val_main_v91 (F := Ideal) x0 x1 x2 (ix4 b h n k)
      = ((score qn q (cosT n) (sinT n) kn y (cosAt k) (sinAt k) * (Real.sqrt 192)⁻¹ : ℝ) : EReal) := by
  have e : val_main_v91 (F := Ideal) x0 x1 x2 (ix4 b h n k)
      = (∑ x : Fin 128, (x0 (ix3 b ⟨256 + n.val, by omega⟩ (plainLane h x)) : EReal) * x2 (ix3 b k (keyLane h x))
        + ∑ x : Fin 64, (val_main_v84 (F := Ideal) x1 (ix3 b k x) : EReal) * val_main_v57 (F := Ideal) x0 (ix4 b n h x))
        * Ideal.rsqrt (Ideal.ofBits .f32 0x43400000#32) := by
    pointwise [val_main_v91, val_main_v90, val_main_v89, val_main_v88, val_main_v87, val_main_v86, val_main_v85, val_main_v83, val_main_v28, val_main_v26, val_main_v30, val_main_v27, val_main_cst_1]
  refine e.trans ?_
  simp only [hqn, hkn, v84_at x1 b k y hy, v57_at x0 b n h q hq, rsqrt_val, ← EReal.coe_mul, sum_coe, ← EReal.coe_add, sum_turned]
  rfl

/-- A context query's score at a context key. -/
theorem v115_at (b : Fin 4) (h : Fin 32) (n k : Fin 256) (qn : Fin 128 → ℝ) (q : Fin 64 → ℝ) (kn : Fin 128 → ℝ)
    (y : Fin 64 → ℝ) (hqn : ∀ d, x0 (ix3 b ⟨n.val, by omega⟩ (plainLane h d)) = (qn d : EReal))
    (hq : ∀ r, x0 (ix3 b ⟨n.val, by omega⟩ (ropeLane h r)) = (q r : EReal))
    (hkn : ∀ d, x2 (ix3 b ⟨k.val, by omega⟩ (keyLane h d)) = (kn d : EReal)) (hy : ∀ r, x1 (ix3 b ⟨k.val, by omega⟩ r) = (y r : EReal)) :
    val_main_v115 (F := Ideal) x0 x1 x2 (ix4 b h n k)
      = ((score qn q (fun _ => 1) (fun _ => 0) kn y (fun _ => 1) (fun _ => 0) * (Real.sqrt 192)⁻¹ : ℝ) : EReal) := by
  have e : val_main_v115 (F := Ideal) x0 x1 x2 (ix4 b h n k)
      = (∑ x : Fin 128, (x0 (ix3 b ⟨n.val, by omega⟩ (plainLane h x)) : EReal) * x2 (ix3 b ⟨k.val, by omega⟩ (keyLane h x))
        + ∑ x : Fin 64, (x1 (ix3 b ⟨k.val, by omega⟩ x) : EReal) * x0 (ix3 b ⟨n.val, by omega⟩ (ropeLane h x)))
        * Ideal.rsqrt (Ideal.ofBits .f32 0x43400000#32) := by
    pointwise [val_main_v115, val_main_v114, val_main_v113, val_main_v112, val_main_v111, val_main_v110, val_main_v109, val_main_v107, val_main_v106, val_main_v105, val_main_v58, val_main_v28, val_main_v29, val_main_v26, val_main_v30, val_main_v27, val_main_cst_5]
  refine e.trans ?_
  simp only [hqn, hkn, hq, hy, rsqrt_val, ← EReal.coe_mul, sum_coe, ← EReal.coe_add]
  unfold score
  rw [← sum_turned]
  simp only [turned_one]

end Cert.ReferenceIdeal.Value
-- ==== Proof.Attn.RefAttend.lean ====
module

public import proofs.«01_k».proof.Proof.Attn.Tables
public import proofs.«01_k».proof.Proof.Attn.RefSoft
public import proofs.«01_k».proof.Proof.Attn.RefOut
public import proofs.«01_k».proof.Proof.Attn.RefScore
public import Idealize.ShloMosaic.Lib.IdealHost

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.ReferenceIdeal.Read Cert.Attn

variable (x0 : FVec Ideal S4x4352x6144 .f32) (x1 : FVec Ideal S4x4352x64 .f32) (x2 : FVec Ideal S4x4352x8192 .f32)

/-- A head's value lanes. -/
abbrev valueLane (h : Fin 32) (d : Fin 128) : Fin 8192 := ⟨h.val * 256 + (128 + d.val), by omega⟩

/-- A row's number spread over its keys (latent queries). -/
theorem overL_at (L : FVec Ideal S4x32x4096 .f32) (b : Fin 4) (h : Fin 32) (n : Fin 4096) (k : Fin 4352) :
    broadcastInDim S4x32x4096x4352 ![0, 1, 2, 3] bcast_S4x32x4096x1_S4x32x4096x4352_0_1_2_3
      (broadcastInDim S4x32x4096x1 ![0, 1, 2] bcast_S4x32x4096_S4x32x4096x1_0_1_2 L) (ix4 b h n k) = L (ix3 b h n) := by
  pointwise

/-- A row's number spread over its keys (context queries). -/
theorem overC_at (L : FVec Ideal S4x32x256 .f32) (b : Fin 4) (h : Fin 32) (n k : Fin 256) :
    broadcastInDim S4x32x256x256 ![0, 1, 2, 3] bcast_S4x32x256x1_S4x32x256x256_0_1_2_3
      (broadcastInDim S4x32x256x1 ![0, 1, 2] bcast_S4x32x256_S4x32x256x1_0_1_2 L) (ix4 b h n k) = L (ix3 b h n) := by
  pointwise

/-- The values' entries, in the columns they come from. -/
theorem v31_at (b : Fin 4) (k : Fin 4352) (h : Fin 32) (d : Fin 128) :
    val_main_v31 (F := Ideal) x2 (ix4 b k h d) = x2 (ix3 b k (valueLane h d)) := by
  pointwise [val_main_v31, val_main_v27]

/-- The context values' entries, in the columns they come from. -/
theorem v108_at (b : Fin 4) (k : Fin 256) (h : Fin 32) (d : Fin 128) :
    val_main_v108 (F := Ideal) x2 (ix4 b k h d) = x2 (ix3 b ⟨k.val, by omega⟩ (valueLane h d)) := by
  pointwise [val_main_v108, val_main_v31, val_main_v27]

/-- A latent query's attention, where its scores are the real numbers `x`. -/
theorem v103_at (b : Fin 4) (h : Fin 32) (n : Fin 4096) (d : Fin 128) (x : Fin 4352 → ℝ)
    (hx : ∀ k, val_main_v91 (F := Ideal) x0 x1 x2 (ix4 b h n k) = (x k : EReal)) :
    val_main_v103 (F := Ideal) x0 x1 x2 (ix4 b h d n) = attend x fun k => x2 (ix3 b k (valueLane h d)) := by
  obtain ⟨M, hM⟩ := exps_real reducesTo_S4x32x4096x4352_S4x32x4096_d3 bcast_S_S4x32x4096 bcast_S4x32x4096_S4x32x4096x1_0_1_2
    bcast_S4x32x4096x1_S4x32x4096x4352_0_1_2_3 b h n (fun L k => overL_at L b h n k) (val_main_v91 (F := Ideal) x0 x1 x2) x hx
  have hE : ∀ k, val_main_v98 (F := Ideal) x0 x1 x2 (ix4 b h n k) = Ideal.exp ((x k : EReal) - (M : EReal)) := hM
  have hW : ∀ k, val_main_v102 (F := Ideal) x0 x1 x2 (ix4 b h n k)
      = Ideal.div (val_main_v98 (F := Ideal) x0 x1 x2 (ix4 b h n k))
        (∑ y : Fin 4352, (val_main_v98 (F := Ideal) x0 x1 x2 (ix4 b h n y) : EReal)) := fun k =>
    weights_at reducesTo_S4x32x4096x4352_S4x32x4096_d3 bcast_S4x32x4096_S4x32x4096x1_0_1_2
      bcast_S4x32x4096x1_S4x32x4096x4352_0_1_2_3 b h n (fun L k => overL_at L b h n k) (val_main_v98 (F := Ideal) x0 x1 x2) k
  refine (mixL_at (val_main_v31 (F := Ideal) x2) (val_main_v102 (F := Ideal) x0 x1 x2) b h d n).trans ?_
  rw [← attend_of_plain x _ M]
  refine Finset.sum_congr rfl fun k _ => ?_
  rw [hW, v31_at, hE, mul_comm]
  simp only [hE]

/-- A context query's attention, where its scores are the real numbers `x`. -/
theorem v127_at (b : Fin 4) (h : Fin 32) (n : Fin 256) (d : Fin 128) (x : Fin 256 → ℝ)
    (hx : ∀ k, val_main_v115 (F := Ideal) x0 x1 x2 (ix4 b h n k) = (x k : EReal)) :
    val_main_v127 (F := Ideal) x0 x1 x2 (ix4 b h d n) = attend x fun k => x2 (ix3 b ⟨k.val, by omega⟩ (valueLane h d)) := by
  obtain ⟨M, hM⟩ := exps_real reducesTo_S4x32x256x256_S4x32x256_d3 bcast_S_S4x32x256 bcast_S4x32x256_S4x32x256x1_0_1_2
    bcast_S4x32x256x1_S4x32x256x256_0_1_2_3 b h n (fun L k => overC_at L b h n k) (val_main_v115 (F := Ideal) x0 x1 x2) x hx
  have hE : ∀ k, val_main_v122 (F := Ideal) x0 x1 x2 (ix4 b h n k) = Ideal.exp ((x k : EReal) - (M : EReal)) := hM
  have hW : ∀ k, val_main_v126 (F := Ideal) x0 x1 x2 (ix4 b h n k)
      = Ideal.div (val_main_v122 (F := Ideal) x0 x1 x2 (ix4 b h n k))
        (∑ y : Fin 256, (val_main_v122 (F := Ideal) x0 x1 x2 (ix4 b h n y) : EReal)) := fun k =>
    weights_at reducesTo_S4x32x256x256_S4x32x256_d3 bcast_S4x32x256_S4x32x256x1_0_1_2
      bcast_S4x32x256x1_S4x32x256x256_0_1_2_3 b h n (fun L k => overC_at L b h n k) (val_main_v122 (F := Ideal) x0 x1 x2) k
  refine (mixC_at (val_main_v108 (F := Ideal) x2) (val_main_v126 (F := Ideal) x0 x1 x2) b h d n).trans ?_
  rw [← attend_of_plain x _ M]
  refine Finset.sum_congr rfl fun k _ => ?_
  rw [hW, v108_at, hE, mul_comm]
  simp only [hE]

end Cert.ReferenceIdeal.Value
-- ==== Proof.Attn.RefFinal.lean ====
module

public import proofs.«01_k».proof.Proof.Attn.RefAttend

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.ReferenceIdeal.Read Cert.Attn

/-- The plain lanes of a head's query. -/
def plainOf (Q : Fin 6144 → ℝ) (h : Fin 32) (d : Fin 128) : ℝ := Q (plainLane h d)
/-- The rotary lanes of a head's query. -/
def ropeOf (Q : Fin 6144 → ℝ) (h : Fin 32) (r : Fin 64) : ℝ := Q (ropeLane h r)

/-- The score a query and a key of a head have, by their positions. -/
def scoreAt (Q : Fin 4352 → Fin 6144 → ℝ) (R : Fin 4352 → Fin 64 → ℝ) (K : Fin 4352 → Fin 128 → ℝ) (h : Fin 32) (i k : Fin 4352) : ℝ :=
  score (plainOf (Q i) h) (ropeOf (Q i) h) (cosAt i) (sinAt i) (K k) (R k) (cosAt k) (sinAt k)

/-- A context position's cosines are one. -/
theorem cosAt_ctx (i : Fin 4352) (h : i.val < 256) : cosAt i = fun _ => 1 := by
  funext j; exact dif_pos h
/-- A context position's sines are zero. -/
theorem sinAt_ctx (i : Fin 4352) (h : i.val < 256) : sinAt i = fun _ => 0 := by
  funext j; exact dif_pos h
/-- A latent position's cosines are the table's. -/
theorem cosAt_lat (i : Fin 4352) (h : ¬ i.val < 256) : cosAt i = cosT ⟨i.val - 256, by omega⟩ := by
  funext j; exact dif_neg h
/-- A latent position's sines are the table's. -/
theorem sinAt_lat (i : Fin 4352) (h : ¬ i.val < 256) : sinAt i = sinT ⟨i.val - 256, by omega⟩ := by
  funext j; exact dif_neg h

variable (x0 : FVec Ideal S4x4352x6144 .f32) (x1 : FVec Ideal S4x4352x64 .f32) (x2 : FVec Ideal S4x4352x8192 .f32)
variable (b : Fin 4) (h : Fin 32)
variable (Q : Fin 4352 → Fin 6144 → ℝ) (hQ : ∀ i n, x0 (ix3 b i n) = (Q i n : EReal))
variable (R : Fin 4352 → Fin 64 → ℝ) (hR : ∀ k r, x1 (ix3 b k r) = (R k r : EReal))
variable (K : Fin 4352 → Fin 128 → ℝ) (hK : ∀ k (d : Fin 128), x2 (ix3 b k (keyLane h d)) = (K k d : EReal))

include hQ hR hK

/-- The reference's result at a context position: attention over the context's keys. -/
theorem res_ctx (i : Fin 4352) (hi : i.val < 256) (n : Fin 4096) (hn : n.val / 128 = h.val) (l : Fin 128) (hl : n.val % 128 = l.val) :
    val_main_v131 (F := Ideal) x0 x1 x2 (ix3 b i n)
      = attend (fun k : Fin 256 => scoreAt Q R K h i ⟨k.val, by omega⟩ * (Real.sqrt 192)⁻¹)
          fun k : Fin 256 => x2 (ix3 b ⟨k.val, by omega⟩ (valueLane h l)) := by
  have e1 : (⟨n.val / 128, by omega⟩ : Fin 32) = h := Fin.ext hn
  have e2 : (⟨n.val % 128, by omega⟩ : Fin 128) = l := Fin.ext hl
  refine (out_at (val_main_v127 (F := Ideal) x0 x1 x2) (val_main_v103 (F := Ideal) x0 x1 x2) b i n).trans ?_
  rw [dif_pos hi, e1, e2]
  refine v127_at x0 x1 x2 b h ⟨i.val, hi⟩ l _ fun k => ?_
  unfold scoreAt
  rw [cosAt_ctx i hi, sinAt_ctx i hi, cosAt_ctx ⟨k.val, by omega⟩ k.isLt, sinAt_ctx ⟨k.val, by omega⟩ k.isLt]
  exact v115_at x0 x1 x2 b h ⟨i.val, hi⟩ k _ _ _ _ (fun d => hQ _ _) (fun r => hQ _ _) (fun d => hK _ _) (fun r => hR _ _)

/-- The reference's result at a latent position: attention over all the keys. -/
theorem res_lat (i : Fin 4352) (hi : ¬ i.val < 256) (n : Fin 4096) (hn : n.val / 128 = h.val) (l : Fin 128) (hl : n.val % 128 = l.val) :
    val_main_v131 (F := Ideal) x0 x1 x2 (ix3 b i n)
      = attend (fun k : Fin 4352 => scoreAt Q R K h i k * (Real.sqrt 192)⁻¹) fun k => x2 (ix3 b k (valueLane h l)) := by
  have e1 : (⟨n.val / 128, by omega⟩ : Fin 32) = h := Fin.ext hn
  have e2 : (⟨n.val % 128, by omega⟩ : Fin 128) = l := Fin.ext hl
  have ei : (⟨256 + (i.val - 256), by omega⟩ : Fin 4352) = i := Fin.ext (by simp only; omega)
  refine (out_at (val_main_v127 (F := Ideal) x0 x1 x2) (val_main_v103 (F := Ideal) x0 x1 x2) b i n).trans ?_
  rw [dif_neg hi, e1, e2]
  refine v103_at x0 x1 x2 b h ⟨i.val - 256, by omega⟩ l _ fun k => ?_
  unfold scoreAt
  rw [cosAt_lat i hi, sinAt_lat i hi]
  refine v91_at x0 x1 x2 b h ⟨i.val - 256, by omega⟩ k _ _ _ _ (fun d => ?_) (fun r => ?_) (fun d => hK _ _) (fun r => hR _ _)
  · exact (congrArg (fun j => x0 (ix3 b j (plainLane h d))) ei).trans (hQ _ _)
  · exact (congrArg (fun j => x0 (ix3 b j (ropeLane h r))) ei).trans (hQ _ _)

end Cert.ReferenceIdeal.Value
-- ==== Proof.Attn.Bridge.lean ====
module

public import proofs.«01_k».proof.Proof.Attn.Payload
public import proofs.«01_k».proof.Proof.Attn.HostAt
public import proofs.«01_k».proof.Proof.Attn.Blocks
public import proofs.«01_k».proof.Proof.Attn.Canon
public import proofs.«01_k».proof.Proof.Attn.RefFinal
public import Idealize.ShloMosaic.Lib.Pointwise

@[expose] public section

set_option maxRecDepth 16384

noncomputable section

open Idealize.ShloMosaic Idealize.ShloMosaic.TcCoe Idealize.SL.Sem

namespace Cert.KernelIdeal.Value

open Cert.KernelIdeal Cert.KernelIdeal.Gen Cert.Attn Cert.ReferenceIdeal.Value

variable (m : (ℓ : Loc nD τ sig) → Buf (Elt Ideal) ℓ) (c : Dev nD)

/-- The queries the kernel is given. -/
abbrev argQ : FVec Ideal S4x4352x6144 .f32 := m ((c.tc : Thread nD τ).loc main_arg0)
/-- The rotary keys the kernel is given. -/
abbrev argR : FVec Ideal S4x4352x64 .f32 := m ((c.tc : Thread nD τ).loc main_arg1)
/-- The plain keys and values the kernel is given. -/
abbrev argK : FVec Ideal S4x4352x8192 .f32 := m ((c.tc : Thread nD τ).loc main_arg2)

variable (t : Fin cfg0.N) (b : Fin 4) (h : Fin 32) (hb : t.val / 544 = b.val) (hh : t.val / 17 % 32 = h.val)
variable (Q : Fin 4352 → Fin 6144 → ℝ) (hQ : ∀ i n, argQ m c (ix3 b i n) = (Q i n : EReal))
variable (R : Fin 4352 → Fin 64 → ℝ) (hR : ∀ k r, argR m c (ix3 b k r) = (R k r : EReal))
variable (K : Fin 4352 → Fin 128 → ℝ) (hK : ∀ k (d : Fin 128), argK m c (ix3 b k (keyLane h d)) = (K k d : EReal))

section Query
include hb hh hQ

/-- A plain lane of the query block. -/
theorem q_plain (r d : Fin 256) (hd : d.val < 128) : (show FVec Ideal S1x256x256 .bf16 from iblk m c 0 t) (ix3 0 r d)
    = (plainOf (Q ⟨256 * (t.val % 17) + r.val, by omega⟩) h ⟨d.val, hd⟩ : EReal) := by
  refine (blk0_at m c t b h hb hh r d).trans ((V_v65_at m c b _ _).trans ((hQ _ _).trans ?_))
  refine congrArg (fun n => ((Q _ n : ℝ) : EReal)) (Fin.ext ?_)
  simp only [colAt]
  rw [if_pos (by omega)]
  omega

/-- A rotary lane of the query block. -/
theorem q_rope (r : Fin 256) (e : ℕ) (he : e < 128) : (show FVec Ideal S1x256x256 .bf16 from iblk m c 0 t) (ix3 0 r ⟨128 + e, by omega⟩)
    = (ropeOf (Q ⟨256 * (t.val % 17) + r.val, by omega⟩) h ⟨permAt e, permAt_lt he⟩ : EReal) := by
  refine (blk0_at m c t b h hb hh r _).trans ((V_v65_at m c b _ _).trans ((hQ _ _).trans ?_))
  refine congrArg (fun n => ((Q _ n : ℝ) : EReal)) (Fin.ext ?_)
  have e1 : (256 * h.val + (128 + e)) / 256 = h.val := by omega
  have e2 : (256 * h.val + (128 + e)) % 256 = 128 + e := by omega
  simp only [colAt, e1, e2]
  rw [if_neg (by omega), Nat.add_sub_cancel_left]
  omega

/-- The query's lanes, turned and scaled. -/
theorem q_lanes (r d : Fin 256) : k0_pay5 (iblk m c 0 t) (iblk m c 4 t) (iblk m c 5 t) (ix2 r d)
    = ((lanes (plainOf (Q ⟨256 * (t.val % 17) + r.val, by omega⟩) h) (ropeOf (Q ⟨256 * (t.val % 17) + r.val, by omega⟩) h)
        (cosAt ⟨256 * (t.val % 17) + r.val, by omega⟩) (sinAt ⟨256 * (t.val % 17) + r.val, by omega⟩) d
      * ((Real.log 2)⁻¹ * (Real.sqrt 192)⁻¹) : ℝ) : EReal) := by
  refine (pay5_at _ _ _ r d).trans ?_
  refine Eq.trans (congrArg (fun x : EReal => x * (((Real.log 2)⁻¹ * (Real.sqrt 192)⁻¹ : ℝ) : EReal)) ?_) (EReal.coe_mul _ _).symm
  unfold lanes
  by_cases hd : d.val < 128
  · rw [dif_pos hd, dif_pos hd]
    exact q_plain m c t b h hb hh Q hQ r d hd
  · rw [dif_neg hd, dif_neg hd, ← lane_turned, EReal.coe_add, EReal.coe_mul, EReal.coe_mul]
    refine congrArg₂ (· + ·) (congrArg₂ (· * ·) (q_rope m c t b h hb hh Q hQ r _ (by omega)) ?_)
      (congrArg₂ (· * ·) ((q_rope m c t b h hb hh Q hQ r _ (Nat.mod_lt _ (by decide))).trans ?_) ?_)
    · exact (blk4_at m c t b h hb hh r _).trans ((congrFun (V_v42 m c) _).trans (hCtab_at _ _))
    · exact congrArg (fun n => ((ropeOf _ h n : ℝ) : EReal)) (Fin.ext (congrArg permAt (by simp only; omega)))
    · exact (blk5_at m c t b h hb hh r _).trans ((congrFun (V_v44 m c) _).trans (hStab_at _ _))

end Query

section Key
include hb hh hR hK

/-- The key scratch's rows: a key's plain lanes and its turned ones. -/
theorem key_lanes (k : Fin 4352) (d : Fin 256) : keyAt m c t (ix2 k d)
    = (lanes (K k) (R k) (cosAt k) (sinAt k) d : EReal) := by
  unfold keyAt lanes
  by_cases hd : d.val < 128
  · rw [dif_pos (show ((ix2 k d : S4352x256.Idx) 1).val < 128 from hd), dif_pos hd]
    exact (blk1_at m c t b h hb hh k ⟨d.val, hd⟩).trans ((congrFun (V_v66 m c) _).trans (hK k ⟨d.val, hd⟩))
  · rw [dif_neg (show ¬ ((ix2 k d : S4352x256.Idx) 1).val < 128 from hd), dif_neg hd]
    exact (blk3_at m c t b h hb hh k ⟨d.val - 128, by omega⟩).trans ((congrFun (V_v82 m c) _).trans (hKeys_at _ b k (R k) (hR k) _))

end Key

section Val
include hb hh

/-- The value scratch's rows: a value. -/
theorem val_lane (k : Fin 4352) (l : Fin 128) : valAt m c t (ix2 k ⟨l.val, by omega⟩)
    = argK m c (ix3 b k ⟨h.val * 256 + (128 + l.val), by omega⟩) := by
  unfold valAt
  rw [dif_pos (show ((ix2 k ⟨l.val, by omega⟩ : S4352x256.Idx) 1).val < 128 from l.isLt)]
  exact (blk2_at m c t b h hb hh k l).trans (congrFun (V_v66 m c) _)

/-- The value scratch's rows, past the value: ones. -/
theorem val_one (k : Fin 4352) : valAt m c t (ix2 k 128) = (1 : EReal) := by
  unfold valAt
  exact dif_neg (show ¬ (128 : Fin 256).val < 128 by decide)

end Val

/-- The scaled products of a query's and a key's lanes are the score over log 2. -/
theorem sum_score (f : Fin 256 → EReal) (g : Fin 256 → EReal) (qn : Fin 128 → ℝ) (q : Fin 64 → ℝ) (c s : Fin 32 → ℝ) (kn : Fin 128 → ℝ)
    (y : Fin 64 → ℝ) (c' s' : Fin 32 → ℝ) (hf : ∀ d, f d = ((lanes qn q c s d * ((Real.log 2)⁻¹ * (Real.sqrt 192)⁻¹) : ℝ) : EReal))
    (hg : ∀ d, g d = (lanes kn y c' s' d : EReal)) :
    ∑ d, f d * g d = ((score qn q c s kn y c' s' * ((Real.log 2)⁻¹ * (Real.sqrt 192)⁻¹) : ℝ) : EReal) := by
  simp only [hf, hg, ← EReal.coe_mul, sum_coe]
  refine congrArg _ ?_
  rw [← sum_lanes, Finset.sum_mul]
  exact Finset.sum_congr rfl fun d _ => by ring

end Cert.KernelIdeal.Value
-- ==== Proof.Attn.Scratch.lean ====
module

public import proofs.«01_k».proof.Proof.Gen.KernelIdeal.Frame
public import proofs.«01_k».proof.Proof.Attn.Score
public import proofs.«01_k».proof.Proof.Attn.Canon
public import proofs.«01_k».proof.Proof.Attn.Blocks
public import Idealize.ShloMosaic.Lib.Pointwise
public import Idealize.ShloMosaic.Lib.Pipeline.ValueKit
public import Idealize.ShloMosaic.Lib.Pipeline.ValueKit.Held
public import Idealize.ShloMosaic.Lib.Pipeline.ReadBack
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Attn

variable (m : (ℓ : Loc nD τ sig) → Buf (Elt Ideal) ℓ)

/-- The first point of a head leaves the keys in the scratch. -/
theorem key_first (c : Dev nD) (t : Fin cfg0.N) (h : t.val % 17 = 0) (y : S4352x256.Idx) :
    (outsAt0 m c t.val t.isLt).2.1 y = keyAt m c t y := by
  rw [outsAt0_A m c t h h (by omega)]
  frame_out
  exact congrFun (key_canon m c t) y

/-- The first point of a head leaves the values in the scratch. -/
theorem val_first (c : Dev nD) (t : Fin cfg0.N) (h : t.val % 17 = 0) (y : S4352x256.Idx) :
    (outsAt0 m c t.val t.isLt).2.2 y = valAt m c t y := by
  rw [outsAt0_A m c t h h (by omega)]
  frame_out
  exact congrFun (val_canon m c t) y

/-- Every point of a head finds the keys its first point left. -/
theorem key_held (c : Dev nD) (t : Fin cfg0.N) (y : S4352x256.Idx) :
    (outsAt0 m c t.val t.isLt).2.1 y = keyAt m c ⟨17 * (t.val / 17), Pipeline.run_start_lt t⟩ y :=
  Pipeline.eq_of_write_hold_apply (fun n h => (outsAt0 m c n h).2.1) 17 (keyAt m c) (fun t h y => key_first m c t h y)
    (fun t h y => by rw [outsAt0_B m c t h h (by omega)]; rfl) t y

/-- Every point of a head finds the values its first point left. -/
theorem val_held (c : Dev nD) (t : Fin cfg0.N) (y : S4352x256.Idx) :
    (outsAt0 m c t.val t.isLt).2.2 y = valAt m c ⟨17 * (t.val / 17), Pipeline.run_start_lt t⟩ y :=
  Pipeline.eq_of_write_hold_apply (fun n h => (outsAt0 m c n h).2.2) 17 (valAt m c) (fun t h y => val_first m c t h y)
    (fun t h y => by rw [outsAt0_B m c t h h (by omega)]; rfl) t y

/-- A head's first output block: its attention over the 256 context keys the point has just written. -/
theorem out_first (c : Dev nD) (t : Fin cfg0.N) (h : t.val % 17 = 0) (y : S1x256x128.Idx) :
    (outsAt0 m c t.val t.isLt).1 y = k0_pay6 (iblk m c 0 t) (iblk m c 4 t) (iblk m c 5 t)
      (fun j => keyAt m c t ((Rect.unit (s := S4352x256) ![0, 0] ![256, 256] (by decide)).toLoadRect.idx j))
      (fun j => valAt m c t ((Rect.unit (s := S4352x256) ![0, 0] ![256, 256] (by decide)).toLoadRect.idx j)) y := by
  rw [outsAt0_A m c t h h (by omega)]
  frame_out
  rw [View.readCov_eq_canon', View.readCov_eq_canon', key_canon, val_canon]
  rfl

/-- A head's further output blocks: attention over all keys, in two halves, as its first point left them. -/
theorem out_rest (c : Dev nD) (t : Fin cfg0.N) (h : ¬ t.val % 17 = 0) (y : S1x256x128.Idx) :
    (outsAt0 m c t.val t.isLt).1 y = k0_pay7 (iblk m c 0 t) (iblk m c 4 t) (iblk m c 5 t)
      (View.ld (keyAt m c ⟨17 * (t.val / 17), Pipeline.run_start_lt t⟩) (Rect.unit (s := S4352x256) ![0, 0] ![2176, 256] (by decide)))
      (View.ld (keyAt m c ⟨17 * (t.val / 17), Pipeline.run_start_lt t⟩) (Rect.unit (s := S4352x256) ![2176, 0] ![2176, 256] (by decide)))
      (View.ld (valAt m c ⟨17 * (t.val / 17), Pipeline.run_start_lt t⟩) (Rect.unit (s := S4352x256) ![0, 0] ![2176, 256] (by decide)))
      (View.ld (valAt m c ⟨17 * (t.val / 17), Pipeline.run_start_lt t⟩) (Rect.unit (s := S4352x256) ![2176, 0] ![2176, 256] (by decide))) y := by
  have hk : (outsAt0 m c (t.val - 1) (by omega)).2.1 = keyAt m c ⟨17 * (t.val / 17), Pipeline.run_start_lt t⟩ := by
    funext y
    rw [key_held m c ⟨t.val - 1, by omega⟩ y]
    exact congrArg (fun s => keyAt m c s y) (Fin.ext (by simp only; omega))
  have hv : (outsAt0 m c (t.val - 1) (by omega)).2.2 = valAt m c ⟨17 * (t.val / 17), Pipeline.run_start_lt t⟩ := by
    funext y
    rw [val_held m c ⟨t.val - 1, by omega⟩ y]
    exact congrArg (fun s => valAt m c s y) (Fin.ext (by simp only; omega))
  rw [outsAt0_B m c t h h (by omega)]
  frame_out
  rw [read_unread_whole, read_unread_whole, hk, hv]

end Cert.KernelIdeal.Value
-- ==== Proof.Attn.Final.lean ====
module

public import proofs.«01_k».proof.Proof.Attn.Bridge
public import proofs.«01_k».proof.Proof.Attn.Scratch
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Attn Cert.ReferenceIdeal.Value

variable (m : (ℓ : Loc nD τ sig) → Buf (Elt Ideal) ℓ) (c : Dev nD)

/-- The scale the kernel folds into its query, undone by the exponentials' base. -/
theorem unscale (x : ℝ) : x * ((Real.log 2)⁻¹ * (Real.sqrt 192)⁻¹) * Real.log 2 = x * (Real.sqrt 192)⁻¹ := by
  have h : Real.log 2 ≠ 0 := (Real.log_pos (by norm_num)).ne'
  field_simp

/-- Where a slice of the scratch's rows starting at row `o` reads. -/
theorem rows_idx (o a : ℕ) (hw) (k : Fin a) (d : Fin 256) (ho : o + a ≤ 4352) :
    (Rect.unit (s := S4352x256) ![o, 0] ![a, 256] hw).toLoadRect.idx (ix2 k d) = (ix2 ⟨o + k.val, by omega⟩ d : S4352x256.Idx) := by
  funext x
  refine Fin.ext ?_
  fin_cases x <;> simp [Rect.unit, LoadRect.idx, ix2]

variable (t : Fin cfg0.N) (b : Fin 4) (h : Fin 32) (hb : t.val / 544 = b.val) (hh : t.val / 17 % 32 = h.val)
variable (Q : Fin 4352 → Fin 6144 → ℝ) (hQ : ∀ i n, argQ m c (ix3 b i n) = (Q i n : EReal))
variable (R : Fin 4352 → Fin 64 → ℝ) (hR : ∀ k r, argR m c (ix3 b k r) = (R k r : EReal))
variable (K : Fin 4352 → Fin 128 → ℝ) (hK : ∀ k (d : Fin 128), argK m c (ix3 b k (keyLane h d)) = (K k d : EReal))

include hb hh hQ hR hK

/-- A context block's row is the attention over the context's keys. -/
theorem row_ctx (h0 : t.val % 17 = 0) (r : Fin 256) (l : Fin 128) : (outsAt0 m c t.val t.isLt).1 (ix3 0 r l)
    = attend (fun k : Fin 256 => scoreAt Q R K h ⟨256 * (t.val % 17) + r.val, by omega⟩ ⟨k.val, by omega⟩ * (Real.sqrt 192)⁻¹)
        fun k : Fin 256 => argK m c (ix3 b ⟨k.val, by omega⟩ (valueLane h l)) := by
  refine (out_first m c t h0 _).trans ?_
  refine (pay6_attend _ _ _ _ _ r l (fun k : Fin 256 => scoreAt Q R K h ⟨256 * (t.val % 17) + r.val, by omega⟩ ⟨k.val, by omega⟩
    * ((Real.log 2)⁻¹ * (Real.sqrt 192)⁻¹)) (fun k => ?_) (fun k => ?_)).trans ?_
  · refine sum_score _ _ _ _ _ _ _ _ _ _ (fun d => q_lanes m c t b h hb hh Q hQ r d) fun d => ?_
    rw [rows_idx 0 256 _ k d (by decide)]
    refine (key_lanes m c t b h hb hh R hR K hK _ d).trans ?_
    simp only [Nat.zero_add]
  · rw [rows_idx 0 256 _ k 128 (by decide)]
    exact val_one m c t b h hb hh _
  · refine congrArg₂ attend (funext fun k => unscale _) (funext fun k => ?_)
    rw [rows_idx 0 256 _ k _ (by decide)]
    refine (val_lane m c t b h hb hh _ l).trans ?_
    simp only [Nat.zero_add]

/-- A latent block's row is the attention over all the keys. -/
theorem row_lat (h0 : ¬ t.val % 17 = 0) (r : Fin 256) (l : Fin 128) : (outsAt0 m c t.val t.isLt).1 (ix3 0 r l)
    = attend (fun k : Fin 4352 => scoreAt Q R K h ⟨256 * (t.val % 17) + r.val, by omega⟩ k * (Real.sqrt 192)⁻¹)
        fun k => argK m c (ix3 b k (valueLane h l)) := by
  have hb' : 17 * (t.val / 17) / 544 = b.val := by omega
  have hh' : 17 * (t.val / 17) / 17 % 32 = h.val := by omega
  refine (out_rest m c t h0 _).trans ?_
  refine (pay7_attend _ _ _ _ _ _ _ r l (fun k : Fin 4352 => scoreAt Q R K h ⟨256 * (t.val % 17) + r.val, by omega⟩ k
    * ((Real.log 2)⁻¹ * (Real.sqrt 192)⁻¹)) (fun k => argK m c (ix3 b k (valueLane h l)))
    (fun k => ?_) (fun k => ?_) (fun k => ?_) (fun k => ?_) (fun k => ?_) (fun k => ?_)).trans
      (congrArg (attend · _) (funext fun k => unscale _))
  · refine sum_score _ _ _ _ _ _ _ _ _ _ (fun d => q_lanes m c t b h hb hh Q hQ r d) fun d => ?_
    refine (congrArg (keyAt m c _) (rows_idx 0 2176 _ k d (by decide))).trans ?_
    refine (key_lanes m c _ b h hb' hh' R hR K hK _ d).trans ?_
    simp only [Nat.zero_add]
  · refine sum_score _ _ _ _ _ _ _ _ _ _ (fun d => q_lanes m c t b h hb hh Q hQ r d) fun d => ?_
    exact (congrArg (keyAt m c _) (rows_idx 2176 2176 _ k d (by decide))).trans (key_lanes m c _ b h hb' hh' R hR K hK _ d)
  · refine (congrArg (valAt m c _) (rows_idx 0 2176 _ k _ (by decide))).trans ?_
    refine (val_lane m c _ b h hb' hh' _ l).trans ?_
    simp only [Nat.zero_add]
  · exact (congrArg (valAt m c _) (rows_idx 2176 2176 _ k _ (by decide))).trans (val_lane m c _ b h hb' hh' _ l)
  · exact (congrArg (valAt m c _) (rows_idx 0 2176 _ k _ (by decide))).trans (val_one m c _ b h hb' hh' _)
  · exact (congrArg (valAt m c _) (rows_idx 2176 2176 _ k _ (by decide))).trans (val_one m c _ b h hb' hh' _)

/-- An output block's entry is the reference's. -/
theorem row_ref (r : Fin 256) (l : Fin 128) (i : Fin 4352) (n : Fin 4096) (hi : i.val = 256 * (t.val % 17) + r.val)
    (hn : n.val = 128 * h.val + l.val) : (outsAt0 m c t.val t.isLt).1 (ix3 0 r l)
    = Cert.ReferenceIdeal.Read.val_main_v131 (F := Ideal) (argQ m c) (argR m c) (argK m c) (ix3 b i n) := by
  rw [show i = ⟨256 * (t.val % 17) + r.val, by omega⟩ from Fin.ext hi]
  by_cases h0 : t.val % 17 = 0
  · exact (row_ctx m c t b h hb hh Q hQ R hR K hK h0 r l).trans
      (res_ctx _ _ _ b h Q hQ R hR K hK _ (by simp only; omega) n (by omega) l (by omega)).symm
  · exact (row_lat m c t b h hb hh Q hQ R hR K hK h0 r l).trans
      (res_lat _ _ _ b h Q hQ R hR K hK _ (by simp only; omega) n (by omega) l (by omega)).symm

end Cert.KernelIdeal.Value
-- ==== Proof.Attn.Finite.lean ====
module

public import proofs.«01_k».proof.Pre_scores_finite
public import Idealize.ShloMosaic.Lib.ReduceAll
public import Idealize.ShloMosaic.Lib.Pointwise
public import Idealize.ShloMosaic.Lib.IdealHost

@[expose] public section

set_option maxRecDepth 16384

noncomputable section

open Idealize.ShloMosaic Idealize.ShloMosaic.TcCoe

namespace Cert.Pre_scores_finite

open Cert.Pre_scores_finite

/-- The facts the condition's text cites. -/
instance facts : Facts where
  shapeCasts_S4x4352x8192_S4x4352x32x256 := by decide
  slices_S4x4352x32x256_S4x4352x32x128_0_0_0_0 := by decide
  bcast_S_S4x4352x6144 := by decide
  reducesTo_S4x4352x6144_S_d0_1_2 := by decide
  h_S_ := by decide
  bcast_S_S4x4352x64 := by decide
  reducesTo_S4x4352x64_S_d0_1_2 := by decide
  bcast_S_S4x4352x32x128 := by decide
  reducesTo_S4x4352x32x128_S_d0_1_2_3 := by decide

/-- The word of the 32-bit infinity denotes the greatest extended real. -/
theorem ofBits_inf : Ideal.ofBits .f32 0x7F800000#32 = ⊤ := by
  simp [Ideal.ofBits, Ideal.ieee]

/-- A number of magnitude below the infinity is real. -/
theorem real_of_lt {x : EReal} (h : Ideal.cmp .olt (max x (-x)) (Ideal.ofBits .f32 0x7F800000#32) = 1#1) : ∃ y : ℝ, x = (y : EReal) := by
  rw [ofBits_inf] at h
  have h' : max x (-x) < ⊤ := by
    by_contra hn
    simp [Ideal.cmp, hn] at h
  obtain ⟨h1, h2⟩ := max_lt_iff.1 h'
  exact ⟨x.toReal, (EReal.coe_toReal h1.ne (by rintro rfl; simp at h2)).symm⟩

/-- The condition's result has one entry. -/
instance : Subsingleton S_.Idx := ⟨fun a b => funext fun i => i.elim0⟩

variable (x0 : FVec Ideal S4x4352x6144 .f32) (x1 : FVec Ideal S4x4352x64 .f32) (x2 : FVec Ideal S4x4352x8192 .f32)
  (h : fn (F := Ideal) x0 x1 x2 = fun _ => 1#1)
include h

/-- The condition says that three comparisons hold everywhere. -/
theorem parts : (∀ i, cmpf .olt (Host.absf x0) (broadcastInDim S4x4352x6144 ![] Facts.bcast_S_S4x4352x6144 (constant (F := Ideal) S_ .f32 0x7F800000#32)) i = 1#1)
    ∧ (∀ i, cmpf .olt (Host.absf x1) (broadcastInDim S4x4352x64 ![] Facts.bcast_S_S4x4352x64 (constant (F := Ideal) S_ .f32 0x7F800000#32)) i = 1#1)
    ∧ (∀ i, cmpf .olt (Host.absf (extractStridedSlice S4x4352x32x128 ![0, 0, 0, 0] (shapeCast S4x4352x32x256 x2 Facts.shapeCasts_S4x4352x8192_S4x4352x32x256) Facts.slices_S4x4352x32x256_S4x4352x32x128_0_0_0_0)) (broadcastInDim S4x4352x32x128 ![] Facts.bcast_S_S4x4352x32x128 (constant (F := Ideal) S_ .f32 0x7F800000#32)) i = 1#1) := by
  have e := congrFun h (fun i => i.elim0)
  obtain ⟨e1, e3⟩ := IntOp.andi_eq_one.1 e
  obtain ⟨e1, e2⟩ := IntOp.andi_eq_one.1 e1
  exact ⟨Host.reduce_andi_all _ _ _ _ _ e1, Host.reduce_andi_all _ _ _ _ _ e2, Host.reduce_andi_all _ _ _ _ _ e3⟩

/-- The queries are real numbers. -/
theorem real_q (i : S4x4352x6144.Idx) : ∃ y : ℝ, x0 i = (y : EReal) := real_of_lt ((parts x0 x1 x2 h).1 i)

/-- The rotary keys are real numbers. -/
theorem real_r (i : S4x4352x64.Idx) : ∃ y : ℝ, x1 i = (y : EReal) := real_of_lt ((parts x0 x1 x2 h).2.1 i)

/-- The plain keys are real numbers. -/
theorem real_k (b : Fin 4) (k : Fin 4352) (hd : Fin 32) (d : Fin 128) :
    ∃ y : ℝ, x2 (ix3 b k ⟨hd.val * 256 + d.val, by omega⟩) = (y : EReal) := by
  obtain ⟨y, e⟩ := real_of_lt ((parts x0 x1 x2 h).2.2 (ix4 b k hd d))
  refine ⟨y, Eq.trans ?_ e⟩
  pointwise

end Cert.Pre_scores_finite
-- ==== Proof.Attn.Result.lean ====
module

public import proofs.«01_k».proof.Proof.Attn.Final
public import proofs.«01_k».proof.Proof.Attn.Finite
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Attn Cert.ReferenceIdeal.Value

variable (m : (ℓ : Loc nD τ sig) → Buf (Elt Ideal) ℓ) (c : Dev nD)

/-- Every entry of the result lies in some point's output block. -/
theorem result_covered : (cfg0.win 6).Covers := by
  decide +kernel

/-- Where its arguments are real, the kernel's result is the reference's. -/
theorem result (h : Cert.Pre_scores_finite.fn (F := Ideal) (argQ m c) (argR m c) (argK m c) = fun _ => 1#1) :
    (dats m 0 c).arrAt 6 cfg0.N = Cert.ReferenceIdeal.Read.val_main_v131 (F := Ideal) (argQ m c) (argR m c) (argK m c) := by
  refine (dats m 0 c).arrAt_eq_of_covers 6 _ result_covered fun t _ y => ?_
  have ht : t.val < 2176 := lt_of_lt_of_eq t.isLt (show cfg0.N = 2176 from N_0)
  blk_simp
  rw [after0_6]
  idx_vars y
  obtain rfl : y0 = 0 := Subsingleton.elim _ _
  choose q hq using fun i => Cert.Pre_scores_finite.real_q _ _ _ h i
  choose r hr using fun i => Cert.Pre_scores_finite.real_r _ _ _ h i
  choose k hk using fun b i hd d => Cert.Pre_scores_finite.real_k _ _ _ h b i hd d
  refine (row_ref m c t ⟨t.val / 544, by omega⟩ ⟨t.val / 17 % 32, by omega⟩ rfl rfl
    (fun i n => q (ix3 ⟨t.val / 544, by omega⟩ i n)) (fun i n => hq _) (fun i n => r (ix3 ⟨t.val / 544, by omega⟩ i n)) (fun i n => hr _)
    (fun i d => k ⟨t.val / 544, by omega⟩ i ⟨t.val / 17 % 32, by omega⟩ d) (fun i d => hk _ _ _ _) y1 y2
    ⟨256 * (t.val % 17) + y1.val, by omega⟩ ⟨128 * (t.val / 17 % 32) + y2.val, by omega⟩ rfl rfl).trans ?_
  refine congrArg (Cert.ReferenceIdeal.Read.val_main_v131 (F := Ideal) (argQ m c) (argR m c) (argK m c)) ?_
  blk_ext [idx t]

end Cert.KernelIdeal.Value
-- ==== Proof.Proj.GlaIn.lean ====
/- The gated linear attention's projection from the width to keys, values and gates: the kernel's blocks are the reference's
   product. -/
module

public import proofs.«01_k».proof.Defs
public import proofs.«01_k».proof.Proof.Gen.GlaIn.Frame
public import proofs.«01_k».proof.Proof.Gen.GlaInIdeal.Frame
public import proofs.«01_k».proof.Proof.Gen.GlaInIdeal.Value
public import proofs.«01_k».proof.Proof.Gen.GlaInReferenceIdeal.Run
public import proofs.«01_k».proof.Proof.Gen.GlaInReferenceIdeal.Read
public import Idealize.ShloMosaic.Lib.Pointwise
public import Idealize.ShloMosaic.Lib.Pipeline.ValueKit
public import Idealize.ShloMosaic.Lib.Pipeline.Covers
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GlaInIdeal.Value

open Cert.GlaInIdeal Cert.GlaInIdeal.Gen

variable (m : (ℓ : Loc nD τ sig) → Buf (Elt Ideal) ℓ) (c : Dev nD)

/-- Which block of its array each window takes at a grid point. -/
theorem idx : ∀ t : Fin cfg0.N,
    win0_0.index t = ![t.val / 24, 0] ∧ win0_1.index t = ![0, t.val % 24] ∧ win0_2.index t = ![t.val / 24, t.val % 24] :=
  (by decide +kernel : ∀ t : Fin grid0.N, _)

/-- The blocks cover the result. -/
theorem covered : (cfg0.win 2).Covers := by decide +kernel

/-- The blocks the kernel writes make up the reference's result. -/
theorem final : (dats m 0 c).arrAt 2 cfg0.N = Cert.GlaInReferenceIdeal.Read.val_main_v2 (F := Ideal)
    (m ((c.tc : Thread nD τ).loc main_arg0)) (m ((c.tc : Thread nD τ).loc main_arg1)) := by
  refine (dats m 0 c).arrAt_eq_of_covers 2 _ covered fun t _ y => ?_
  have ht : t.val < 408 := lt_of_lt_of_eq t.isLt (show cfg0.N = 408 from N_0)
  blk_simp
  rw [after0_2]
  frame_out
  idx_vars y
  rw [show ((View.whole main_v3).slice (win0_2.rect t)).emb (ix2 y0 y1)
      = (ix2 ⟨1024 * (t.val / 24) + y0.val, by omega⟩ ⟨512 * (t.val % 24) + y1.val, by omega⟩ : S17408x12288.Idx) by
    blk_ext [idx t]]
  pointwise [k0_pay1, Cert.GlaInReferenceIdeal.Read.val_main_v2, Cert.GlaInReferenceIdeal.Read.val_main_v1,
    Cert.GlaInReferenceIdeal.Read.val_main_v0]
  blk_point [iblk, idx t]

/-- The reference runs, leaves its arguments as they were and every semaphore at zero. -/
theorem ref_frame : @Cert.quiescent_GlaInReferenceIdeal Cert.GlaInReferenceIdeal.Gen.facts :=
  fun m g _ => (θ_run _ _ _).mono (fun r h => ⟨fun c => (h c).2, Idealize.ShloMosaic.sem_eq_zero_of_no_sems (by decide) r.2⟩)
    (Cert.GlaInReferenceIdeal.Value.run m g)

/-- The kernel and the reference end with the same result. -/
theorem same : @Cert.algebraic_GlaInIdeal_GlaInReferenceIdeal Cert.GlaInIdeal.Gen.facts Cert.GlaInReferenceIdeal.Gen.facts := by
  intro m g m' g' hpre hargs
  refine ⟨fun c => (dats m 0 c).arrAt 2 cfg0.N, run_blocks m g, ?_⟩
  refine (θ_run _ _ _).mono (fun r h c => ?_) (Cert.GlaInReferenceIdeal.Value.run m' g')
  refine ⟨(h c).1.trans ((Cert.GlaInReferenceIdeal.Read.val_main_v2_eq _ _).trans ?_), (h c).2⟩
  rw [(hargs c).1, (hargs c).2]
  exact (final m c).symm

end Cert.GlaInIdeal.Value

end
-- ==== Proof.Proj.Square.lean ====
/- The projections from the width to the width: the kernel's blocks are the reference's product. -/
module

public import proofs.«01_k».proof.Defs
public import proofs.«01_k».proof.Proof.Gen.Square.Frame
public import proofs.«01_k».proof.Proof.Gen.SquareIdeal.Frame
public import proofs.«01_k».proof.Proof.Gen.SquareIdeal.Value
public import proofs.«01_k».proof.Proof.Gen.SquareReferenceIdeal.Run
public import proofs.«01_k».proof.Proof.Gen.SquareReferenceIdeal.Read
public import Idealize.ShloMosaic.Lib.Pointwise
public import Idealize.ShloMosaic.Lib.Pipeline.ValueKit
public import Idealize.ShloMosaic.Lib.Pipeline.Covers
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SquareIdeal.Value

open Cert.SquareIdeal Cert.SquareIdeal.Gen

variable (m : (ℓ : Loc nD τ sig) → Buf (Elt Ideal) ℓ) (c : Dev nD)

/-- Which block of its array each window takes at a grid point. -/
theorem idx : ∀ t : Fin cfg0.N,
    win0_0.index t = ![t.val / 8, 0] ∧ win0_1.index t = ![0, t.val % 8] ∧ win0_2.index t = ![t.val / 8, t.val % 8] :=
  (by decide +kernel : ∀ t : Fin grid0.N, _)

/-- The blocks cover the result. -/
theorem covered : (cfg0.win 2).Covers := by decide +kernel

/-- The blocks the kernel writes make up the reference's result. -/
theorem final : (dats m 0 c).arrAt 2 cfg0.N = Cert.SquareReferenceIdeal.Read.val_main_v2 (F := Ideal)
    (m ((c.tc : Thread nD τ).loc main_arg0)) (m ((c.tc : Thread nD τ).loc main_arg1)) := by
  refine (dats m 0 c).arrAt_eq_of_covers 2 _ covered fun t _ y => ?_
  have ht : t.val < 136 := lt_of_lt_of_eq t.isLt (show cfg0.N = 136 from N_0)
  blk_simp
  rw [after0_2]
  frame_out
  idx_vars y
  rw [show ((View.whole main_v3).slice (win0_2.rect t)).emb (ix2 y0 y1)
      = (ix2 ⟨1024 * (t.val / 8) + y0.val, by omega⟩ ⟨512 * (t.val % 8) + y1.val, by omega⟩ : S17408x4096.Idx) by
    blk_ext [idx t]]
  pointwise [k0_pay1, Cert.SquareReferenceIdeal.Read.val_main_v2, Cert.SquareReferenceIdeal.Read.val_main_v1,
    Cert.SquareReferenceIdeal.Read.val_main_v0]
  blk_point [iblk, idx t]

/-- The reference runs, leaves its arguments as they were and every semaphore at zero. -/
theorem ref_frame : @Cert.quiescent_SquareReferenceIdeal Cert.SquareReferenceIdeal.Gen.facts :=
  fun m g _ => (θ_run _ _ _).mono (fun r h => ⟨fun c => (h c).2, Idealize.ShloMosaic.sem_eq_zero_of_no_sems (by decide) r.2⟩)
    (Cert.SquareReferenceIdeal.Value.run m g)

/-- The kernel and the reference end with the same result. -/
theorem same : @Cert.algebraic_SquareIdeal_SquareReferenceIdeal Cert.SquareIdeal.Gen.facts Cert.SquareReferenceIdeal.Gen.facts := by
  intro m g m' g' hpre hargs
  refine ⟨fun c => (dats m 0 c).arrAt 2 cfg0.N, run_blocks m g, ?_⟩
  refine (θ_run _ _ _).mono (fun r h c => ?_) (Cert.SquareReferenceIdeal.Value.run m' g')
  refine ⟨(h c).1.trans ((Cert.SquareReferenceIdeal.Read.val_main_v2_eq _ _).trans ?_), (h c).2⟩
  rw [(hargs c).1, (hargs c).2]
  exact (final m c).symm

end Cert.SquareIdeal.Value

end
-- ==== Proof.Proj.RwkvK.lean ====
/- The recurrence's key projection, kept in f32: the kernel's blocks are the reference's product. -/
module

public import proofs.«01_k».proof.Defs
public import proofs.«01_k».proof.Proof.Gen.RwkvK.Frame
public import proofs.«01_k».proof.Proof.Gen.RwkvKIdeal.Frame
public import proofs.«01_k».proof.Proof.Gen.RwkvKIdeal.Value
public import proofs.«01_k».proof.Proof.Gen.RwkvKReferenceIdeal.Run
public import proofs.«01_k».proof.Proof.Gen.RwkvKReferenceIdeal.Read
public import Idealize.ShloMosaic.Lib.Pointwise
public import Idealize.ShloMosaic.Lib.Pipeline.ValueKit
public import Idealize.ShloMosaic.Lib.Pipeline.Covers
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RwkvKIdeal.Value

open Cert.RwkvKIdeal Cert.RwkvKIdeal.Gen

variable (m : (ℓ : Loc nD τ sig) → Buf (Elt Ideal) ℓ) (c : Dev nD)

/-- Which block of its array each window takes at a grid point. -/
theorem idx : ∀ t : Fin cfg0.N,
    win0_0.index t = ![t.val / 8, 0] ∧ win0_1.index t = ![0, t.val % 8] ∧ win0_2.index t = ![t.val / 8, t.val % 8] :=
  (by decide +kernel : ∀ t : Fin grid0.N, _)

/-- The blocks cover the result. -/
theorem covered : (cfg0.win 2).Covers := by decide +kernel

/-- The blocks the kernel writes make up the reference's result. -/
theorem final : (dats m 0 c).arrAt 2 cfg0.N = Cert.RwkvKReferenceIdeal.Read.val_main_v1 (F := Ideal)
    (m ((c.tc : Thread nD τ).loc main_arg0)) (m ((c.tc : Thread nD τ).loc main_arg1)) := by
  refine (dats m 0 c).arrAt_eq_of_covers 2 _ covered fun t _ y => ?_
  have ht : t.val < 136 := lt_of_lt_of_eq t.isLt (show cfg0.N = 136 from N_0)
  blk_simp
  rw [after0_2]
  frame_out
  idx_vars y
  rw [show ((View.whole main_v3).slice (win0_2.rect t)).emb (ix2 y0 y1)
      = (ix2 ⟨1024 * (t.val / 8) + y0.val, by omega⟩ ⟨512 * (t.val % 8) + y1.val, by omega⟩ : S17408x4096.Idx) by
    blk_ext [idx t]]
  pointwise [k0_pay1, Cert.RwkvKReferenceIdeal.Read.val_main_v1,
    Cert.RwkvKReferenceIdeal.Read.val_main_v0]
  blk_point [iblk, idx t]

/-- The reference runs, leaves its arguments as they were and every semaphore at zero. -/
theorem ref_frame : @Cert.quiescent_RwkvKReferenceIdeal Cert.RwkvKReferenceIdeal.Gen.facts :=
  fun m g _ => (θ_run _ _ _).mono (fun r h => ⟨fun c => (h c).2, Idealize.ShloMosaic.sem_eq_zero_of_no_sems (by decide) r.2⟩)
    (Cert.RwkvKReferenceIdeal.Value.run m g)

/-- The kernel and the reference end with the same result. -/
theorem same : @Cert.algebraic_RwkvKIdeal_RwkvKReferenceIdeal Cert.RwkvKIdeal.Gen.facts Cert.RwkvKReferenceIdeal.Gen.facts := by
  intro m g m' g' hpre hargs
  refine ⟨fun c => (dats m 0 c).arrAt 2 cfg0.N, run_blocks m g, ?_⟩
  refine (θ_run _ _ _).mono (fun r h c => ?_) (Cert.RwkvKReferenceIdeal.Value.run m' g')
  refine ⟨(h c).1.trans ((Cert.RwkvKReferenceIdeal.Read.val_main_v1_eq _ _).trans ?_), (h c).2⟩
  rw [(hargs c).1, (hargs c).2]
  exact (final m c).symm

end Cert.RwkvKIdeal.Value

end
-- ==== Proof.Proj.MlaKv.lean ====
/- The projection from the key latent to keys and values: the kernel's blocks are the reference's product. -/
module

public import proofs.«01_k».proof.Defs
public import proofs.«01_k».proof.Proof.Gen.MlaKv.Frame
public import proofs.«01_k».proof.Proof.Gen.MlaKvIdeal.Frame
public import proofs.«01_k».proof.Proof.Gen.MlaKvIdeal.Value
public import proofs.«01_k».proof.Proof.Gen.MlaKvReferenceIdeal.Run
public import proofs.«01_k».proof.Proof.Gen.MlaKvReferenceIdeal.Read
public import Idealize.ShloMosaic.Lib.Pointwise
public import Idealize.ShloMosaic.Lib.Pipeline.ValueKit
public import Idealize.ShloMosaic.Lib.Pipeline.Covers
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlaKvIdeal.Value

open Cert.MlaKvIdeal Cert.MlaKvIdeal.Gen

variable (m : (ℓ : Loc nD τ sig) → Buf (Elt Ideal) ℓ) (c : Dev nD)

/-- Which block of its array each window takes at a grid point. -/
theorem idx : ∀ t : Fin cfg0.N,
    win0_0.index t = ![t.val / 16, 0] ∧ win0_1.index t = ![0, t.val % 16] ∧ win0_2.index t = ![t.val / 16, t.val % 16] :=
  (by decide +kernel : ∀ t : Fin grid0.N, _)

/-- The blocks cover the result. -/
theorem covered : (cfg0.win 2).Covers := by decide +kernel

/-- The blocks the kernel writes make up the reference's result. -/
theorem final : (dats m 0 c).arrAt 2 cfg0.N = Cert.MlaKvReferenceIdeal.Read.val_main_v2 (F := Ideal)
    (m ((c.tc : Thread nD τ).loc main_arg0)) (m ((c.tc : Thread nD τ).loc main_arg1)) := by
  refine (dats m 0 c).arrAt_eq_of_covers 2 _ covered fun t _ y => ?_
  have ht : t.val < 272 := lt_of_lt_of_eq t.isLt (show cfg0.N = 272 from N_0)
  blk_simp
  rw [after0_2]
  frame_out
  idx_vars y
  rw [show ((View.whole main_v3).slice (win0_2.rect t)).emb (ix2 y0 y1)
      = (ix2 ⟨1024 * (t.val / 16) + y0.val, by omega⟩ ⟨512 * (t.val % 16) + y1.val, by omega⟩ : S17408x8192.Idx) by
    blk_ext [idx t]]
  pointwise [k0_pay1, Cert.MlaKvReferenceIdeal.Read.val_main_v2, Cert.MlaKvReferenceIdeal.Read.val_main_v1,
    Cert.MlaKvReferenceIdeal.Read.val_main_v0]
  blk_point [iblk, idx t]

/-- The reference runs, leaves its arguments as they were and every semaphore at zero. -/
theorem ref_frame : @Cert.quiescent_MlaKvReferenceIdeal Cert.MlaKvReferenceIdeal.Gen.facts :=
  fun m g _ => (θ_run _ _ _).mono (fun r h => ⟨fun c => (h c).2, Idealize.ShloMosaic.sem_eq_zero_of_no_sems (by decide) r.2⟩)
    (Cert.MlaKvReferenceIdeal.Value.run m g)

/-- The kernel and the reference end with the same result. -/
theorem same : @Cert.algebraic_MlaKvIdeal_MlaKvReferenceIdeal Cert.MlaKvIdeal.Gen.facts Cert.MlaKvReferenceIdeal.Gen.facts := by
  intro m g m' g' hpre hargs
  refine ⟨fun c => (dats m 0 c).arrAt 2 cfg0.N, run_blocks m g, ?_⟩
  refine (θ_run _ _ _).mono (fun r h c => ?_) (Cert.MlaKvReferenceIdeal.Value.run m' g')
  refine ⟨(h c).1.trans ((Cert.MlaKvReferenceIdeal.Read.val_main_v2_eq _ _).trans ?_), (h c).2⟩
  rw [(hargs c).1, (hargs c).2]
  exact (final m c).symm

end Cert.MlaKvIdeal.Value

end
-- ==== Proof.Proj.PeerQ.lean ====
/- The routing's query projection, turned over: the kernel's blocks are the reference's product with rows and columns swapped. -/
module

public import proofs.«01_k».proof.Defs
public import proofs.«01_k».proof.Proof.Gen.PeerQ.Frame
public import proofs.«01_k».proof.Proof.Gen.PeerQIdeal.Frame
public import proofs.«01_k».proof.Proof.Gen.PeerQIdeal.Value
public import proofs.«01_k».proof.Proof.Gen.PeerQReferenceIdeal.Run
public import proofs.«01_k».proof.Proof.Gen.PeerQReferenceIdeal.Read
public import Idealize.ShloMosaic.Lib.Pointwise
public import Idealize.ShloMosaic.Lib.Pipeline.ValueKit
public import Idealize.ShloMosaic.Lib.Pipeline.Covers
public import Idealize.ShloMosaic.Lib.Quiescent
public import Idealize.ShloMosaic.Lib.Claim
public import Idealize.ShloMosaic.Lib.Pipeline.Regions

@[expose] public section

set_option maxRecDepth 16384

noncomputable section

open Idealize.ShloMosaic Idealize.ShloMosaic.TcCoe Idealize.SL.Sem
open Idealize.ShloMosaic.Pipeline (Dat)

namespace Cert.PeerQIdeal.Value

open Cert.PeerQIdeal Cert.PeerQIdeal.Gen

variable (m : (ℓ : Loc nD τ sig) → Buf (Elt Ideal) ℓ) (c : Dev nD)

/-- Which block of its array each window takes at a grid point. -/
theorem idx : ∀ t : Fin cfg0.N,
    win0_0.index t = ![t.val / 34, 0] ∧ win0_1.index t = ![0, t.val % 34] ∧ win0_2.index t = ![t.val / 34, t.val % 34] :=
  (by decide +kernel : ∀ t : Fin grid0.N, _)

/-- The blocks cover the result. -/
theorem covered : (cfg0.win 2).Covers := by decide +kernel

/-- The weight the kernel takes: turned over. -/
theorem V_v4 : V m c main_v4 = truncf (F := Ideal) .bf16
    (transpose S2048x4096 [1, 0] (m ((c.tc : Thread nD τ).loc main_arg1) : FVec Ideal S4096x2048 .f32)
      transposes_S4096x2048_S2048x4096_1_0) bitsLt_bf16_f32 := by chain_rfl

/-- The tokens the kernel takes: flattened and turned over. -/
theorem V_v2 : V m c main_v2 = truncf (F := Ideal) .bf16
    (transpose S4096x17408 [1, 0]
      (shapeCast S17408x4096 (m ((c.tc : Thread nD τ).loc main_arg0) : FVec Ideal S4x4352x4096 .f32)
        shapeCasts_S4x4352x4096_S17408x4096)
      transposes_S17408x4096_S4096x17408_1_0) bitsLt_bf16_f32 := by chain_rfl

/-- A weight block's element is the weight's. -/
theorem rows (t : Fin cfg0.N) (y0 : Fin 1024) (x : Fin 4096) (h : 1024 * (t.val / 34) + y0.val < 2048) :
    (iblk m c 0 t (ix2 y0 x) : EReal) = (m ((c.tc : Thread nD τ).loc main_arg1) : FVec Ideal S4096x2048 .f32) (ix2 x ⟨1024 * (t.val / 34) + y0.val, h⟩) := by
  show V m c main_v4 ((win0_0.blk t).view.emb (ix2 y0 x)) = _
  rw [show (win0_0.blk t).view.emb (ix2 y0 x) = (ix2 ⟨1024 * (t.val / 34) + y0.val, h⟩ x : S2048x4096.Idx) by blk_ext [idx t],
    V_v4]
  pointwise

/-- The flattened tokens, turned over, at a place. -/
theorem flat_at (a : FVec Ideal S4x4352x4096 .f32) (x : Fin 4096) (n : Fin 17408) :
    transpose S4096x17408 [1, 0] (shapeCast S17408x4096 a shapeCasts_S4x4352x4096_S17408x4096)
      transposes_S17408x4096_S4096x17408_1_0 (ix2 x n)
      = a (ix3 ⟨n.val / 4352, by omega⟩ ⟨n.val % 4352, by omega⟩ x) := by
  refine (transpose_apply [1, 0] _ transposes_S17408x4096_S4096x17408_1_0 (ix2 x n) (ix2 n x) (fun b => match b with
    | ⟨0, _⟩ => rfl
    | ⟨1, _⟩ => rfl)).trans ?_
  refine shapeCast_apply _ shapeCasts_S4x4352x4096_S17408x4096 (ix2 n x) (ix3 ⟨n.val / 4352, by omega⟩ ⟨n.val % 4352, by omega⟩ x) ?_
  rewrite [Shape.rowMajor_val_three, Shape.rowMajor_val_two]
  show (n.val / 4352 * 4352 + n.val % 4352) * 4096 + x.val = n.val * 4096 + x.val
  omega

/-- A block of tokens' element is the token's. -/
theorem cols (t : Fin cfg0.N) (x : Fin 4096) (y1 : Fin 512) (h : 512 * (t.val % 34) + y1.val < 17408) :
    (iblk m c 1 t (ix2 x y1) : EReal) = (m ((c.tc : Thread nD τ).loc main_arg0) : FVec Ideal S4x4352x4096 .f32)
      (ix3 ⟨(512 * (t.val % 34) + y1.val) / 4352, by omega⟩ ⟨(512 * (t.val % 34) + y1.val) % 4352, by omega⟩ x) := by
  show V m c main_v2 ((win0_1.blk t).view.emb (ix2 x y1)) = _
  rw [show (win0_1.blk t).view.emb (ix2 x y1) = (ix2 x ⟨512 * (t.val % 34) + y1.val, h⟩ : S4096x17408.Idx) by blk_ext [idx t],
    V_v2]
  exact flat_at (m ((c.tc : Thread nD τ).loc main_arg0)) x ⟨512 * (t.val % 34) + y1.val, h⟩

/-- The blocks the kernel writes make up the reference's result. -/
theorem final : (dats m 0 c).arrAt 2 cfg0.N = Cert.PeerQReferenceIdeal.Read.val_main_v2 (F := Ideal)
    (m ((c.tc : Thread nD τ).loc main_arg0)) (m ((c.tc : Thread nD τ).loc main_arg1)) := by
  refine (dats m 0 c).arrAt_eq_of_covers 2 _ covered fun t _ y => ?_
  have ht : t.val < 68 := lt_of_lt_of_eq t.isLt (show cfg0.N = 68 from N_0)
  blk_simp
  rw [after0_2]
  frame_out
  idx_vars y
  rw [show ((View.whole main_v5).slice (win0_2.rect t)).emb (ix2 y0 y1)
      = (ix2 ⟨1024 * (t.val / 34) + y0.val, by omega⟩ ⟨512 * (t.val % 34) + y1.val, by omega⟩ : S2048x17408.Idx) by
    blk_ext [idx t]]
  pointwise [k0_pay1, Cert.PeerQReferenceIdeal.Read.val_main_v2, Cert.PeerQReferenceIdeal.Read.val_main_v1,
    Cert.PeerQReferenceIdeal.Read.val_main_v0]
  refine Finset.sum_congr (M := EReal) rfl fun x _ => ?_
  exact (congrArg₂ (fun a b : EReal => a * b) (rows m c t y0 x (by omega)) (cols m c t x y1 (by omega))).trans (mul_comm _ _)

/-- The reference runs, leaves its arguments as they were and every semaphore at zero. -/
theorem ref_frame : @Cert.quiescent_PeerQReferenceIdeal Cert.PeerQReferenceIdeal.Gen.facts :=
  fun m g _ => (θ_run _ _ _).mono (fun r h => ⟨fun c => (h c).2, Idealize.ShloMosaic.sem_eq_zero_of_no_sems (by decide) r.2⟩)
    (Cert.PeerQReferenceIdeal.Value.run m g)

/-- The kernel and the reference end with the same result. -/
theorem same : @Cert.algebraic_PeerQIdeal_PeerQReferenceIdeal Cert.PeerQIdeal.Gen.facts Cert.PeerQReferenceIdeal.Gen.facts := by
  intro m g m' g' hpre hargs
  refine ⟨fun c => (dats m 0 c).arrAt 2 cfg0.N, run_blocks m g, ?_⟩
  refine (θ_run _ _ _).mono (fun r h c => ?_) (Cert.PeerQReferenceIdeal.Value.run m' g')
  refine ⟨(h c).1.trans ((Cert.PeerQReferenceIdeal.Read.val_main_v2_eq _ _).trans ?_), (h c).2⟩
  rw [(hargs c).1, (hargs c).2]
  exact (final m c).symm

end Cert.PeerQIdeal.Value

end
-- ==== Proof.Proj.Cols.lean ====
/- Picking columns of a matrix by their indices, read at an index. -/
module

public import Idealize.ShloMosaic.Lib.Pointwise
public import Idealize.ShloMosaic.Lib.StableHlo

@[expose] public section

noncomputable section

namespace Cert.Proj

open Idealize.ShloMosaic Idealize.ShloMosaic.Host

/-- The dimension numbers of `x[:, cols]`, for an operand `[A, N]` and `M` columns given as `[M, 1]`. -/
abbrev colDims (A N M : Nat) (wf : GatherDims.WF ⟨2, ![A, N]⟩ ⟨2, ![M, 1]⟩ ⟨2, ![A, M]⟩ [0] [1] [] [1] [] 1 ![A, 1]) :
    GatherDims ⟨2, ![A, N]⟩ ⟨2, ![M, 1]⟩ ⟨2, ![A, M]⟩ where
  offsetDims := [0]
  collapsedSliceDims := [1]
  operandBatchingDims := []
  startIndicesBatchingDims := []
  startIndexMap := [1]
  indexVectorDim := 1
  sliceSizes := ![A, 1]
  wf := wf

/-- A gather of whole columns, read at an index: the operand at the column the start index names. -/
theorem gather_cols_apply {α : Type} {A N M w : Nat}
    (wf : GatherDims.WF ⟨2, ![A, N]⟩ ⟨2, ![M, 1]⟩ ⟨2, ![A, M]⟩ [0] [1] [] [1] [] 1 ![A, 1])
    (x : (⟨2, ![A, N]⟩ : Shape).Idx → α) (idx : IVec ⟨2, ![M, 1]⟩ w) (a : Fin A) (j : Fin M) (n : Fin N)
    (h : (idx (ix2 j 0)).toInt.toNat = n.val) :
    Host.gather (colDims A N M wf) x idx (ix2 a j) = x (ix2 a n) := by
  unfold Host.gather
  congr 1
  funext k
  refine Fin.ext ?_
  show (colDims A N M wf).start (ix2 a j) idx k + (colDims A N M wf).batchCoord (ix2 a j) k
    + (colDims A N M wf).offCoord (ix2 a j) k = _
  rw [GatherDims.batchCoord_eq_zero _ _ _ List.not_mem_nil, Nat.add_zero]
  match k with
  | ⟨0, _⟩ =>
    have hs : (colDims A N M wf).start (ix2 a j) idx 0 = 0 := by
      unfold GatherDims.start
      exact dif_neg fun h => absurd (List.mem_singleton.mp h) (by simp)
    have ho : (colDims A N M wf).offCoord (ix2 a j) 0 = a.val := by
      unfold GatherDims.offCoord
      rw [dif_pos ((GatherDims.mem_sKept _ _).mpr ⟨fun h => absurd (List.mem_singleton.mp h) (by simp), List.not_mem_nil⟩)]
      rfl
    exact (congrArg₂ (· + ·) hs ho).trans (Nat.zero_add _)
  | ⟨1, _⟩ =>
    have ho : (colDims A N M wf).offCoord (ix2 a j) 1 = 0 :=
      GatherDims.offCoord_eq_zero _ _ _ fun h => ((GatherDims.mem_sKept _ _).mp h).1 (List.mem_singleton.mpr rfl)
    have hs : (colDims A N M wf).start (ix2 a j) idx 1 = n.val := by
      unfold GatherDims.start
      rw [dif_pos (show (1 : Fin 2) ∈ (colDims A N M wf).startIndexMap from List.mem_singleton.mpr rfl)]
      have hsi : (colDims A N M wf).siIdx (ix2 a j) ⟨List.idxOf (1 : Fin 2) (colDims A N M wf).startIndexMap,
          List.idxOf_lt_length_iff.2 (List.mem_singleton.mpr rfl)⟩ = ix2 j 0 := by
        funext b; refine Fin.ext ?_
        match b with
        | ⟨0, _⟩ => rfl
        | ⟨1, _⟩ => rfl
      rw [hsi, h]
      exact Nat.min_eq_left (Nat.le_sub_one_of_lt n.isLt)
    exact congrArg₂ (· + ·) hs ho

end Cert.Proj

end
-- ==== Proof.Proj.MlaIn.lean ====
/- The latent attention's first projection, its rotary columns spread and zeros after them: the kernel's blocks are the
   reference's product, laid out so. -/
module

public import proofs.«01_k».proof.Defs
public import proofs.«01_k».proof.Proof.Gen.MlaIn.Frame
public import proofs.«01_k».proof.Proof.Gen.MlaInIdeal.Frame
public import proofs.«01_k».proof.Proof.Gen.MlaInIdeal.Value
public import proofs.«01_k».proof.Proof.Gen.MlaInReferenceIdeal.Run
public import proofs.«01_k».proof.Proof.Gen.MlaInReferenceIdeal.Read
public import Idealize.ShloMosaic.Lib.Pointwise
public import Idealize.ShloMosaic.Lib.Pipeline.ValueKit
public import Idealize.ShloMosaic.Lib.Pipeline.Covers
public import Idealize.ShloMosaic.Lib.Quiescent
public import Idealize.ShloMosaic.Lib.Claim
public import Idealize.ShloMosaic.Lib.Pipeline.Regions
public import proofs.«01_k».proof.Proof.Attn.Host
public import proofs.«01_k».proof.Proof.Proj.Cols

@[expose] public section

set_option maxRecDepth 16384

noncomputable section

open Idealize.ShloMosaic Idealize.ShloMosaic.TcCoe Idealize.SL.Sem
open Idealize.ShloMosaic.Pipeline (Dat)

namespace Cert.MlaInIdeal.Value

open Cert.MlaInIdeal Cert.MlaInIdeal.Gen Cert.Attn Cert.Proj
open Cert.KernelIdeal.Value (hPerm)

variable (m : (ℓ : Loc nD τ sig) → Buf (Elt Ideal) ℓ) (c : Dev nD)

/-- Which block of its array each window takes at a grid point. -/
theorem idx : ∀ t : Fin cfg0.N,
    win0_0.index t = ![t.val / 9, 0] ∧ win0_1.index t = ![0, t.val % 9] ∧ win0_2.index t = ![t.val / 9, t.val % 9] :=
  (by decide +kernel : ∀ t : Fin grid0.N, _)

/-- The blocks cover the result. -/
theorem covered : (cfg0.win 2).Covers := by decide +kernel

/-- The rotary lanes' columns of the weight. -/
def hTail : IVec S128 32 := addi (broadcastInDim S128 ![] bcast_S_S128 (constantI S_ 32 2048#32)) hPerm

/-- `hTail` as the gather takes it: a negative column counted from the end. -/
def hTailIdx : IVec S128x1 32 :=
  broadcastInDim S128x1 ![0] bcast_S128_S128x1_0
    (select (cmpi .slt hTail (broadcastInDim S128 ![] bcast_S_S128 (constantI S_ 32 0#32)))
      (addi hTail (broadcastInDim S128 ![] bcast_S_S128 (constantI S_ 32 2112#32))) hTail)

/-- The rotary lanes' columns, decided. -/
theorem hTailIdx_at : ∀ e : Fin 128, (hTailIdx (ix2 e 0)).toInt.toNat = 2048 + permAt e.val := by decide +kernel

/-- The weight's rotary columns, spread. -/
def hRot (w : FVec Ideal S4096x2112 .f32) : FVec Ideal S4096x128 .f32 :=
  Host.gather gather_S4096x2112_S128x1_S4096x128_0_1_n_n_1_1_40961 w hTailIdx

/-- The weight the kernel takes: its first columns, its rotary columns spread, and zeros. -/
theorem V_v25 : V m c main_v25 = truncf (F := Ideal) .bf16 (concatenate S4096x2304 1
    [⟨S4096x2048, extractStridedSlice S4096x2048 ![0, 0] (m ((c.tc : Thread nD τ).loc main_arg1) : FVec Ideal S4096x2112 .f32)
        slices_S4096x2112_S4096x2048_0_0⟩,
      ⟨S4096x128, hRot (m ((c.tc : Thread nD τ).loc main_arg1))⟩,
      ⟨S4096x128, broadcastInDim S4096x128 ![] bcast_S_S4096x128 (constant (F := Ideal) S_ .f32 0x00000000#32)⟩]
    concatenates_S4096x2048_S4096x128_S4096x128_S4096x2304_d1) bitsLt_bf16_f32 := by chain_rfl

/-- The place of the weight that a column of the kernel's takes. -/
theorem tail_lt {n : ℕ} (h : n < 2176) : 2048 + permAt (n - 2048) < 2112 := by
  have := permAt_lt (e := n - 2048) (by omega)
  omega

/-- A row of the kernel's weight by columns: the weight's first ones, its rotary ones spread, zero. -/
def laid (v : Fin 2112 → EReal) (n : Fin 2304) : EReal :=
  if h : n.val < 2048 then v ⟨n.val, by omega⟩ else if h : n.val < 2176 then v ⟨2048 + permAt (n.val - 2048), tail_lt h⟩ else 0

/-- The spread columns at a place. -/
theorem hRot_at (w : FVec Ideal S4096x2112 .f32) (x : Fin 4096) (e : Fin 128) :
    hRot w (ix2 x e) = w (ix2 x ⟨2048 + permAt e.val, Nat.add_lt_add_left (permAt_lt e.isLt) 2048⟩) :=
  gather_cols_apply _ w hTailIdx x e _ (hTailIdx_at e)

/-- That weight at a place. -/
theorem V_v25_at (x : Fin 4096) (n : Fin 2304) : ((V m c main_v25 : FVec Ideal S4096x2304 .bf16) (ix2 x n) : EReal)
    = laid (fun k => (m ((c.tc : Thread nD τ).loc main_arg1) : FVec Ideal S4096x2112 .f32) (ix2 x k)) n := by
  rw [V_v25]
  pointwise
  unfold laid
  by_cases h : n.val < 2048
  · rw [dif_pos h, dif_pos h]
  · rw [dif_neg h, dif_neg h]
    by_cases h' : n.val < 2176
    · rw [dif_pos (show n.val - 2048 < 128 by omega), dif_pos h']
      exact hRot_at _ x ⟨n.val - 2048, by omega⟩
    · rw [dif_neg (show ¬n.val - 2048 < 128 by omega), dif_neg h']

/-- The reference's layout of its product. -/
theorem ref_lay (a : FVec Ideal S4x4352x4096 .f32) (w : FVec Ideal S4096x2112 .f32) (r : Fin 17408) (n : Fin 2304) :
    (Cert.MlaInReferenceIdeal.Read.val_main_v11 (F := Ideal) a w (ix2 r n) : EReal)
      = laid (fun k => Cert.MlaInReferenceIdeal.Read.val_main_v0 (F := Ideal) a w
        (ix3 ⟨r.val / 4352, by omega⟩ ⟨r.val % 4352, by omega⟩ k)) n := by
  generalize hv : Cert.MlaInReferenceIdeal.Read.val_main_v0 (F := Ideal) a w = v
  pointwise [Cert.MlaInReferenceIdeal.Read.val_main_v11, Cert.MlaInReferenceIdeal.Read.val_main_v10, Cert.MlaInReferenceIdeal.Read.val_main_v9, Cert.MlaInReferenceIdeal.Read.val_main_v8, Cert.MlaInReferenceIdeal.Read.val_main_v7, Cert.MlaInReferenceIdeal.Read.val_main_v6, Cert.MlaInReferenceIdeal.Read.val_main_v5, Cert.MlaInReferenceIdeal.Read.val_main_v4, Cert.MlaInReferenceIdeal.Read.val_main_v3, Cert.MlaInReferenceIdeal.Read.val_main_v2, Cert.MlaInReferenceIdeal.Read.val_main_v1, Cert.MlaInReferenceIdeal.Read.val_main_cst]
  subst hv
  unfold laid
  by_cases h : n.val < 2048
  · conv_rhs => rw [dif_pos h]
    conv_lhs => rw [dif_pos h]
  · conv_rhs => rw [dif_neg h]
    conv_lhs => rw [dif_neg h]
    by_cases h' : n.val < 2176
    · conv_rhs => rw [dif_pos h']
      conv_lhs => rw [dif_pos (show n.val - 2048 < 128 by omega)]
      by_cases h0 : n.val - 2048 < 32
      · conv_lhs => rw [dif_pos h0]
        refine congrArg _ (congrArg (fun z => ix3 _ _ z) (Fin.ext ?_))
        show 2048 + (n.val - 2048) * 2 = 2048 + permAt (n.val - 2048)
        rw [permAt, if_pos h0]
        omega
      · conv_lhs => rw [dif_neg h0]
        by_cases h1 : n.val - 2048 - 32 < 32
        · conv_lhs => rw [dif_pos h1]
          refine congrArg _ (congrArg (fun z => ix3 _ _ z) (Fin.ext ?_))
          show 2048 + ((n.val - 2048 - 32) * 2 + 1) = 2048 + permAt (n.val - 2048)
          rw [permAt, if_neg h0, if_pos (by omega)]
          omega
        · conv_lhs => rw [dif_neg h1]
          by_cases h2 : n.val - 2048 - 32 - 32 < 32
          · conv_lhs => rw [dif_pos h2]
            refine congrArg _ (congrArg (fun z => ix3 _ _ z) (Fin.ext ?_))
            show 2048 + ((n.val - 2048 - 32 - 32) * 2 + 1) = 2048 + permAt (n.val - 2048)
            rw [permAt, if_neg h0, if_neg (by omega), if_pos (by omega)]
            omega
          · conv_lhs => rw [dif_neg h2]
            refine congrArg _ (congrArg (fun z => ix3 _ _ z) (Fin.ext ?_))
            show 2048 + (n.val - 2048 - 32 - 32 - 32) * 2 = 2048 + permAt (n.val - 2048)
            rw [permAt, if_neg h0, if_neg (by omega), if_neg (by omega)]
            omega
    · conv_rhs => rw [dif_neg h']
      conv_lhs => rw [dif_neg (show ¬n.val - 2048 < 128 by omega)]

/-- Laying out a row's products is multiplying by the columns laid out. -/
theorem laid_sum (a : Fin 4096 → EReal) (w : Fin 4096 → Fin 2112 → EReal) (n : Fin 2304) :
    laid (fun k => ∑ x, a x * w x k) n = ∑ x, a x * laid (w x) n := by
  unfold laid
  split_ifs
  · rfl
  · rfl
  · simp

/-- The blocks the kernel writes make up the reference's result. -/
theorem final : (dats m 0 c).arrAt 2 cfg0.N = Cert.MlaInReferenceIdeal.Read.val_main_v11 (F := Ideal)
    (m ((c.tc : Thread nD τ).loc main_arg0)) (m ((c.tc : Thread nD τ).loc main_arg1)) := by
  refine (dats m 0 c).arrAt_eq_of_covers 2 _ covered fun t _ y => ?_
  have ht : t.val < 153 := lt_of_lt_of_eq t.isLt (show cfg0.N = 153 from N_0)
  blk_simp
  rw [after0_2]
  frame_out
  idx_vars y
  rw [show ((View.whole main_v26).slice (win0_2.rect t)).emb (ix2 y0 y1)
      = (ix2 ⟨1024 * (t.val / 9) + y0.val, by omega⟩ ⟨256 * (t.val % 9) + y1.val, by omega⟩ : S17408x2304.Idx) by
    blk_ext [idx t]]
  refine Eq.trans ?_ (ref_lay _ _ _ _).symm
  pointwise [k0_pay1, Cert.MlaInReferenceIdeal.Read.val_main_v0]
  refine Eq.trans ?_ (laid_sum _ (fun x k => (m ((c.tc : Thread nD τ).loc main_arg1) : FVec Ideal S4096x2112 .f32) (ix2 x k)) _).symm
  refine Finset.sum_congr (M := EReal) rfl fun x _ => congrArg₂ (fun a b : EReal => a * b) ?_ ?_
  · blk_point [iblk, idx t]
  · show V m c main_v25 ((win0_1.blk t).view.emb (ix2 x y1)) = _
    rw [show (win0_1.blk t).view.emb (ix2 x y1) = (ix2 x ⟨256 * (t.val % 9) + y1.val, by omega⟩ : S4096x2304.Idx) by blk_ext [idx t]]
    exact V_v25_at m c x _

/-- The reference runs, leaves its arguments as they were and every semaphore at zero. -/
theorem ref_frame : @Cert.quiescent_MlaInReferenceIdeal Cert.MlaInReferenceIdeal.Gen.facts :=
  fun m g _ => (θ_run _ _ _).mono (fun r h => ⟨fun c => (h c).2, Idealize.ShloMosaic.sem_eq_zero_of_no_sems (by decide) r.2⟩)
    (Cert.MlaInReferenceIdeal.Value.run m g)

/-- The kernel and the reference end with the same result. -/
theorem same : @Cert.algebraic_MlaInIdeal_MlaInReferenceIdeal Cert.MlaInIdeal.Gen.facts Cert.MlaInReferenceIdeal.Gen.facts := by
  intro m g m' g' hpre hargs
  refine ⟨fun c => (dats m 0 c).arrAt 2 cfg0.N, run_blocks m g, ?_⟩
  refine (θ_run _ _ _).mono (fun r h c => ?_) (Cert.MlaInReferenceIdeal.Value.run m' g')
  refine ⟨(h c).1.trans ((Cert.MlaInReferenceIdeal.Read.val_main_v11_eq _ _).trans ?_), (h c).2⟩
  rw [(hargs c).1, (hargs c).2]
  exact (final m c).symm

end Cert.MlaInIdeal.Value

end
-- ==== Proof.Proj.MlaUq.lean ====
/- The latent attention's query projection, its columns laid out for the attention: the kernel's blocks are the reference's
   product, with each head's rotary pairs spread. -/
module

public import proofs.«01_k».proof.Defs
public import proofs.«01_k».proof.Proof.Gen.MlaUq.Frame
public import proofs.«01_k».proof.Proof.Gen.MlaUqIdeal.Frame
public import proofs.«01_k».proof.Proof.Gen.MlaUqIdeal.Value
public import proofs.«01_k».proof.Proof.Gen.MlaUqReferenceIdeal.Run
public import proofs.«01_k».proof.Proof.Gen.MlaUqReferenceIdeal.Read
public import Idealize.ShloMosaic.Lib.Pointwise
public import Idealize.ShloMosaic.Lib.Pipeline.ValueKit
public import Idealize.ShloMosaic.Lib.Pipeline.Covers
public import Idealize.ShloMosaic.Lib.Quiescent
public import Idealize.ShloMosaic.Lib.Claim
public import Idealize.ShloMosaic.Lib.Pipeline.Regions
public import proofs.«01_k».proof.Proof.Attn.Host
public import proofs.«01_k».proof.Proof.Proj.Cols

@[expose] public section

set_option maxRecDepth 16384

noncomputable section

open Idealize.ShloMosaic Idealize.ShloMosaic.TcCoe Idealize.SL.Sem
open Idealize.ShloMosaic.Pipeline (Dat)

namespace Cert.MlaUqIdeal.Value

open Cert.MlaUqIdeal Cert.MlaUqIdeal.Gen Cert.Attn Cert.Proj
open Cert.KernelIdeal.Value (hColIdx hColIdx_at colAt colAt_lt hPermIdx hPermIdx_at)

variable (m : (ℓ : Loc nD τ sig) → Buf (Elt Ideal) ℓ) (c : Dev nD)

/-- Which block of its array each window takes at a grid point. -/
theorem idx : ∀ t : Fin cfg0.N,
    win0_0.index t = ![t.val / 16, 0] ∧ win0_1.index t = ![0, t.val % 16] ∧ win0_2.index t = ![t.val / 16, t.val % 16] :=
  (by decide +kernel : ∀ t : Fin grid0.N, _)

/-- The blocks cover the result. -/
theorem covered : (cfg0.win 2).Covers := by decide +kernel

/-- The weight the kernel takes: its columns picked. -/
theorem V_v33 : V m c main_v33 = truncf (F := Ideal) .bf16
    (Host.gather gather_S1536x6144_S8192x1_S1536x8192_0_1_n_n_1_1_15361
      (m ((c.tc : Thread nD τ).loc main_arg1) : FVec Ideal S1536x6144 .f32) Cert.KernelIdeal.Value.hColIdx) bitsLt_bf16_f32 := by chain_rfl

/-- That weight at a place. -/
theorem V_v33_at (x : Fin 1536) (n : Fin 8192) : (V m c main_v33 : FVec Ideal S1536x8192 .bf16) (ix2 x n)
    = (m ((c.tc : Thread nD τ).loc main_arg1) : FVec Ideal S1536x6144 .f32) (ix2 x ⟨colAt n.val, colAt_lt n.isLt⟩) := by
  rw [V_v33]
  exact gather_cols_apply _ (m ((c.tc : Thread nD τ).loc main_arg1) : FVec Ideal S1536x6144 .f32) hColIdx x n
    ⟨colAt n, colAt_lt n.isLt⟩ (hColIdx_at n)

/-- The reference's layout: each lane of the result is the product's column `colAt`. -/
theorem ref_lay (a : FVec Ideal S4x4352x1536 .f32) (w : FVec Ideal S1536x6144 .f32) (r : Fin 17408) (n : Fin 8192) :
    Cert.MlaUqReferenceIdeal.Read.val_main_v12 (F := Ideal) a w (ix2 r n)
      = Cert.MlaUqReferenceIdeal.Read.val_main_v0 (F := Ideal) a w
        (ix3 ⟨r.val / 4352, by omega⟩ ⟨r.val % 4352, by omega⟩ ⟨colAt n.val, colAt_lt n.isLt⟩) := by
  generalize hv : Cert.MlaUqReferenceIdeal.Read.val_main_v0 (F := Ideal) a w = v
  pointwise [Cert.MlaUqReferenceIdeal.Read.val_main_v12, Cert.MlaUqReferenceIdeal.Read.val_main_v11, Cert.MlaUqReferenceIdeal.Read.val_main_v10, Cert.MlaUqReferenceIdeal.Read.val_main_v9, Cert.MlaUqReferenceIdeal.Read.val_main_v8, Cert.MlaUqReferenceIdeal.Read.val_main_v7, Cert.MlaUqReferenceIdeal.Read.val_main_v6, Cert.MlaUqReferenceIdeal.Read.val_main_v5, Cert.MlaUqReferenceIdeal.Read.val_main_v4, Cert.MlaUqReferenceIdeal.Read.val_main_v3, Cert.MlaUqReferenceIdeal.Read.val_main_v2, Cert.MlaUqReferenceIdeal.Read.val_main_v1]
  subst hv
  split_ifs <;> refine congrArg _ (congrArg (fun z => ix3 _ _ z) (Fin.ext ?_)) <;> simp only [colAt, permAt] <;> split_ifs <;> omega

/-- The blocks the kernel writes make up the reference's result. -/
theorem final : (dats m 0 c).arrAt 2 cfg0.N = Cert.MlaUqReferenceIdeal.Read.val_main_v12 (F := Ideal)
    (m ((c.tc : Thread nD τ).loc main_arg0)) (m ((c.tc : Thread nD τ).loc main_arg1)) := by
  refine (dats m 0 c).arrAt_eq_of_covers 2 _ covered fun t _ y => ?_
  have ht : t.val < 272 := lt_of_lt_of_eq t.isLt (show cfg0.N = 272 from N_0)
  blk_simp
  rw [after0_2]
  frame_out
  idx_vars y
  rw [show ((View.whole main_v34).slice (win0_2.rect t)).emb (ix2 y0 y1)
      = (ix2 ⟨1024 * (t.val / 16) + y0.val, by omega⟩ ⟨512 * (t.val % 16) + y1.val, by omega⟩ : S17408x8192.Idx) by
    blk_ext [idx t]]
  refine Eq.trans ?_ (ref_lay _ _ _ _).symm
  pointwise [k0_pay1, Cert.MlaUqReferenceIdeal.Read.val_main_v0]
  refine Finset.sum_congr (M := EReal) rfl fun x _ => congrArg₂ (fun a b : EReal => a * b) ?_ ?_
  · blk_point [iblk, idx t]
  · show V m c main_v33 ((win0_1.blk t).view.emb (ix2 x y1)) = _
    rw [show (win0_1.blk t).view.emb (ix2 x y1) = (ix2 x ⟨512 * (t.val % 16) + y1.val, by omega⟩ : S1536x8192.Idx) by blk_ext [idx t]]
    exact V_v33_at m c x _

/-- The reference runs, leaves its arguments as they were and every semaphore at zero. -/
theorem ref_frame : @Cert.quiescent_MlaUqReferenceIdeal Cert.MlaUqReferenceIdeal.Gen.facts :=
  fun m g _ => (θ_run _ _ _).mono (fun r h => ⟨fun c => (h c).2, Idealize.ShloMosaic.sem_eq_zero_of_no_sems (by decide) r.2⟩)
    (Cert.MlaUqReferenceIdeal.Value.run m g)

/-- The kernel and the reference end with the same result. -/
theorem same : @Cert.algebraic_MlaUqIdeal_MlaUqReferenceIdeal Cert.MlaUqIdeal.Gen.facts Cert.MlaUqReferenceIdeal.Gen.facts := by
  intro m g m' g' hpre hargs
  refine ⟨fun c => (dats m 0 c).arrAt 2 cfg0.N, run_blocks m g, ?_⟩
  refine (θ_run _ _ _).mono (fun r h c => ?_) (Cert.MlaUqReferenceIdeal.Value.run m' g')
  refine ⟨(h c).1.trans ((Cert.MlaUqReferenceIdeal.Read.val_main_v12_eq _ _).trans ?_), (h c).2⟩
  rw [(hargs c).1, (hargs c).2]
  exact (final m c).symm

end Cert.MlaUqIdeal.Value

end
-- ==== Proof.Proj.RwkvLow.lean ====
/- The low-rank projections of the recurrence's decays and rates, both directions in one product: the kernel's blocks are the
   reference's. -/
module

public import proofs.«01_k».proof.Defs
public import proofs.«01_k».proof.Proof.Gen.RwkvLow.Frame
public import proofs.«01_k».proof.Proof.Gen.RwkvLowIdeal.Frame
public import proofs.«01_k».proof.Proof.Gen.RwkvLowIdeal.Value
public import proofs.«01_k».proof.Proof.Gen.RwkvLowReferenceIdeal.Run
public import proofs.«01_k».proof.Proof.Gen.RwkvLowReferenceIdeal.Read
public import Idealize.ShloMosaic.Lib.Pointwise
public import Idealize.ShloMosaic.Lib.Pipeline.ValueKit
public import Idealize.ShloMosaic.Lib.Pipeline.Covers
public import Idealize.ShloMosaic.Lib.Quiescent
public import Idealize.ShloMosaic.Lib.Claim
public import Idealize.ShloMosaic.Lib.Pipeline.Regions

@[expose] public section

set_option maxRecDepth 16384

noncomputable section

open Idealize.ShloMosaic Idealize.ShloMosaic.TcCoe Idealize.SL.Sem
open Idealize.ShloMosaic.Pipeline (Dat)

namespace Cert.RwkvLowIdeal.Value

open Cert.RwkvLowIdeal Cert.RwkvLowIdeal.Gen

variable (m : (ℓ : Loc nD τ sig) → Buf (Elt Ideal) ℓ) (c : Dev nD)

/-- Which block of its array each window takes at a grid point. -/
theorem idx : ∀ t : Fin cfg0.N,
    win0_0.index t = ![t.val, 0] ∧ win0_1.index t = ![0, 0] ∧ win0_2.index t = ![t.val, 0] :=
  (by decide +kernel : ∀ t : Fin grid0.N, _)

/-- The blocks cover the result. -/
theorem covered : (cfg0.win 2).Covers := by decide +kernel

/-- The weight the kernel takes: the two directions' factors side by side. -/
theorem V_v7 : V m c main_v7 = truncf (F := Ideal) .bf16 (concatenate S4096x256 1
    [⟨S4096x128, shapeCast S4096x128 (extractStridedSlice S1x4096x128 ![0, 0, 0]
        (m ((c.tc : Thread nD τ).loc main_arg1) : FVec Ideal S2x4096x128 .f32) slices_S2x4096x128_S1x4096x128_0_0_0) shapeCasts_S1x4096x128_S4096x128⟩,
      ⟨S4096x128, shapeCast S4096x128 (extractStridedSlice S1x4096x128 ![1, 0, 0]
        (m ((c.tc : Thread nD τ).loc main_arg1) : FVec Ideal S2x4096x128 .f32) slices_S2x4096x128_S1x4096x128_1_0_0) shapeCasts_S1x4096x128_S4096x128⟩]
    concatenates_S4096x128_S4096x128_S4096x256_d1) bitsLt_bf16_f32 := by chain_rfl

/-- That weight at a place. -/
theorem V_v7_at (x : Fin 4096) (n : Fin 256) : (V m c main_v7 : FVec Ideal S4096x256 .bf16) (ix2 x n)
    = (m ((c.tc : Thread nD τ).loc main_arg1) : FVec Ideal S2x4096x128 .f32)
        (ix3 ⟨n.val / 128, by omega⟩ x ⟨n.val % 128, by omega⟩) := by
  rw [V_v7]
  pointwise
  by_cases h : n.val < 128
  · rw [dif_pos h]
    exact congrArg _ (congrArg₂ (fun a b => ix3 a x b) (Fin.ext (by show (0 : ℕ) = n.val / 128; omega)) (Fin.ext (by show n.val = n.val % 128; omega)))
  · rw [dif_neg h]
    exact congrArg _ (congrArg₂ (fun a b => ix3 a x b) (Fin.ext (by show (1 : ℕ) = n.val / 128; omega)) (Fin.ext (by show n.val - 128 = n.val % 128; omega)))

/-- The reference at a place: a row by a column of the direction's factor. -/
theorem ref_at (a : FVec Ideal S4x4352x4096 .f32) (w : FVec Ideal S2x4096x128 .f32) (r : Fin 17408) (n : Fin 256) :
    (Cert.RwkvLowReferenceIdeal.Read.val_main_v7 (F := Ideal) a w (ix2 r n) : EReal)
      = ∑ x : Fin 4096, (a (ix3 ⟨r.val / 4352, by omega⟩ ⟨r.val % 4352, by omega⟩ x) : EReal)
        * w (ix3 ⟨n.val / 128, by omega⟩ x ⟨n.val % 128, by omega⟩) := by
  pointwise [Cert.RwkvLowReferenceIdeal.Read.val_main_v7, Cert.RwkvLowReferenceIdeal.Read.val_main_v6, Cert.RwkvLowReferenceIdeal.Read.val_main_v5, Cert.RwkvLowReferenceIdeal.Read.val_main_v4, Cert.RwkvLowReferenceIdeal.Read.val_main_v3, Cert.RwkvLowReferenceIdeal.Read.val_main_v2, Cert.RwkvLowReferenceIdeal.Read.val_main_v1, Cert.RwkvLowReferenceIdeal.Read.val_main_v0]
  by_cases h : n.val < 128
  · rw [dif_pos h]
    exact Finset.sum_congr (M := EReal) rfl fun x _ => congrArg (fun z : EReal => _ * z)
      (congrArg w (congrArg₂ (fun a b => ix3 a x b) (Fin.ext (by show (0 : ℕ) = n.val / 128; omega)) (Fin.ext (by show n.val = n.val % 128; omega))))
  · rw [dif_neg h]
    exact Finset.sum_congr (M := EReal) rfl fun x _ => congrArg (fun z : EReal => _ * z)
      (congrArg w (congrArg₂ (fun a b => ix3 a x b) (Fin.ext (by show (1 : ℕ) = n.val / 128; omega)) (Fin.ext (by show n.val - 128 = n.val % 128; omega))))

/-- The blocks the kernel writes make up the reference's result. -/
theorem final : (dats m 0 c).arrAt 2 cfg0.N = Cert.RwkvLowReferenceIdeal.Read.val_main_v7 (F := Ideal)
    (m ((c.tc : Thread nD τ).loc main_arg0)) (m ((c.tc : Thread nD τ).loc main_arg1)) := by
  refine (dats m 0 c).arrAt_eq_of_covers 2 _ covered fun t _ y => ?_
  have ht : t.val < 17 := lt_of_lt_of_eq t.isLt (show cfg0.N = 17 from N_0)
  blk_simp
  rw [after0_2]
  frame_out
  idx_vars y
  rw [show ((View.whole main_v8).slice (win0_2.rect t)).emb (ix2 y0 y1)
      = (ix2 ⟨1024 * t.val + y0.val, by omega⟩ y1 : S17408x256.Idx) by
    blk_ext [idx t]]
  refine Eq.trans ?_ (ref_at _ _ _ _).symm
  pointwise [k0_pay1]
  refine Finset.sum_congr (M := EReal) rfl fun x _ => congrArg₂ (fun a b : EReal => a * b) ?_ ?_
  · blk_point [iblk, idx t]
  · show V m c main_v7 ((win0_1.blk t).view.emb (ix2 x y1)) = _
    rw [show (win0_1.blk t).view.emb (ix2 x y1) = (ix2 x y1 : S4096x256.Idx) by blk_ext [idx t]]
    exact V_v7_at m c x y1

/-- The reference runs, leaves its arguments as they were and every semaphore at zero. -/
theorem ref_frame : @Cert.quiescent_RwkvLowReferenceIdeal Cert.RwkvLowReferenceIdeal.Gen.facts :=
  fun m g _ => (θ_run _ _ _).mono (fun r h => ⟨fun c => (h c).2, Idealize.ShloMosaic.sem_eq_zero_of_no_sems (by decide) r.2⟩)
    (Cert.RwkvLowReferenceIdeal.Value.run m g)

/-- The kernel and the reference end with the same result. -/
theorem same : @Cert.algebraic_RwkvLowIdeal_RwkvLowReferenceIdeal Cert.RwkvLowIdeal.Gen.facts Cert.RwkvLowReferenceIdeal.Gen.facts := by
  intro m g m' g' hpre hargs
  refine ⟨fun c => (dats m 0 c).arrAt 2 cfg0.N, run_blocks m g, ?_⟩
  refine (θ_run _ _ _).mono (fun r h c => ?_) (Cert.RwkvLowReferenceIdeal.Value.run m' g')
  refine ⟨(h c).1.trans ((Cert.RwkvLowReferenceIdeal.Read.val_main_v7_eq _ _).trans ?_), (h c).2⟩
  rw [(hargs c).1, (hargs c).2]
  exact (final m c).symm

end Cert.RwkvLowIdeal.Value

end
-- ==== Proof.Proj.GlaGate.lean ====
/- The gate of the gated recurrence: the two directions added, each head normed, gated by the SiLU of the gate part. -/
module

public import proofs.«01_k».proof.Defs
public import proofs.«01_k».proof.Proof.Gen.GlaGate.Frame
public import proofs.«01_k».proof.Proof.Gen.GlaGateIdeal.Frame
public import proofs.«01_k».proof.Proof.Gen.GlaGateIdeal.Value
public import proofs.«01_k».proof.Proof.Gen.GlaGateReferenceIdeal.Run
public import proofs.«01_k».proof.Proof.Gen.GlaGateReferenceIdeal.Read
public import Idealize.ShloMosaic.Lib.Pointwise
public import Idealize.ShloMosaic.Lib.Pipeline.ValueKit
public import Idealize.ShloMosaic.Lib.Pipeline.Covers
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GlaGateIdeal.Value

open Cert.GlaGateIdeal Cert.GlaGateIdeal.Gen

variable (m : (ℓ : Loc nD τ sig) → Buf (Elt Ideal) ℓ) (c : Dev nD)

/-- Which block of its array each window takes at a grid point. -/
theorem idx : ∀ t : Fin cfg0.N,
    win0_0.index t = ![t.val / 17, t.val % 17, 0] ∧ win0_1.index t = ![t.val / 17, t.val % 17, 0]
      ∧ win0_2.index t = ![t.val / 17, t.val % 17, 2] ∧ win0_3.index t = ![0, 0]
      ∧ win0_4.index t = ![t.val / 17, t.val % 17, 0] :=
  (by decide +kernel : ∀ t : Fin grid0.N, _)

/-- The blocks cover the result. -/
theorem covered : (cfg0.win 4).Covers := by decide +kernel

/-- A lane of a head over the root of the head's mean square, times its gain. -/
def normed (s : Fin 512 → EReal) (g : EReal) (j : Fin 512) : EReal :=
  s j * Ideal.rsqrt (Ideal.div (∑ k, s k * s k) (Ideal.ofBits .f32 0x44000000#32) + Ideal.ofBits .f32 0x358637BD#32) * g

/-- That, gated by the SiLU of `r`. -/
def gated (s : Fin 512 → EReal) (g : EReal) (j : Fin 512) (r : EReal) : EReal :=
  normed s g j * (r * Ideal.div 1 (1 + Ideal.exp (-r)))

/-- The body norms each of its eight heads. -/
theorem head_at (P0 P1 : Vec Ideal S1x256x4096 .bf16) (P2 : Vec Ideal S1x512 .f32) (P3 : Vec Ideal S1x256x4096 .bf16) (n : Fin 8)
    (i : Fin 256) (j : Fin 512) : (Cat4_0 P0 P1 P2 P3 n (ix2 i j) : EReal)
      = normed (fun k => (P0 (ix3 0 i ⟨n.val * 512 + k.val, by omega⟩) + P1 (ix3 0 i ⟨n.val * 512 + k.val, by omega⟩) : EReal))
        (P2 (ix2 0 j)) j := by
  obtain ⟨n, hn⟩ := n
  interval_cases n <;>
  · show (mulf (F := Ideal) _ _ (ix2 i j) : EReal) = _
    pointwise
    simp only [normed, Nat.reduceMul, Nat.zero_add]

/-- The body's block at a place. -/
theorem block_at (P0 P1 : Vec Ideal S1x256x4096 .bf16) (P2 : Vec Ideal S1x512 .f32) (P3 : Vec Ideal S1x256x4096 .bf16)
    (z : Fin 1) (i : Fin 256) (d : Fin 4096) : (E4 P0 P1 P2 P3 (ix3 z i d) : EReal)
      = gated (fun k => (P0 (ix3 0 i ⟨d.val / 512 * 512 + k.val, by omega⟩) + P1 (ix3 0 i ⟨d.val / 512 * 512 + k.val, by omega⟩) : EReal))
        (P2 (ix2 0 ⟨d.val % 512, by omega⟩)) ⟨d.val % 512, by omega⟩ (P3 (ix3 0 i d)) := by
  have e0 : ix4_0 (ix3 z i d) = ix2 i ⟨d.val % 512, by omega⟩ := by
    funext a
    match a with
    | ⟨0, _⟩ => rfl
    | ⟨1, _⟩ => rfl
  have e1 : ix4_1 (ix3 z i d) = ix3 0 i d := by
    funext a
    match a with
    | ⟨0, _⟩ => rfl
    | ⟨1, _⟩ => rfl
    | ⟨2, _⟩ => rfl
  have h := head_at P0 P1 P2 P3 ⟨d.val / 512, by omega⟩ i ⟨d.val % 512, by omega⟩
  rw [← e0] at h
  show (Cat4_0 P0 P1 P2 P3 (csel4_0 (ix3 z i d)) (ix4_0 (ix3 z i d)) : EReal) * ((P3 (ix4_1 (ix3 z i d)) : EReal)
    * Ideal.div (Ideal.ofBits .f32 0x3F800000#32) (Ideal.ofBits .f32 0x3F800000#32 + Ideal.exp (Ideal.ofBits .f32 0x00000000#32 - (P3 (ix4_1 (ix3 z i d)) : EReal)))) = _
  refine (congrArg₂ (fun a b : EReal => a * b) h rfl).trans ?_
  rw [e1]
  unfold gated
  refine congrArg _ ?_
  pointwise
  rw [zero_sub]

/-- The reference at a place. -/
theorem ref_at (a b : FVec Ideal S4x4352x4096 .f32) (p : FVec Ideal S4x4352x12288 .f32) (g : FVec Ideal S512 .f32)
    (x : Fin 4) (r : Fin 4352) (d : Fin 4096) :
    (Cert.GlaGateReferenceIdeal.Read.val_main_v19 (F := Ideal) a b p g (ix3 x r d) : EReal)
      = gated (fun k => (a (ix3 x r ⟨d.val / 512 * 512 + k.val, by omega⟩) + b (ix3 x r ⟨d.val / 512 * 512 + k.val, by omega⟩) : EReal))
        (g (ix1 ⟨d.val % 512, by omega⟩)) ⟨d.val % 512, by omega⟩ (p (ix3 x r ⟨8192 + d.val, by omega⟩)) := by
  pointwise [Cert.GlaGateReferenceIdeal.Read.val_main_v19, Cert.GlaGateReferenceIdeal.Read.val_main_v18, Cert.GlaGateReferenceIdeal.Read.val_main_v17, Cert.GlaGateReferenceIdeal.Read.val_main_v16, Cert.GlaGateReferenceIdeal.Read.val_main_v15, Cert.GlaGateReferenceIdeal.Read.val_main_v14, Cert.GlaGateReferenceIdeal.Read.val_main_v13, Cert.GlaGateReferenceIdeal.Read.val_main_v12, Cert.GlaGateReferenceIdeal.Read.val_main_v11, Cert.GlaGateReferenceIdeal.Read.val_main_v10, Cert.GlaGateReferenceIdeal.Read.val_main_v9, Cert.GlaGateReferenceIdeal.Read.val_main_v8, Cert.GlaGateReferenceIdeal.Read.val_main_v7, Cert.GlaGateReferenceIdeal.Read.val_main_v6, Cert.GlaGateReferenceIdeal.Read.val_main_v5, Cert.GlaGateReferenceIdeal.Read.val_main_v4, Cert.GlaGateReferenceIdeal.Read.val_main_v3, Cert.GlaGateReferenceIdeal.Read.val_main_v2, Cert.GlaGateReferenceIdeal.Read.val_main_v1, Cert.GlaGateReferenceIdeal.Read.val_main_v0, Cert.GlaGateReferenceIdeal.Read.val_main_call0_v5, Cert.GlaGateReferenceIdeal.Read.val_main_call0_v4, Cert.GlaGateReferenceIdeal.Read.val_main_call0_v3, Cert.GlaGateReferenceIdeal.Read.val_main_call0_v2, Cert.GlaGateReferenceIdeal.Read.val_main_call0_v1, Cert.GlaGateReferenceIdeal.Read.val_main_call0_v0, Cert.GlaGateReferenceIdeal.Read.val_main_call0_cst, Cert.GlaGateReferenceIdeal.Read.val_main_call0_cst_0, Cert.GlaGateReferenceIdeal.Read.val_main_cst, Cert.GlaGateReferenceIdeal.Read.val_main_cst_0, Cert.GlaGateReferenceIdeal.Read.val_main_cst_1]
  unfold gated normed
  dsimp only
  rw [show (⟨d.val / 512 * 512 + d.val % 512, by omega⟩ : Fin 4096) = d from Fin.ext (Nat.div_add_mod' d.val 512)]

/-- The blocks of the two directions, the gate and the gain at a place. -/
theorem blk0 (t : Fin cfg0.N) (ht : t.val < 68) (i : Fin 256) (d : Fin 4096) :
    (View.ld (iblk m c 0 t) r0_0 : Vec Ideal S1x256x4096 .bf16) (ix3 0 i d)
      = (m ((c.tc : Thread nD τ).loc main_arg0) : FVec Ideal S4x4352x4096 .f32)
        (ix3 ⟨t.val / 17, by omega⟩ ⟨256 * (t.val % 17) + i.val, by omega⟩ d) := by
  pointwise
  blk_point [iblk, idx t]

/-- The second direction's block. -/
theorem blk1 (t : Fin cfg0.N) (ht : t.val < 68) (i : Fin 256) (d : Fin 4096) :
    (View.ld (iblk m c 1 t) r0_0 : Vec Ideal S1x256x4096 .bf16) (ix3 0 i d)
      = (m ((c.tc : Thread nD τ).loc main_arg1) : FVec Ideal S4x4352x4096 .f32)
        (ix3 ⟨t.val / 17, by omega⟩ ⟨256 * (t.val % 17) + i.val, by omega⟩ d) := by
  pointwise
  blk_point [iblk, idx t]

/-- The gate's block: the last third of its array. -/
theorem blk2 (t : Fin cfg0.N) (ht : t.val < 68) (i : Fin 256) (d : Fin 4096) :
    (View.ld (iblk m c 2 t) r0_0 : Vec Ideal S1x256x4096 .bf16) (ix3 0 i d)
      = (m ((c.tc : Thread nD τ).loc main_arg2) : FVec Ideal S4x4352x12288 .f32)
        (ix3 ⟨t.val / 17, by omega⟩ ⟨256 * (t.val % 17) + i.val, by omega⟩ ⟨8192 + d.val, by omega⟩) := by
  pointwise
  blk_point [iblk, idx t]

/-- The gain's block. -/
theorem blk3 (t : Fin cfg0.N) (j : Fin 512) : (View.ld (iblk m c 3 t) r0_1 : Vec Ideal S1x512 .f32) (ix2 0 j)
    = (m ((c.tc : Thread nD τ).loc main_arg3) : FVec Ideal S512 .f32) (ix1 j) := by
  pointwise
  blk_point [iblk, idx t]

/-- The blocks the kernel writes make up the reference's result. -/
theorem final : (dats m 0 c).arrAt 4 cfg0.N = Cert.GlaGateReferenceIdeal.Read.val_main_v19 (F := Ideal)
    (m ((c.tc : Thread nD τ).loc main_arg0)) (m ((c.tc : Thread nD τ).loc main_arg1))
    (m ((c.tc : Thread nD τ).loc main_arg2)) (m ((c.tc : Thread nD τ).loc main_arg3)) := by
  refine (dats m 0 c).arrAt_eq_of_covers 4 _ covered fun t _ y => ?_
  have ht : t.val < 68 := lt_of_lt_of_eq t.isLt (show cfg0.N = 68 from N_0)
  blk_simp
  rw [after0_4]
  unfold_out out0_4
  rw [canon4_eq]
  idx_vars y
  rw [show ((View.whole main_v4).slice (win0_4.rect t)).emb (ix3 y0 y1 y2)
      = (ix3 ⟨t.val / 17, by omega⟩ ⟨256 * (t.val % 17) + y1.val, by omega⟩ y2 : S4x4352x4096.Idx) by
    blk_ext [idx t]]
  refine (block_at _ _ _ _ _ _ _).trans (Eq.trans ?_ (ref_at _ _ _ _ _ _ _).symm)
  simp only [blk0 m c t ht, blk1 m c t ht, blk2 m c t ht, blk3 m c t]

/-- The reference runs, leaves its arguments as they were and every semaphore at zero. -/
theorem ref_frame : @Cert.quiescent_GlaGateReferenceIdeal Cert.GlaGateReferenceIdeal.Gen.facts :=
  fun m g _ => (θ_run _ _ _).mono (fun r h => ⟨fun c => (h c).2, Idealize.ShloMosaic.sem_eq_zero_of_no_sems (by decide) r.2⟩)
    (Cert.GlaGateReferenceIdeal.Value.run m g)

/-- The kernel and the reference end with the same result. -/
theorem same : @Cert.algebraic_GlaGateIdeal_GlaGateReferenceIdeal Cert.GlaGateIdeal.Gen.facts Cert.GlaGateReferenceIdeal.Gen.facts := by
  intro m g m' g' hpre hargs
  refine ⟨fun c => (dats m 0 c).arrAt 4 cfg0.N, run_blocks m g, ?_⟩
  refine (θ_run _ _ _).mono (fun r h c => ?_) (Cert.GlaGateReferenceIdeal.Value.run m' g')
  refine ⟨(h c).1.trans ((Cert.GlaGateReferenceIdeal.Read.val_main_v19_eq _ _ _ _).trans ?_), (h c).2⟩
  rw [(hargs c).1, (hargs c).2.1, (hargs c).2.2.1, (hargs c).2.2.2]
  exact (final m c).symm

end Cert.GlaGateIdeal.Value

end
-- ==== Proof.Proj.NormMod.lean ====
/- A sublayer's norm and modulation: the stream and the branch mixed, normed, and modulated for the next sublayer. -/
module

public import proofs.«01_k».proof.Defs
public import proofs.«01_k».proof.Proof.Gen.NormMod.Frame
public import proofs.«01_k».proof.Proof.Gen.NormModIdeal.Frame
public import proofs.«01_k».proof.Proof.Gen.NormModIdeal.Value
public import proofs.«01_k».proof.Proof.Gen.NormModReferenceIdeal.Run
public import proofs.«01_k».proof.Proof.Gen.NormModReferenceIdeal.Read
public import Idealize.ShloMosaic.Lib.Pointwise
public import Idealize.ShloMosaic.Lib.Pipeline.ValueKit
public import Idealize.ShloMosaic.Lib.Pipeline.Covers
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormModIdeal.Value

open Cert.NormModIdeal Cert.NormModIdeal.Gen

variable (m : (ℓ : Loc nD τ sig) → Buf (Elt Ideal) ℓ) (c : Dev nD)

/-- Which block of its array each window takes at a grid point. -/
theorem idx : ∀ t : Fin cfg0.N,
    win0_0.index t = ![t.val / 17, t.val % 17, 0] ∧ win0_1.index t = ![t.val / 17, t.val % 17, 0]
      ∧ win0_2.index t = ![t.val / 17, min (t.val % 17) 1, 0, 0] ∧ win0_3.index t = ![t.val / 17, min (t.val % 17) 1, 0, 0]
      ∧ win0_4.index t = ![t.val / 17, t.val % 17, 0] ∧ win0_5.index t = ![0, t.val] :=
  (by decide +kernel : ∀ t : Fin grid0.N, _)

/-- The blocks cover the normed stream. -/
theorem covered4 : (cfg0.win 4).Covers := by decide +kernel

/-- The blocks cover the modulated input of the next sublayer. -/
theorem covered5 : (cfg0.win 5).Covers := by decide +kernel

/-- The stream, scaled, and the branch through its gate. -/
def mixed (z y g : Fin 4096 → EReal) (d : Fin 4096) : EReal := Ideal.ofBits .f32 0x3FD744FD#32 * z d + g d * y d

/-- A row less its mean. -/
def centred (s : Fin 4096 → EReal) (d : Fin 4096) : EReal := s d - Ideal.div (∑ k, s k) (Ideal.ofBits .f32 0x45800000#32)

/-- A row less its mean, over the root of its variance. -/
def normed (s : Fin 4096 → EReal) (d : Fin 4096) : EReal :=
  centred s d * Ideal.rsqrt (Ideal.div (∑ k, centred s k * centred s k) (Ideal.ofBits .f32 0x45800000#32) + Ideal.ofBits .f32 0x358637BD#32)

/-- A row of a block, normed. -/
theorem pay2_at (P0 : Vec Ideal S1x256x4096 .f32) (P1 : Vec Ideal S1x256x4096 .bf16) (P2 : Vec Ideal S1x1x1x4096 .f32) (i : Fin 256)
    (d : Fin 4096) : (k0_pay2 P0 P1 P2 (ix2 i d) : EReal)
      = normed (mixed (fun k => P0 (ix3 0 i k)) (fun k => P1 (ix3 0 i k)) (fun k => P2 (ix4 0 0 0 k))) d := by
  pointwise [k0_pay2]
  simp only [normed, centred, mixed]

/-- A modulated element of a block. -/
theorem pay1_at (u : FVec Ideal S256x4096 .f32) (P Q : Vec Ideal S1x1x1x4096 .f32) (i : Fin 256) (d : Fin 4096) :
    (k0_pay1 u (k0_pay4 P) (Scalar.ofBits .f32 0x3F800000#32) Q (ix2 d i) : EReal)
      = u (ix2 i d) * (1 + P (ix4 0 0 0 d)) + Q (ix4 0 0 0 d) := by
  pointwise [k0_pay1, k0_pay4]

section reference

variable (z y : FVec Ideal S4x4352x4096 .f32) (w : FVec Ideal S4x2x6x4096 .f32)

/-- The context's rows, mixed. -/
theorem ctx_mixed (x : Fin 4) (r : Fin 256) (d : Fin 4096) : (Cert.NormModReferenceIdeal.Read.val_main_v11 (F := Ideal) z y w (ix3 x r d) : EReal)
    = mixed (fun k => z (ix3 x ⟨r.val, by omega⟩ k)) (fun k => y (ix3 x ⟨r.val, by omega⟩ k)) (fun k => w (ix4 x 0 2 k)) d := by
  pointwise [Cert.NormModReferenceIdeal.Read.val_main_v11, Cert.NormModReferenceIdeal.Read.val_main_v10, Cert.NormModReferenceIdeal.Read.val_main_v9, Cert.NormModReferenceIdeal.Read.val_main_v8, Cert.NormModReferenceIdeal.Read.val_main_v7, Cert.NormModReferenceIdeal.Read.val_main_v6, Cert.NormModReferenceIdeal.Read.val_main_v5, Cert.NormModReferenceIdeal.Read.val_main_v4, Cert.NormModReferenceIdeal.Read.val_main_v3, Cert.NormModReferenceIdeal.Read.val_main_v2, Cert.NormModReferenceIdeal.Read.val_main_v1, Cert.NormModReferenceIdeal.Read.val_main_v0, Cert.NormModReferenceIdeal.Read.val_main_cst]
  simp only [mixed]

/-- The context's rows, normed. -/
theorem ctx_normed (x : Fin 4) (r : Fin 256) (d : Fin 4096) : (Cert.NormModReferenceIdeal.Read.val_main_v27 (F := Ideal) z y w (ix3 x r d) : EReal)
    = normed (fun k => Cert.NormModReferenceIdeal.Read.val_main_v11 (F := Ideal) z y w (ix3 x r k)) d := by
  pointwise [Cert.NormModReferenceIdeal.Read.val_main_v27, Cert.NormModReferenceIdeal.Read.val_main_v26, Cert.NormModReferenceIdeal.Read.val_main_v25, Cert.NormModReferenceIdeal.Read.val_main_v24, Cert.NormModReferenceIdeal.Read.val_main_v23, Cert.NormModReferenceIdeal.Read.val_main_v22, Cert.NormModReferenceIdeal.Read.val_main_v21, Cert.NormModReferenceIdeal.Read.val_main_v20, Cert.NormModReferenceIdeal.Read.val_main_v19, Cert.NormModReferenceIdeal.Read.val_main_v18, Cert.NormModReferenceIdeal.Read.val_main_v17, Cert.NormModReferenceIdeal.Read.val_main_v16, Cert.NormModReferenceIdeal.Read.val_main_v15, Cert.NormModReferenceIdeal.Read.val_main_v14, Cert.NormModReferenceIdeal.Read.val_main_v13, Cert.NormModReferenceIdeal.Read.val_main_v12, Cert.NormModReferenceIdeal.Read.val_main_cst_0, Cert.NormModReferenceIdeal.Read.val_main_cst_1, Cert.NormModReferenceIdeal.Read.val_main_cst_2, Cert.NormModReferenceIdeal.Read.val_main_cst_3, Cert.NormModReferenceIdeal.Read.val_main_cst_4]
  simp only [normed, centred]

/-- The context's rows, modulated. -/
theorem ctx_modulated (x : Fin 4) (r : Fin 256) (d : Fin 4096) : (Cert.NormModReferenceIdeal.Read.val_main_v39 (F := Ideal) z y w (ix3 x r d) : EReal)
    = Cert.NormModReferenceIdeal.Read.val_main_v27 (F := Ideal) z y w (ix3 x r d) * (1 + w (ix4 x 0 4 d)) + w (ix4 x 0 3 d) := by
  pointwise [Cert.NormModReferenceIdeal.Read.val_main_v39, Cert.NormModReferenceIdeal.Read.val_main_v38, Cert.NormModReferenceIdeal.Read.val_main_v37, Cert.NormModReferenceIdeal.Read.val_main_v36, Cert.NormModReferenceIdeal.Read.val_main_v35, Cert.NormModReferenceIdeal.Read.val_main_v34, Cert.NormModReferenceIdeal.Read.val_main_v33, Cert.NormModReferenceIdeal.Read.val_main_v32, Cert.NormModReferenceIdeal.Read.val_main_v31, Cert.NormModReferenceIdeal.Read.val_main_v30, Cert.NormModReferenceIdeal.Read.val_main_v29, Cert.NormModReferenceIdeal.Read.val_main_v28, Cert.NormModReferenceIdeal.Read.val_main_v3, Cert.NormModReferenceIdeal.Read.val_main_v2, Cert.NormModReferenceIdeal.Read.val_main_cst_5]

/-- The latent's rows, mixed. -/
theorem lat_mixed (x : Fin 4) (r : Fin 4096) (d : Fin 4096) : (Cert.NormModReferenceIdeal.Read.val_main_v51 (F := Ideal) z y w (ix3 x r d) : EReal)
    = mixed (fun k => z (ix3 x ⟨256 + r.val, by omega⟩ k)) (fun k => y (ix3 x ⟨256 + r.val, by omega⟩ k)) (fun k => w (ix4 x 1 2 k)) d := by
  pointwise [Cert.NormModReferenceIdeal.Read.val_main_v51, Cert.NormModReferenceIdeal.Read.val_main_v50, Cert.NormModReferenceIdeal.Read.val_main_v49, Cert.NormModReferenceIdeal.Read.val_main_v48, Cert.NormModReferenceIdeal.Read.val_main_v47, Cert.NormModReferenceIdeal.Read.val_main_v46, Cert.NormModReferenceIdeal.Read.val_main_v45, Cert.NormModReferenceIdeal.Read.val_main_v44, Cert.NormModReferenceIdeal.Read.val_main_v43, Cert.NormModReferenceIdeal.Read.val_main_v42, Cert.NormModReferenceIdeal.Read.val_main_v41, Cert.NormModReferenceIdeal.Read.val_main_v40, Cert.NormModReferenceIdeal.Read.val_main_cst_6]
  simp only [mixed]

/-- The latent's rows, normed. -/
theorem lat_normed (x : Fin 4) (r : Fin 4096) (d : Fin 4096) : (Cert.NormModReferenceIdeal.Read.val_main_v67 (F := Ideal) z y w (ix3 x r d) : EReal)
    = normed (fun k => Cert.NormModReferenceIdeal.Read.val_main_v51 (F := Ideal) z y w (ix3 x r k)) d := by
  pointwise [Cert.NormModReferenceIdeal.Read.val_main_v67, Cert.NormModReferenceIdeal.Read.val_main_v66, Cert.NormModReferenceIdeal.Read.val_main_v65, Cert.NormModReferenceIdeal.Read.val_main_v64, Cert.NormModReferenceIdeal.Read.val_main_v63, Cert.NormModReferenceIdeal.Read.val_main_v62, Cert.NormModReferenceIdeal.Read.val_main_v61, Cert.NormModReferenceIdeal.Read.val_main_v60, Cert.NormModReferenceIdeal.Read.val_main_v59, Cert.NormModReferenceIdeal.Read.val_main_v58, Cert.NormModReferenceIdeal.Read.val_main_v57, Cert.NormModReferenceIdeal.Read.val_main_v56, Cert.NormModReferenceIdeal.Read.val_main_v55, Cert.NormModReferenceIdeal.Read.val_main_v54, Cert.NormModReferenceIdeal.Read.val_main_v53, Cert.NormModReferenceIdeal.Read.val_main_v52, Cert.NormModReferenceIdeal.Read.val_main_cst_7, Cert.NormModReferenceIdeal.Read.val_main_cst_8, Cert.NormModReferenceIdeal.Read.val_main_cst_9, Cert.NormModReferenceIdeal.Read.val_main_cst_10, Cert.NormModReferenceIdeal.Read.val_main_cst_11]
  simp only [normed, centred]

/-- The latent's rows, modulated. -/
theorem lat_modulated (x : Fin 4) (r : Fin 4096) (d : Fin 4096) : (Cert.NormModReferenceIdeal.Read.val_main_v79 (F := Ideal) z y w (ix3 x r d) : EReal)
    = Cert.NormModReferenceIdeal.Read.val_main_v67 (F := Ideal) z y w (ix3 x r d) * (1 + w (ix4 x 1 4 d)) + w (ix4 x 1 3 d) := by
  pointwise [Cert.NormModReferenceIdeal.Read.val_main_v79, Cert.NormModReferenceIdeal.Read.val_main_v78, Cert.NormModReferenceIdeal.Read.val_main_v77, Cert.NormModReferenceIdeal.Read.val_main_v76, Cert.NormModReferenceIdeal.Read.val_main_v75, Cert.NormModReferenceIdeal.Read.val_main_v74, Cert.NormModReferenceIdeal.Read.val_main_v73, Cert.NormModReferenceIdeal.Read.val_main_v72, Cert.NormModReferenceIdeal.Read.val_main_v71, Cert.NormModReferenceIdeal.Read.val_main_v70, Cert.NormModReferenceIdeal.Read.val_main_v69, Cert.NormModReferenceIdeal.Read.val_main_v68, Cert.NormModReferenceIdeal.Read.val_main_v43, Cert.NormModReferenceIdeal.Read.val_main_v42, Cert.NormModReferenceIdeal.Read.val_main_cst_12]

/-- Which of the two streams' modulations a row takes. -/
def seg (r : ℕ) : Fin 2 := ⟨min (r / 256) 1, by omega⟩

/-- The normed stream at a place. -/
theorem ref_normed (x : Fin 4) (r : Fin 4352) (d : Fin 4096) : (Cert.NormModReferenceIdeal.Read.val_main_v81 (F := Ideal) z y w (ix3 x r d) : EReal)
    = normed (mixed (fun k => z (ix3 x r k)) (fun k => y (ix3 x r k)) (fun k => w (ix4 x (seg r.val) 2 k))) d := by
  pointwise [Cert.NormModReferenceIdeal.Read.val_main_v81]
  by_cases h : r.val < 256
  · rw [dif_pos h, ctx_normed]
    simp only [ctx_mixed]
    rw [show seg r.val = 0 from Fin.ext (by show min (r.val / 256) 1 = 0; omega)]
  · rw [dif_neg h, lat_normed]
    simp only [lat_mixed]
    rw [show seg r.val = 1 from Fin.ext (by show min (r.val / 256) 1 = 1; omega)]
    have e (h') : (⟨256 + (r.val - 256), h'⟩ : Fin 4352) = r := Fin.ext (by show 256 + (r.val - 256) = r.val; omega)
    simp only [e]

/-- The next sublayer's input at a place. -/
theorem ref_modulated (n : Fin 17408) (d : Fin 4096) : (Cert.NormModReferenceIdeal.Read.val_main_v84 (F := Ideal) z y w (ix2 d n) : EReal)
    = Cert.NormModReferenceIdeal.Read.val_main_v81 (F := Ideal) z y w (ix3 ⟨n.val / 4352, by omega⟩ ⟨n.val % 4352, by omega⟩ d)
        * (1 + w (ix4 ⟨n.val / 4352, by omega⟩ (seg (n.val % 4352)) 4 d)) + w (ix4 ⟨n.val / 4352, by omega⟩ (seg (n.val % 4352)) 3 d) := by
  pointwise [Cert.NormModReferenceIdeal.Read.val_main_v84, Cert.NormModReferenceIdeal.Read.val_main_v83, Cert.NormModReferenceIdeal.Read.val_main_v82, Cert.NormModReferenceIdeal.Read.val_main_v81, Cert.NormModReferenceIdeal.Read.val_main_v80]
  by_cases h : n.val % 4352 < 256
  · rw [dif_pos h, dif_pos h, ctx_modulated]
    rw [show seg (n.val % 4352) = 0 from Fin.ext (by show min (n.val % 4352 / 256) 1 = 0; omega)]
  · rw [dif_neg h, dif_neg h, lat_modulated]
    rw [show seg (n.val % 4352) = 1 from Fin.ext (by show min (n.val % 4352 / 256) 1 = 1; omega)]

end reference

/-- The stream's block at a place. -/
theorem blk0 (t : Fin cfg0.N) (ht : t.val < 68) (i : Fin 256) (d : Fin 4096) :
    (iblk m c 0 t : Vec Ideal S1x256x4096 .f32) (ix3 0 i d)
      = (m ((c.tc : Thread nD τ).loc main_arg0) : FVec Ideal S4x4352x4096 .f32)
        (ix3 ⟨t.val / 17, by omega⟩ ⟨256 * (t.val % 17) + i.val, by omega⟩ d) := by
  pointwise
  blk_point [iblk, idx t]

/-- The branch's block at a place. -/
theorem blk1 (t : Fin cfg0.N) (ht : t.val < 68) (i : Fin 256) (d : Fin 4096) :
    (iblk m c 1 t : Vec Ideal S1x256x4096 .bf16) (ix3 0 i d)
      = (m ((c.tc : Thread nD τ).loc main_arg1) : FVec Ideal S4x4352x4096 .f32)
        (ix3 ⟨t.val / 17, by omega⟩ ⟨256 * (t.val % 17) + i.val, by omega⟩ d) := by
  pointwise
  blk_point [iblk, idx t]

/-- The gate's block at a place. -/
theorem blk2 (t : Fin cfg0.N) (ht : t.val < 68) (i : Fin 256) (k : Fin 4096) :
    (View.ld (iblk m c 2 t) r0_1 : Vec Ideal S1x1x1x4096 .f32) (ix4 0 0 0 k)
      = (m ((c.tc : Thread nD τ).loc main_arg2) : FVec Ideal S4x2x6x4096 .f32)
        (ix4 ⟨t.val / 17, by omega⟩ (seg (256 * (t.val % 17) + i.val)) 2 k) := by
  rw [show seg (256 * (t.val % 17) + i.val) = ⟨min (t.val % 17) 1, by omega⟩ from
    Fin.ext (by show min ((256 * (t.val % 17) + i.val) / 256) 1 = min (t.val % 17) 1; omega)]
  pointwise
  blk_point [iblk, idx t]

/-- The scale's block at a place. -/
theorem blk3 (t : Fin cfg0.N) (ht : t.val < 68) (i : Fin 256) (k : Fin 4096) :
    (View.ld (iblk m c 3 t) r0_2 : Vec Ideal S1x1x1x4096 .f32) (ix4 0 0 0 k)
      = (m ((c.tc : Thread nD τ).loc main_arg2) : FVec Ideal S4x2x6x4096 .f32)
        (ix4 ⟨t.val / 17, by omega⟩ (seg (256 * (t.val % 17) + i.val)) 4 k) := by
  rw [show seg (256 * (t.val % 17) + i.val) = ⟨min (t.val % 17) 1, by omega⟩ from
    Fin.ext (by show min ((256 * (t.val % 17) + i.val) / 256) 1 = min (t.val % 17) 1; omega)]
  pointwise
  blk_point [iblk, idx t]

/-- The shift's block at a place. -/
theorem blk3' (t : Fin cfg0.N) (ht : t.val < 68) (i : Fin 256) (k : Fin 4096) :
    (View.ld (iblk m c 3 t) r0_3 : Vec Ideal S1x1x1x4096 .f32) (ix4 0 0 0 k)
      = (m ((c.tc : Thread nD τ).loc main_arg2) : FVec Ideal S4x2x6x4096 .f32)
        (ix4 ⟨t.val / 17, by omega⟩ (seg (256 * (t.val % 17) + i.val)) 3 k) := by
  rw [show seg (256 * (t.val % 17) + i.val) = ⟨min (t.val % 17) 1, by omega⟩ from
    Fin.ext (by show min ((256 * (t.val % 17) + i.val) / 256) 1 = min (t.val % 17) 1; omega)]
  pointwise
  blk_point [iblk, idx t]

/-- A block's normed rows are the reference's. -/
theorem norm_block (t : Fin cfg0.N) (ht : t.val < 68) (i : Fin 256) (d : Fin 4096) :
    (k0_pay2 (iblk m c 0 t) (iblk m c 1 t) (View.ld (iblk m c 2 t) r0_1) (ix2 i d) : EReal)
      = Cert.NormModReferenceIdeal.Read.val_main_v81 (F := Ideal) (m ((c.tc : Thread nD τ).loc main_arg0)) (m ((c.tc : Thread nD τ).loc main_arg1))
        (m ((c.tc : Thread nD τ).loc main_arg2)) (ix3 ⟨t.val / 17, by omega⟩ ⟨256 * (t.val % 17) + i.val, by omega⟩ d) := by
  refine (pay2_at _ _ _ _ _).trans (Eq.trans ?_ (ref_normed _ _ _ _ _ _).symm)
  simp only [blk0 m c t ht, blk1 m c t ht, blk2 m c t ht i]

/-- The blocks the kernel writes make up the normed stream. -/
theorem final4 : (dats m 0 c).arrAt 4 cfg0.N = Cert.NormModReferenceIdeal.Read.val_main_v81 (F := Ideal) (m ((c.tc : Thread nD τ).loc main_arg0))
    (m ((c.tc : Thread nD τ).loc main_arg1)) (m ((c.tc : Thread nD τ).loc main_arg2)) := by
  refine (dats m 0 c).arrAt_eq_of_covers 4 _ covered4 fun t _ y => ?_
  have ht : t.val < 68 := lt_of_lt_of_eq t.isLt (show cfg0.N = 68 from N_0)
  blk_simp
  rw [after0_4]
  frame_out
  idx_vars y
  rw [show ((View.whole main_v1_0).slice (win0_4.rect t)).emb (ix3 y0 y1 y2)
      = (ix3 ⟨t.val / 17, by omega⟩ ⟨256 * (t.val % 17) + y1.val, by omega⟩ y2 : S4x4352x4096.Idx) by
    blk_ext [idx t]]
  refine Eq.trans ?_ (norm_block m c t ht y1 y2)
  pointwise [k0_pay3]
  rfl

/-- The blocks the kernel writes make up the next sublayer's input. -/
theorem final5 : (dats m 0 c).arrAt 5 cfg0.N = Cert.NormModReferenceIdeal.Read.val_main_v84 (F := Ideal) (m ((c.tc : Thread nD τ).loc main_arg0))
    (m ((c.tc : Thread nD τ).loc main_arg1)) (m ((c.tc : Thread nD τ).loc main_arg2)) := by
  refine (dats m 0 c).arrAt_eq_of_covers 5 _ covered5 fun t _ y => ?_
  have ht : t.val < 68 := lt_of_lt_of_eq t.isLt (show cfg0.N = 68 from N_0)
  blk_simp
  rw [after0_5]
  frame_out
  idx_vars y
  rw [show ((View.whole main_v1_1).slice (win0_5.rect t)).emb (ix2 y0 y1)
      = (ix2 y0 ⟨256 * t.val + y1.val, by omega⟩ : S4096x17408.Idx) by
    blk_ext [idx t]]
  refine (pay1_at _ _ _ _ _).trans (Eq.trans ?_ (ref_modulated _ _ _ _ _).symm)
  dsimp only
  rw [show (⟨(256 * t.val + y1.val) / 4352, by omega⟩ : Fin 4) = ⟨t.val / 17, by omega⟩ from
      Fin.ext (by show (256 * t.val + y1.val) / 4352 = t.val / 17; omega),
    show (⟨(256 * t.val + y1.val) % 4352, by omega⟩ : Fin 4352) = ⟨256 * (t.val % 17) + y1.val, by omega⟩ from
      Fin.ext (by show (256 * t.val + y1.val) % 4352 = 256 * (t.val % 17) + y1.val; omega),
    show (256 * t.val + y1.val) % 4352 = 256 * (t.val % 17) + y1.val by omega]
  exact congrArg₂ (fun a b : EReal => a + b)
    (congrArg₂ (fun a b : EReal => a * b) (norm_block m c t ht y1 y0) (congrArg (fun a : EReal => 1 + a) (blk3 m c t ht y1 y0)))
    (blk3' m c t ht y1 y0)

/-- The reference runs, leaves its arguments as they were and every semaphore at zero. -/
theorem ref_frame : @Cert.quiescent_NormModReferenceIdeal Cert.NormModReferenceIdeal.Gen.facts :=
  fun m g _ => (θ_run _ _ _).mono (fun r h => ⟨fun c => (h c).2.2, Idealize.ShloMosaic.sem_eq_zero_of_no_sems (by decide) r.2⟩)
    (Cert.NormModReferenceIdeal.Value.run m g)

/-- The kernel and the reference end with the same results. -/
theorem same : @Cert.algebraic_NormModIdeal_NormModReferenceIdeal Cert.NormModIdeal.Gen.facts Cert.NormModReferenceIdeal.Gen.facts := by
  intro m g m' g' hpre hargs
  refine ⟨fun c => (dats m 0 c).arrAt 4 cfg0.N, fun c => (dats m 0 c).arrAt 5 cfg0.N, run_blocks m g, ?_⟩
  refine (θ_run _ _ _).mono (fun r h c => ?_) (Cert.NormModReferenceIdeal.Value.run m' g')
  refine ⟨(h c).1.trans ((Cert.NormModReferenceIdeal.Read.val_main_v81_eq _ _).trans ?_),
    (h c).2.1.trans ((Cert.NormModReferenceIdeal.Read.val_main_v84_eq _ _).trans ?_), (h c).2.2⟩
  · rw [(hargs c).1, (hargs c).2.1, (hargs c).2.2]
    exact (final4 m c).symm
  · rw [(hargs c).1, (hargs c).2.1, (hargs c).2.2]
    exact (final5 m c).symm

end Cert.NormModIdeal.Value

end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Attn.Result
public import proofs.«01_k».proof.Proof.Proj.GlaIn
public import proofs.«01_k».proof.Proof.Proj.Square
public import proofs.«01_k».proof.Proof.Proj.RwkvK
public import proofs.«01_k».proof.Proof.Proj.MlaKv
public import proofs.«01_k».proof.Proof.Proj.PeerQ
public import proofs.«01_k».proof.Proof.Proj.MlaIn
public import proofs.«01_k».proof.Proof.Proj.MlaUq
public import proofs.«01_k».proof.Proof.Proj.RwkvLow
public import proofs.«01_k».proof.Proof.Proj.GlaGate
public import proofs.«01_k».proof.Proof.Proj.NormMod
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Where the arguments are real, the kernel and the reference end with the same result. -/
theorem same : @Cert.algebraic_KernelIdeal_ReferenceIdeal_pre_scores_finite Cert.KernelIdeal.Gen.facts Cert.ReferenceIdeal.Gen.facts
    Cert.Pre_scores_finite.facts := by
  intro m g m' g' hpre hargs
  refine ⟨fun c => (Cert.KernelIdeal.Gen.dats m 0 c).arrAt 6 Cert.KernelIdeal.cfg0.N, ?_, ?_⟩
  · exact Cert.KernelIdeal.Value.run_blocks m g
  · refine (θ_run _ _ _).mono (fun r h c => ?_) (Cert.ReferenceIdeal.Value.run m' g')
    refine ⟨(h c).1.trans ((Cert.ReferenceIdeal.Read.val_main_v131_eq m' c).trans ?_), (h c).2⟩
    rw [(hargs c).1, (hargs c).2.1, (hargs c).2.2]
    exact (Cert.KernelIdeal.Value.result m c (hpre c)).symm

/-- The reference runs, leaves its arguments as they were and every semaphore at zero. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0 :=
  (θ_run _ _ _).mono (fun r h => ⟨fun c => (h c).2, Idealize.ShloMosaic.sem_eq_zero_of_no_sems (by decide) r.2⟩)
    (Cert.ReferenceIdeal.Value.run m g)

/-- Everything claimed. -/
theorem claim : Cert.Claim := ⟨Cert.Kernel.Gen.facts, Cert.KernelIdeal.Gen.facts, Cert.ReferenceIdeal.Gen.facts,
  Cert.GlaIn.Gen.facts, Cert.GlaInIdeal.Gen.facts, Cert.GlaInReferenceIdeal.Gen.facts,
  Cert.Square.Gen.facts, Cert.SquareIdeal.Gen.facts, Cert.SquareReferenceIdeal.Gen.facts,
  Cert.RwkvK.Gen.facts, Cert.RwkvKIdeal.Gen.facts, Cert.RwkvKReferenceIdeal.Gen.facts,
  Cert.MlaKv.Gen.facts, Cert.MlaKvIdeal.Gen.facts, Cert.MlaKvReferenceIdeal.Gen.facts,
  Cert.PeerQ.Gen.facts, Cert.PeerQIdeal.Gen.facts, Cert.PeerQReferenceIdeal.Gen.facts,
  Cert.MlaIn.Gen.facts, Cert.MlaInIdeal.Gen.facts, Cert.MlaInReferenceIdeal.Gen.facts,
  Cert.MlaUq.Gen.facts, Cert.MlaUqIdeal.Gen.facts, Cert.MlaUqReferenceIdeal.Gen.facts,
  Cert.RwkvLow.Gen.facts, Cert.RwkvLowIdeal.Gen.facts, Cert.RwkvLowReferenceIdeal.Gen.facts,
  Cert.GlaGate.Gen.facts, Cert.GlaGateIdeal.Gen.facts, Cert.GlaGateReferenceIdeal.Gen.facts,
  Cert.NormMod.Gen.facts, Cert.NormModIdeal.Gen.facts, Cert.NormModReferenceIdeal.Gen.facts,
  Cert.Pre_scores_finite.facts,
  fun m g _ => Cert.Kernel.Gen.frame m g, fun m g _ => Cert.KernelIdeal.Gen.frame m g, fun m g _ => Cert.KernelIdeal.Gen.frame m g,
  fun m g _ => ref_frame m g, fun m g _ => ref_frame m g,
  fun m g _ => Cert.GlaIn.Gen.frame m g, fun m g _ => Cert.GlaInIdeal.Gen.frame m g, Cert.GlaInIdeal.Value.ref_frame,
  fun m g _ => Cert.Square.Gen.frame m g, fun m g _ => Cert.SquareIdeal.Gen.frame m g, Cert.SquareIdeal.Value.ref_frame,
  fun m g _ => Cert.RwkvK.Gen.frame m g, fun m g _ => Cert.RwkvKIdeal.Gen.frame m g, Cert.RwkvKIdeal.Value.ref_frame,
  fun m g _ => Cert.MlaKv.Gen.frame m g, fun m g _ => Cert.MlaKvIdeal.Gen.frame m g, Cert.MlaKvIdeal.Value.ref_frame,
  fun m g _ => Cert.PeerQ.Gen.frame m g, fun m g _ => Cert.PeerQIdeal.Gen.frame m g, Cert.PeerQIdeal.Value.ref_frame,
  fun m g _ => Cert.MlaIn.Gen.frame m g, fun m g _ => Cert.MlaInIdeal.Gen.frame m g, Cert.MlaInIdeal.Value.ref_frame,
  fun m g _ => Cert.MlaUq.Gen.frame m g, fun m g _ => Cert.MlaUqIdeal.Gen.frame m g, Cert.MlaUqIdeal.Value.ref_frame,
  fun m g _ => Cert.RwkvLow.Gen.frame m g, fun m g _ => Cert.RwkvLowIdeal.Gen.frame m g, Cert.RwkvLowIdeal.Value.ref_frame,
  fun m g _ => Cert.GlaGate.Gen.frame m g, fun m g _ => Cert.GlaGateIdeal.Gen.frame m g, Cert.GlaGateIdeal.Value.ref_frame,
  fun m g _ => Cert.NormMod.Gen.frame m g, fun m g _ => Cert.NormModIdeal.Gen.frame m g, Cert.NormModIdeal.Value.ref_frame,
  IdealRules.named_const.statement Cert.KernelIdeal.κ "qscale" .f32 0x3DD53B95#32 _ (by simp [Cert.KernelIdeal.κ]), same,
  trivial, Cert.GlaInIdeal.Value.same,
  trivial, Cert.SquareIdeal.Value.same,
  trivial, Cert.RwkvKIdeal.Value.same,
  trivial, Cert.MlaKvIdeal.Value.same,
  trivial, Cert.PeerQIdeal.Value.same,
  trivial, Cert.MlaInIdeal.Value.same,
  trivial, Cert.MlaUqIdeal.Value.same,
  trivial, Cert.RwkvLowIdeal.Value.same,
  trivial, Cert.GlaGateIdeal.Value.same,
  trivial, Cert.NormModIdeal.Value.same⟩

end Cert.Proof

end
